-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_setup_image [hPre_setup_image : Cert.Pre_setup_image.Facts] (m : (ℓ : Loc Cert.KernelIdeal.nD Cert.KernelIdeal.τ Cert.KernelIdeal.sig) → Buf (Elt Ideal) ℓ) : Prop :=
  ∀ c : Dev Cert.KernelIdeal.nD,
    (Cert.Pre_setup_image.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_setup_image [hPre_setup_image : Cert.Pre_setup_image.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_setup_image.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Select (m : (ℓ : Loc Cert.Select.nD Cert.Select.τ Cert.Select.sig) → Buf (Elt Bits) ℓ) : Prop :=
  True

def Pre_SelectIdeal (m : (ℓ : Loc Cert.SelectIdeal.nD Cert.SelectIdeal.τ Cert.SelectIdeal.sig) → Buf (Elt Ideal) ℓ) : Prop :=
  True

def Pre_SelectIdeal_scored [hPre_scored : Cert.Pre_scored.Facts] (m : (ℓ : Loc Cert.SelectIdeal.nD Cert.SelectIdeal.τ Cert.SelectIdeal.sig) → Buf (Elt Ideal) ℓ) : Prop :=
  ∀ c : Dev Cert.SelectIdeal.nD,
    (Cert.Pre_scored.fn (F := Ideal) (m ((c.tc : Thread Cert.SelectIdeal.nD Cert.SelectIdeal.τ).loc Cert.SelectIdeal.main_arg0)) (m ((c.tc : Thread Cert.SelectIdeal.nD Cert.SelectIdeal.τ).loc Cert.SelectIdeal.main_arg1)) (m ((c.tc : Thread Cert.SelectIdeal.nD Cert.SelectIdeal.τ).loc Cert.SelectIdeal.main_arg2)) (m ((c.tc : Thread Cert.SelectIdeal.nD Cert.SelectIdeal.τ).loc Cert.SelectIdeal.main_arg3)) (m ((c.tc : Thread Cert.SelectIdeal.nD Cert.SelectIdeal.τ).loc Cert.SelectIdeal.main_arg4))) = (fun _ => 1#1)

def Pre_SelectReferenceIdeal (m : (ℓ : Loc Cert.SelectReferenceIdeal.nD Cert.SelectReferenceIdeal.τ Cert.SelectReferenceIdeal.sig) → Buf (Elt Ideal) ℓ) : Prop :=
  True

def Pre_SelectReferenceIdeal_scored [hPre_scored : Cert.Pre_scored.Facts] (m : (ℓ : Loc Cert.SelectReferenceIdeal.nD Cert.SelectReferenceIdeal.τ Cert.SelectReferenceIdeal.sig) → Buf (Elt Ideal) ℓ) : Prop :=
  ∀ c : Dev Cert.SelectReferenceIdeal.nD,
    (Cert.Pre_scored.fn (F := Ideal) (m ((c.tc : Thread Cert.SelectReferenceIdeal.nD Cert.SelectReferenceIdeal.τ).loc Cert.SelectReferenceIdeal.main_arg0)) (m ((c.tc : Thread Cert.SelectReferenceIdeal.nD Cert.SelectReferenceIdeal.τ).loc Cert.SelectReferenceIdeal.main_arg1)) (m ((c.tc : Thread Cert.SelectReferenceIdeal.nD Cert.SelectReferenceIdeal.τ).loc Cert.SelectReferenceIdeal.main_arg2)) (m ((c.tc : Thread Cert.SelectReferenceIdeal.nD Cert.SelectReferenceIdeal.τ).loc Cert.SelectReferenceIdeal.main_arg3)) (m ((c.tc : Thread Cert.SelectReferenceIdeal.nD Cert.SelectReferenceIdeal.τ).loc Cert.SelectReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_setup_image [hKernelIdeal : Cert.KernelIdeal.Facts] [hPre_setup_image : Cert.Pre_setup_image.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_setup_image m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_setup_image [hReferenceIdeal : Cert.ReferenceIdeal.Facts] [hPre_setup_image : Cert.Pre_setup_image.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_setup_image m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Select [hSelect : Cert.Select.Facts] : Prop :=
  ∀ (m : (ℓ : Loc Cert.Select.nD Cert.Select.τ Cert.Select.sig) → Buf (Elt Bits) ℓ) (g : Dev Cert.Select.nD → PrngReg), Pre_Select m →
    θ_run (Cert.Select.defs (F := Bits)) (onTc (τ := Cert.Select.τ) (Cert.Select.main (F := Bits))) ⟨m, fun _ => 0, g⟩ (fun r => (∀ c : Dev Cert.Select.nD,
      r.2.mem ((c.tc : Thread Cert.Select.nD Cert.Select.τ).loc Cert.Select.main_arg0) = m ((c.tc : Thread Cert.Select.nD Cert.Select.τ).loc Cert.Select.main_arg0)
      ∧ r.2.mem ((c.tc : Thread Cert.Select.nD Cert.Select.τ).loc Cert.Select.main_arg1) = m ((c.tc : Thread Cert.Select.nD Cert.Select.τ).loc Cert.Select.main_arg1)
      ∧ r.2.mem ((c.tc : Thread Cert.Select.nD Cert.Select.τ).loc Cert.Select.main_arg2) = m ((c.tc : Thread Cert.Select.nD Cert.Select.τ).loc Cert.Select.main_arg2)
      ∧ r.2.mem ((c.tc : Thread Cert.Select.nD Cert.Select.τ).loc Cert.Select.main_arg3) = m ((c.tc : Thread Cert.Select.nD Cert.Select.τ).loc Cert.Select.main_arg3)
      ∧ r.2.mem ((c.tc : Thread Cert.Select.nD Cert.Select.τ).loc Cert.Select.main_arg4) = m ((c.tc : Thread Cert.Select.nD Cert.Select.τ).loc Cert.Select.main_arg4))
      ∧ r.2.sem = fun _ => 0)

def quiescent_SelectIdeal [hSelectIdeal : Cert.SelectIdeal.Facts] : Prop :=
  ∀ (m : (ℓ : Loc Cert.SelectIdeal.nD Cert.SelectIdeal.τ Cert.SelectIdeal.sig) → Buf (Elt Ideal) ℓ) (g : Dev Cert.SelectIdeal.nD → PrngReg), Pre_SelectIdeal m →
    θ_run (Cert.SelectIdeal.defs (F := Ideal)) (onTc (τ := Cert.SelectIdeal.τ) (Cert.SelectIdeal.main (F := Ideal))) ⟨m, fun _ => 0, g⟩ (fun r => (∀ c : Dev Cert.SelectIdeal.nD,
      r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0)
      ∧ r.2.mem ((c.tc : Thread Cert.SelectIdeal.nD Cert.SelectIdeal.τ).loc Cert.SelectIdeal.main_arg1) = m ((c.tc : Thread Cert.SelectIdeal.nD Cert.SelectIdeal.τ).loc Cert.SelectIdeal.main_arg1)
      ∧ r.2.mem ((c.tc : Thread Cert.SelectIdeal.nD Cert.SelectIdeal.τ).loc Cert.SelectIdeal.main_arg2) = m ((c.tc : Thread Cert.SelectIdeal.nD Cert.SelectIdeal.τ).loc Cert.SelectIdeal.main_arg2)
      ∧ r.2.mem ((c.tc : Thread Cert.SelectIdeal.nD Cert.SelectIdeal.τ).loc Cert.SelectIdeal.main_arg3) = m ((c.tc : Thread Cert.SelectIdeal.nD Cert.SelectIdeal.τ).loc Cert.SelectIdeal.main_arg3)
      ∧ r.2.mem ((c.tc : Thread Cert.SelectIdeal.nD Cert.SelectIdeal.τ).loc Cert.SelectIdeal.main_arg4) = m ((c.tc : Thread Cert.SelectIdeal.nD Cert.SelectIdeal.τ).loc Cert.SelectIdeal.main_arg4))
      ∧ r.2.sem = fun _ => 0)

def quiescent_SelectIdeal_pre_scored [hSelectIdeal : Cert.SelectIdeal.Facts] [hPre_scored : Cert.Pre_scored.Facts] : Prop :=
  ∀ (m : (ℓ : Loc Cert.SelectIdeal.nD Cert.SelectIdeal.τ Cert.SelectIdeal.sig) → Buf (Elt Ideal) ℓ) (g : Dev Cert.SelectIdeal.nD → PrngReg), Pre_SelectIdeal_scored m →
    θ_run (Cert.SelectIdeal.defs (F := Ideal)) (onTc (τ := Cert.SelectIdeal.τ) (Cert.SelectIdeal.main (F := Ideal))) ⟨m, fun _ => 0, g⟩ (fun r => (∀ c : Dev Cert.SelectIdeal.nD,
      r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0)
      ∧ r.2.mem ((c.tc : Thread Cert.SelectIdeal.nD Cert.SelectIdeal.τ).loc Cert.SelectIdeal.main_arg1) = m ((c.tc : Thread Cert.SelectIdeal.nD Cert.SelectIdeal.τ).loc Cert.SelectIdeal.main_arg1)
      ∧ r.2.mem ((c.tc : Thread Cert.SelectIdeal.nD Cert.SelectIdeal.τ).loc Cert.SelectIdeal.main_arg2) = m ((c.tc : Thread Cert.SelectIdeal.nD Cert.SelectIdeal.τ).loc Cert.SelectIdeal.main_arg2)
      ∧ r.2.mem ((c.tc : Thread Cert.SelectIdeal.nD Cert.SelectIdeal.τ).loc Cert.SelectIdeal.main_arg3) = m ((c.tc : Thread Cert.SelectIdeal.nD Cert.SelectIdeal.τ).loc Cert.SelectIdeal.main_arg3)
      ∧ r.2.mem ((c.tc : Thread Cert.SelectIdeal.nD Cert.SelectIdeal.τ).loc Cert.SelectIdeal.main_arg4) = m ((c.tc : Thread Cert.SelectIdeal.nD Cert.SelectIdeal.τ).loc Cert.SelectIdeal.main_arg4))
      ∧ r.2.sem = fun _ => 0)

def quiescent_SelectReferenceIdeal [hSelectReferenceIdeal : Cert.SelectReferenceIdeal.Facts] : Prop :=
  ∀ (m : (ℓ : Loc Cert.SelectReferenceIdeal.nD Cert.SelectReferenceIdeal.τ Cert.SelectReferenceIdeal.sig) → Buf (Elt Ideal) ℓ) (g : Dev Cert.SelectReferenceIdeal.nD → PrngReg), Pre_SelectReferenceIdeal m →
    θ_run (Cert.SelectReferenceIdeal.defs (F := Ideal)) (onTc (τ := Cert.SelectReferenceIdeal.τ) (Cert.SelectReferenceIdeal.main (F := Ideal))) ⟨m, fun _ => 0, g⟩ (fun r => (∀ c : Dev Cert.SelectReferenceIdeal.nD,
      r.2.mem ((c.tc : Thread Cert.SelectReferenceIdeal.nD Cert.SelectReferenceIdeal.τ).loc Cert.SelectReferenceIdeal.main_arg0) = m ((c.tc : Thread Cert.SelectReferenceIdeal.nD Cert.SelectReferenceIdeal.τ).loc Cert.SelectReferenceIdeal.main_arg0)
      ∧ r.2.mem ((c.tc : Thread Cert.SelectReferenceIdeal.nD Cert.SelectReferenceIdeal.τ).loc Cert.SelectReferenceIdeal.main_arg1) = m ((c.tc : Thread Cert.SelectReferenceIdeal.nD Cert.SelectReferenceIdeal.τ).loc Cert.SelectReferenceIdeal.main_arg1)
      ∧ r.2.mem ((c.tc : Thread Cert.SelectReferenceIdeal.nD Cert.SelectReferenceIdeal.τ).loc Cert.SelectReferenceIdeal.main_arg2) = m ((c.tc : Thread Cert.SelectReferenceIdeal.nD Cert.SelectReferenceIdeal.τ).loc Cert.SelectReferenceIdeal.main_arg2)
      ∧ r.2.mem ((c.tc : Thread Cert.SelectReferenceIdeal.nD Cert.SelectReferenceIdeal.τ).loc Cert.SelectReferenceIdeal.main_arg3) = m ((c.tc : Thread Cert.SelectReferenceIdeal.nD Cert.SelectReferenceIdeal.τ).loc Cert.SelectReferenceIdeal.main_arg3)
      ∧ r.2.mem ((c.tc : Thread Cert.SelectReferenceIdeal.nD Cert.SelectReferenceIdeal.τ).loc Cert.SelectReferenceIdeal.main_arg4) = m ((c.tc : Thread Cert.SelectReferenceIdeal.nD Cert.SelectReferenceIdeal.τ).loc Cert.SelectReferenceIdeal.main_arg4))
      ∧ r.2.sem = fun _ => 0)

def quiescent_SelectReferenceIdeal_pre_scored [hSelectReferenceIdeal : Cert.SelectReferenceIdeal.Facts] [hPre_scored : Cert.Pre_scored.Facts] : Prop :=
  ∀ (m : (ℓ : Loc Cert.SelectReferenceIdeal.nD Cert.SelectReferenceIdeal.τ Cert.SelectReferenceIdeal.sig) → Buf (Elt Ideal) ℓ) (g : Dev Cert.SelectReferenceIdeal.nD → PrngReg), Pre_SelectReferenceIdeal_scored m →
    θ_run (Cert.SelectReferenceIdeal.defs (F := Ideal)) (onTc (τ := Cert.SelectReferenceIdeal.τ) (Cert.SelectReferenceIdeal.main (F := Ideal))) ⟨m, fun _ => 0, g⟩ (fun r => (∀ c : Dev Cert.SelectReferenceIdeal.nD,
      r.2.mem ((c.tc : Thread Cert.SelectReferenceIdeal.nD Cert.SelectReferenceIdeal.τ).loc Cert.SelectReferenceIdeal.main_arg0) = m ((c.tc : Thread Cert.SelectReferenceIdeal.nD Cert.SelectReferenceIdeal.τ).loc Cert.SelectReferenceIdeal.main_arg0)
      ∧ r.2.mem ((c.tc : Thread Cert.SelectReferenceIdeal.nD Cert.SelectReferenceIdeal.τ).loc Cert.SelectReferenceIdeal.main_arg1) = m ((c.tc : Thread Cert.SelectReferenceIdeal.nD Cert.SelectReferenceIdeal.τ).loc Cert.SelectReferenceIdeal.main_arg1)
      ∧ r.2.mem ((c.tc : Thread Cert.SelectReferenceIdeal.nD Cert.SelectReferenceIdeal.τ).loc Cert.SelectReferenceIdeal.main_arg2) = m ((c.tc : Thread Cert.SelectReferenceIdeal.nD Cert.SelectReferenceIdeal.τ).loc Cert.SelectReferenceIdeal.main_arg2)
      ∧ r.2.mem ((c.tc : Thread Cert.SelectReferenceIdeal.nD Cert.SelectReferenceIdeal.τ).loc Cert.SelectReferenceIdeal.main_arg3) = m ((c.tc : Thread Cert.SelectReferenceIdeal.nD Cert.SelectReferenceIdeal.τ).loc Cert.SelectReferenceIdeal.main_arg3)
      ∧ r.2.mem ((c.tc : Thread Cert.SelectReferenceIdeal.nD Cert.SelectReferenceIdeal.τ).loc Cert.SelectReferenceIdeal.main_arg4) = m ((c.tc : Thread Cert.SelectReferenceIdeal.nD Cert.SelectReferenceIdeal.τ).loc Cert.SelectReferenceIdeal.main_arg4))
      ∧ r.2.sem = fun _ => 0)

def preserves_Kernel_KernelIdeal : Prop :=
  True

def algebraic_KernelIdeal_ReferenceIdeal_pre_setup_image [hKernelIdeal : Cert.KernelIdeal.Facts] [hReferenceIdeal : Cert.ReferenceIdeal.Facts] [hPre_setup_image : Cert.Pre_setup_image.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_setup_image m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v93)) (v1 : (c : Dev Cert.KernelIdeal.nD) → Buf (Elt Ideal) ((c.tc : Thread Cert.KernelIdeal.nD Cert.KernelIdeal.τ).loc Cert.KernelIdeal.main_v95)) (v2 : (c : Dev Cert.KernelIdeal.nD) → Buf (Elt Ideal) ((c.tc : Thread Cert.KernelIdeal.nD Cert.KernelIdeal.τ).loc Cert.KernelIdeal.main_v97)) (v3 : (c : Dev Cert.KernelIdeal.nD) → Buf (Elt Ideal) ((c.tc : Thread Cert.KernelIdeal.nD Cert.KernelIdeal.τ).loc Cert.KernelIdeal.main_v99)) (v4 : (c : Dev Cert.KernelIdeal.nD) → Buf (Elt Ideal) ((c.tc : Thread Cert.KernelIdeal.nD Cert.KernelIdeal.τ).loc Cert.KernelIdeal.main_v101)) (v5 : (c : Dev Cert.KernelIdeal.nD) → Buf (Elt Ideal) ((c.tc : Thread Cert.KernelIdeal.nD Cert.KernelIdeal.τ).loc Cert.KernelIdeal.main_cst_17)) (v6 : (c : Dev Cert.KernelIdeal.nD) → Buf (Elt Ideal) ((c.tc : Thread Cert.KernelIdeal.nD Cert.KernelIdeal.τ).loc Cert.KernelIdeal.main_cst_18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_v95) = v1 c
          ∧ r.2.mem ((c.tc : Thread Cert.KernelIdeal.nD Cert.KernelIdeal.τ).loc Cert.KernelIdeal.main_v97) = v2 c
          ∧ r.2.mem ((c.tc : Thread Cert.KernelIdeal.nD Cert.KernelIdeal.τ).loc Cert.KernelIdeal.main_v99) = v3 c
          ∧ r.2.mem ((c.tc : Thread Cert.KernelIdeal.nD Cert.KernelIdeal.τ).loc Cert.KernelIdeal.main_v101) = v4 c
          ∧ r.2.mem ((c.tc : Thread Cert.KernelIdeal.nD Cert.KernelIdeal.τ).loc Cert.KernelIdeal.main_cst_17) = v5 c
          ∧ r.2.mem ((c.tc : Thread Cert.KernelIdeal.nD Cert.KernelIdeal.τ).loc Cert.KernelIdeal.main_cst_18) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v220) = v0 c
          ∧ r.2.mem ((c.tc : Thread Cert.ReferenceIdeal.nD Cert.ReferenceIdeal.τ).loc Cert.ReferenceIdeal.main_v222) = v1 c
          ∧ r.2.mem ((c.tc : Thread Cert.ReferenceIdeal.nD Cert.ReferenceIdeal.τ).loc Cert.ReferenceIdeal.main_v224) = v2 c
          ∧ r.2.mem ((c.tc : Thread Cert.ReferenceIdeal.nD Cert.ReferenceIdeal.τ).loc Cert.ReferenceIdeal.main_v226) = v3 c
          ∧ r.2.mem ((c.tc : Thread Cert.ReferenceIdeal.nD Cert.ReferenceIdeal.τ).loc Cert.ReferenceIdeal.main_v228) = v4 c
          ∧ r.2.mem ((c.tc : Thread Cert.ReferenceIdeal.nD Cert.ReferenceIdeal.τ).loc Cert.ReferenceIdeal.main_cst_28) = v5 c
          ∧ r.2.mem ((c.tc : Thread Cert.ReferenceIdeal.nD Cert.ReferenceIdeal.τ).loc Cert.ReferenceIdeal.main_cst_29) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Select_SelectIdeal : Prop :=
  True

def algebraic_SelectIdeal_SelectReferenceIdeal_pre_scored [hSelectIdeal : Cert.SelectIdeal.Facts] [hSelectReferenceIdeal : Cert.SelectReferenceIdeal.Facts] [hPre_scored : Cert.Pre_scored.Facts] : Prop :=
  ∀ (m : (ℓ : Loc Cert.SelectIdeal.nD Cert.SelectIdeal.τ Cert.SelectIdeal.sig) → Buf (Elt Ideal) ℓ) (g : Dev Cert.SelectIdeal.nD → PrngReg)
    (m' : (ℓ : Loc Cert.SelectReferenceIdeal.nD Cert.SelectReferenceIdeal.τ Cert.SelectReferenceIdeal.sig) → Buf (Elt Ideal) ℓ) (g' : Dev Cert.SelectReferenceIdeal.nD → PrngReg), Pre_SelectIdeal_scored m →
    (∀ c : Dev Cert.SelectIdeal.nD,
      m' ((c.tc : Thread Cert.SelectReferenceIdeal.nD Cert.SelectReferenceIdeal.τ).loc Cert.SelectReferenceIdeal.main_arg0) = m ((c.tc : Thread Cert.SelectIdeal.nD Cert.SelectIdeal.τ).loc Cert.SelectIdeal.main_arg0)
      ∧ m' ((c.tc : Thread Cert.SelectReferenceIdeal.nD Cert.SelectReferenceIdeal.τ).loc Cert.SelectReferenceIdeal.main_arg1) = m ((c.tc : Thread Cert.SelectIdeal.nD Cert.SelectIdeal.τ).loc Cert.SelectIdeal.main_arg1)
      ∧ m' ((c.tc : Thread Cert.SelectReferenceIdeal.nD Cert.SelectReferenceIdeal.τ).loc Cert.SelectReferenceIdeal.main_arg2) = m ((c.tc : Thread Cert.SelectIdeal.nD Cert.SelectIdeal.τ).loc Cert.SelectIdeal.main_arg2)
      ∧ m' ((c.tc : Thread Cert.SelectReferenceIdeal.nD Cert.SelectReferenceIdeal.τ).loc Cert.SelectReferenceIdeal.main_arg3) = m ((c.tc : Thread Cert.SelectIdeal.nD Cert.SelectIdeal.τ).loc Cert.SelectIdeal.main_arg3)
      ∧ m' ((c.tc : Thread Cert.SelectReferenceIdeal.nD Cert.SelectReferenceIdeal.τ).loc Cert.SelectReferenceIdeal.main_arg4) = m ((c.tc : Thread Cert.SelectIdeal.nD Cert.SelectIdeal.τ).loc Cert.SelectIdeal.main_arg4)) →
    ∃ (v0 : (c : Dev Cert.SelectIdeal.nD) → Buf (Elt Ideal) ((c.tc : Thread Cert.SelectIdeal.nD Cert.SelectIdeal.τ).loc Cert.SelectIdeal.main_v80)),
      θ_run (Cert.SelectIdeal.defs (F := Ideal)) (onTc (τ := Cert.SelectIdeal.τ) (Cert.SelectIdeal.main (F := Ideal))) ⟨m, fun _ => 0, g⟩ (fun r => ∀ c : Dev Cert.SelectIdeal.nD,
          r.2.mem ((c.tc : Thread Cert.SelectIdeal.nD Cert.SelectIdeal.τ).loc Cert.SelectIdeal.main_v80) = v0 c
          ∧ r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0)
          ∧ r.2.mem ((c.tc : Thread Cert.SelectIdeal.nD Cert.SelectIdeal.τ).loc Cert.SelectIdeal.main_arg1) = m ((c.tc : Thread Cert.SelectIdeal.nD Cert.SelectIdeal.τ).loc Cert.SelectIdeal.main_arg1)
          ∧ r.2.mem ((c.tc : Thread Cert.SelectIdeal.nD Cert.SelectIdeal.τ).loc Cert.SelectIdeal.main_arg2) = m ((c.tc : Thread Cert.SelectIdeal.nD Cert.SelectIdeal.τ).loc Cert.SelectIdeal.main_arg2)
          ∧ r.2.mem ((c.tc : Thread Cert.SelectIdeal.nD Cert.SelectIdeal.τ).loc Cert.SelectIdeal.main_arg3) = m ((c.tc : Thread Cert.SelectIdeal.nD Cert.SelectIdeal.τ).loc Cert.SelectIdeal.main_arg3)
          ∧ r.2.mem ((c.tc : Thread Cert.SelectIdeal.nD Cert.SelectIdeal.τ).loc Cert.SelectIdeal.main_arg4) = m ((c.tc : Thread Cert.SelectIdeal.nD Cert.SelectIdeal.τ).loc Cert.SelectIdeal.main_arg4))
      ∧ θ_run (Cert.SelectReferenceIdeal.defs (F := Ideal)) (onTc (τ := Cert.SelectReferenceIdeal.τ) (Cert.SelectReferenceIdeal.main (F := Ideal))) ⟨m', fun _ => 0, g'⟩ (fun r => ∀ c : Dev Cert.SelectReferenceIdeal.nD,
          r.2.mem ((c.tc : Thread Cert.SelectReferenceIdeal.nD Cert.SelectReferenceIdeal.τ).loc Cert.SelectReferenceIdeal.main_v39) = v0 c
          ∧ r.2.mem ((c.tc : Thread Cert.SelectReferenceIdeal.nD Cert.SelectReferenceIdeal.τ).loc Cert.SelectReferenceIdeal.main_arg0) = m' ((c.tc : Thread Cert.SelectReferenceIdeal.nD Cert.SelectReferenceIdeal.τ).loc Cert.SelectReferenceIdeal.main_arg0)
          ∧ r.2.mem ((c.tc : Thread Cert.SelectReferenceIdeal.nD Cert.SelectReferenceIdeal.τ).loc Cert.SelectReferenceIdeal.main_arg1) = m' ((c.tc : Thread Cert.SelectReferenceIdeal.nD Cert.SelectReferenceIdeal.τ).loc Cert.SelectReferenceIdeal.main_arg1)
          ∧ r.2.mem ((c.tc : Thread Cert.SelectReferenceIdeal.nD Cert.SelectReferenceIdeal.τ).loc Cert.SelectReferenceIdeal.main_arg2) = m' ((c.tc : Thread Cert.SelectReferenceIdeal.nD Cert.SelectReferenceIdeal.τ).loc Cert.SelectReferenceIdeal.main_arg2)
          ∧ r.2.mem ((c.tc : Thread Cert.SelectReferenceIdeal.nD Cert.SelectReferenceIdeal.τ).loc Cert.SelectReferenceIdeal.main_arg3) = m' ((c.tc : Thread Cert.SelectReferenceIdeal.nD Cert.SelectReferenceIdeal.τ).loc Cert.SelectReferenceIdeal.main_arg3)
          ∧ r.2.mem ((c.tc : Thread Cert.SelectReferenceIdeal.nD Cert.SelectReferenceIdeal.τ).loc Cert.SelectReferenceIdeal.main_arg4) = m' ((c.tc : Thread Cert.SelectReferenceIdeal.nD Cert.SelectReferenceIdeal.τ).loc Cert.SelectReferenceIdeal.main_arg4))

def Claim : Prop :=
  ∃ (hKernel : Cert.Kernel.Facts) (hKernelIdeal : Cert.KernelIdeal.Facts) (hReferenceIdeal : Cert.ReferenceIdeal.Facts) (hSelect : Cert.Select.Facts) (hSelectIdeal : Cert.SelectIdeal.Facts) (hSelectReferenceIdeal : Cert.SelectReferenceIdeal.Facts) (hPre_setup_image : Cert.Pre_setup_image.Facts) (hPre_scored : Cert.Pre_scored.Facts),
    quiescent_Kernel (hKernel := hKernel)
    ∧ quiescent_KernelIdeal (hKernelIdeal := hKernelIdeal)
    ∧ quiescent_KernelIdeal_pre_setup_image (hKernelIdeal := hKernelIdeal) (hPre_setup_image := hPre_setup_image)
    ∧ quiescent_ReferenceIdeal (hReferenceIdeal := hReferenceIdeal)
    ∧ quiescent_ReferenceIdeal_pre_setup_image (hReferenceIdeal := hReferenceIdeal) (hPre_setup_image := hPre_setup_image)
    ∧ quiescent_Select (hSelect := hSelect)
    ∧ quiescent_SelectIdeal (hSelectIdeal := hSelectIdeal)
    ∧ quiescent_SelectIdeal_pre_scored (hSelectIdeal := hSelectIdeal) (hPre_scored := hPre_scored)
    ∧ quiescent_SelectReferenceIdeal (hSelectReferenceIdeal := hSelectReferenceIdeal)
    ∧ quiescent_SelectReferenceIdeal_pre_scored (hSelectReferenceIdeal := hSelectReferenceIdeal) (hPre_scored := hPre_scored)
    ∧ preserves_Kernel_KernelIdeal
    ∧ algebraic_KernelIdeal_ReferenceIdeal_pre_setup_image (hKernelIdeal := hKernelIdeal) (hReferenceIdeal := hReferenceIdeal) (hPre_setup_image := hPre_setup_image)
    ∧ preserves_Select_SelectIdeal
    ∧ algebraic_SelectIdeal_SelectReferenceIdeal_pre_scored (hSelectIdeal := hSelectIdeal) (hSelectReferenceIdeal := hSelectReferenceIdeal) (hPre_scored := hPre_scored)
-- ==== Pre_scored.lean ====
abbrev S63504 : Shape := ⟨1, ![63504]⟩
abbrev S_ : Shape := ⟨0, ![]⟩

class Facts : Prop where
  bcast_S_S63504 : S_.BroadcastsInDim S63504 (![] : Fin 0 → Fin S63504.rank)

variable [Facts]

def fn_where {F : FTy → Type} [FloatOps F] (arg0 : IVec S63504 1) (arg1 : IVec S63504 1) (arg2 : IVec S_ 1) : IVec S63504 1 :=
  let v0 : IVec S63504 1 := broadcastInDim S63504 ![] bcast_S_S63504 arg2
  let v1 : IVec S63504 1 := select arg0 arg1 v0
  v1

def fn {F : FTy → Type} [FloatOps F] (main_arg0 : FVec F S63504 .f32) (main_arg1 : FVec F S63504 .f32) (main_arg2 : FVec F S63504 .f32) (main_arg3 : FVec F S63504 .f32) (main_arg4 : FVec F S63504 .f32) : IVec S63504 1 :=
  let main_v0 : FVec F S63504 .f32 := subf main_arg3 main_arg1
  let main_cst : FVec F S_ .f32 := constant S_ .f32 0x3F800000#32
  let main_v1 : FVec F S63504 .f32 := broadcastInDim S63504 ![] bcast_S_S63504 main_cst
  let main_v2 : FVec F S63504 .f32 := addf main_v0 main_v1
  let main_cst_0 : FVec F S_ .f32 := constant S_ .f32 0x41800000#32
  let main_v3 : FVec F S63504 .f32 := broadcastInDim S63504 ![] bcast_S_S63504 main_cst_0
  let main_v4 : IVec S63504 1 := cmpf .oge main_v2 main_v3
  let main_v5 : FVec F S63504 .f32 := subf main_arg4 main_arg2
  let main_cst_1 : FVec F S_ .f32 := constant S_ .f32 0x3F800000#32
  let main_v6 : FVec F S63504 .f32 := broadcastInDim S63504 ![] bcast_S_S63504 main_cst_1
  let main_v7 : FVec F S63504 .f32 := addf main_v5 main_v6
  let main_cst_2 : FVec F S_ .f32 := constant S_ .f32 0x41800000#32
  let main_v8 : FVec F S63504 .f32 := broadcastInDim S63504 ![] bcast_S_S63504 main_cst_2
  let main_v9 : IVec S63504 1 := cmpf .oge main_v7 main_v8
  let main_v10 : IVec S63504 1 := andi main_v4 main_v9
  let main_cst_3 : FVec F S_ .f32 := constant S_ .f32 0xCE6E6B28#32
  let main_v11 : FVec F S63504 .f32 := broadcastInDim S63504 ![] bcast_S_S63504 main_cst_3
  let main_v12 : IVec S63504 1 := cmpf .oge main_arg0 main_v11
  let main_c : IVec S_ 1 := constantI S_ 1 1#1
  let main_v13 : IVec S63504 1 := fn_where (F := F) main_v10 main_v12 main_c
  main_v13
-- ==== Pre_setup_image.lean ====
abbrev S1x256x84x84 : Shape := ⟨4, ![1, 256, 84, 84]⟩
abbrev S3 : Shape := ⟨1, ![3]⟩
abbrev S8x6 : Shape := ⟨2, ![8, 6]⟩
abbrev S512x256x3x3 : Shape := ⟨4, ![512, 256, 3, 3]⟩
abbrev S512 : Shape := ⟨1, ![512]⟩
abbrev S18x512x1x1 : Shape := ⟨4, ![18, 512, 1, 1]⟩
abbrev S18 : Shape := ⟨1, ![18]⟩
abbrev S36x512x1x1 : Shape := ⟨4, ![36, 512, 1, 1]⟩
abbrev S36 : Shape := ⟨1, ![36]⟩
abbrev S1 : Shape := ⟨1, ![1]⟩
abbrev S_ : Shape := ⟨0, ![]⟩

class Facts : Prop where
  slices_S3_S1_0 : S3.Slices ![0] S1
  shapeCasts_S1_S_ : S1.ShapeCasts S_
  slices_S3_S1_1 : S3.Slices ![1] S1
  slices_S3_S1_2 : S3.Slices ![2] S1

variable [Facts]

def fn {F : FTy → Type} [FloatOps F] (main_arg0 : FVec F S1x256x84x84 .f32) (main_arg1 : FVec F S3 .f32) (main_arg2 : FVec F S8x6 .f32) (main_arg3 : FVec F S512x256x3x3 .f32) (main_arg4 : FVec F S512 .f32) (main_arg5 : FVec F S18x512x1x1 .f32) (main_arg6 : FVec F S18 .f32) (main_arg7 : FVec F S36x512x1x1 .f32) (main_arg8 : FVec F S36 .f32) : IVec S_ 1 :=
  let main_v0 : FVec F S1 .f32 := (extractStridedSlice S1 ![0] · slices_S3_S1_0) main_arg1
  let main_v1 : FVec F S_ .f32 := shapeCast S_ main_v0 shapeCasts_S1_S_
  let main_cst : FVec F S_ .f32 := constant S_ .f32 0x44A80000#32
  let main_v2 : IVec S_ 1 := cmpf .oeq main_v1 main_cst
  let main_v3 : FVec F S1 .f32 := (extractStridedSlice S1 ![1] · slices_S3_S1_1) main_arg1
  let main_v4 : FVec F S_ .f32 := shapeCast S_ main_v3 shapeCasts_S1_S_
  let main_cst_0 : FVec F S_ .f32 := constant S_ .f32 0x44A80000#32
  let main_v5 : IVec S_ 1 := cmpf .oeq main_v4 main_cst_0
  let main_v6 : IVec S_ 1 := andi main_v2 main_v5
  let main_v7 : FVec F S1 .f32 := (extractStridedSlice S1 ![2] · slices_S3_S1_2) main_arg1
  let main_v8 : FVec F S_ .f32 := shapeCast S_ main_v7 shapeCasts_S1_S_
  let main_cst_1 : FVec F S_ .f32 := constant S_ .f32 0x3F800000#32
  let main_v9 : IVec S_ 1 := cmpf .oeq main_v8 main_cst_1
  let main_v10 : IVec S_ 1 := andi main_v6 main_v9
  main_v10
-- ==== Kernel.lean ====
abbrev S1x256x84x84 : Shape := ⟨4, ![1, 256, 84, 84]⟩
abbrev S3 : Shape := ⟨1, ![3]⟩
abbrev S8x6 : Shape := ⟨2, ![8, 6]⟩
abbrev S512x256x3x3 : Shape := ⟨4, ![512, 256, 3, 3]⟩
abbrev S512 : Shape := ⟨1, ![512]⟩
abbrev S18x512x1x1 : Shape := ⟨4, ![18, 512, 1, 1]⟩
abbrev S18 : Shape := ⟨1, ![18]⟩
abbrev S36x512x1x1 : Shape := ⟨4, ![36, 512, 1, 1]⟩
abbrev S36 : Shape := ⟨1, ![36]⟩
abbrev S9x4 : Shape := ⟨2, ![9, 4]⟩
abbrev S256x84x84 : Shape := ⟨3, ![256, 84, 84]⟩
abbrev S84x84x256 : Shape := ⟨3, ![84, 84, 256]⟩
abbrev S_ : Shape := ⟨0, ![]⟩
abbrev S86x88x256 : Shape := ⟨3, ![86, 88, 256]⟩
abbrev S7568x256 : Shape := ⟨2, ![7568, 256]⟩
abbrev S3x3x256x512 : Shape := ⟨4, ![3, 3, 256, 512]⟩
abbrev S9x256x512 : Shape := ⟨3, ![9, 256, 512]⟩
abbrev S18x512 : Shape := ⟨2, ![18, 512]⟩
abbrev S36x512 : Shape := ⟨2, ![36, 512]⟩
abbrev S36x1 : Shape := ⟨2, ![36, 1]⟩
abbrev S10x512 : Shape := ⟨2, ![10, 512]⟩
abbrev S64x512 : Shape := ⟨2, ![64, 512]⟩
abbrev S512x64 : Shape := ⟨2, ![512, 64]⟩
abbrev S10 : Shape := ⟨1, ![10]⟩
abbrev S64 : Shape := ⟨1, ![64]⟩
abbrev S1x64 : Shape := ⟨2, ![1, 64]⟩
abbrev S1x512 : Shape := ⟨2, ![1, 512]⟩
abbrev S84 : Shape := ⟨1, ![84]⟩
abbrev S84x84 : Shape := ⟨2, ![84, 84]⟩
abbrev S7056 : Shape := ⟨1, ![7056]⟩
abbrev S7056x1 : Shape := ⟨2, ![7056, 1]⟩
abbrev S7056x4 : Shape := ⟨2, ![7056, 4]⟩
abbrev S1x9x4 : Shape := ⟨3, ![1, 9, 4]⟩
abbrev S7056x1x4 : Shape := ⟨3, ![7056, 1, 4]⟩
abbrev S7056x9x4 : Shape := ⟨3, ![7056, 9, 4]⟩
abbrev S7056x9x1 : Shape := ⟨3, ![7056, 9, 1]⟩
abbrev S7056x9 : Shape := ⟨2, ![7056, 9]⟩
abbrev S84x84x9 : Shape := ⟨3, ![84, 84, 9]⟩
abbrev S84x88x9 : Shape := ⟨3, ![84, 88, 9]⟩
abbrev S7392x9 : Shape := ⟨2, ![7392, 9]⟩
abbrev S7392x48 : Shape := ⟨2, ![7392, 48]⟩
abbrev S176x9 : Shape := ⟨2, ![176, 9]⟩
abbrev S176x48 : Shape := ⟨2, ![176, 48]⟩
abbrev S1x256 : Shape := ⟨2, ![1, 256]⟩
abbrev S176x512 : Shape := ⟨2, ![176, 512]⟩
abbrev S176x256 : Shape := ⟨2, ![176, 256]⟩
abbrev S175x256 : Shape := ⟨2, ![175, 256]⟩
abbrev S1x256x512 : Shape := ⟨3, ![1, 256, 512]⟩
abbrev S256x512 : Shape := ⟨2, ![256, 512]⟩
abbrev S176x64 : Shape := ⟨2, ![176, 64]⟩
abbrev S176x3 : Shape := ⟨2, ![176, 3]⟩
abbrev S84x88x48 : Shape := ⟨3, ![84, 88, 48]⟩
abbrev S84x84x48 : Shape := ⟨3, ![84, 84, 48]⟩
abbrev S7056x48 : Shape := ⟨2, ![7056, 48]⟩
abbrev S63504 : Shape := ⟨1, ![63504]⟩

abbrev nBuf : Space → Nat
  | .hbm => 137
  | .vmem => 15
  | .smem => 0
  | _ => 0

abbrev hbmTy0_0 (i : Nat) : BufTy := match i % 128 with
  | 0 => ⟨S1x256x84x84, .f32⟩
  | 1 => ⟨S3, .f32⟩
  | 2 => ⟨S8x6, .f32⟩
  | 3 => ⟨S512x256x3x3, .f32⟩
  | 4 => ⟨S512, .f32⟩
  | 5 => ⟨S18x512x1x1, .f32⟩
  | 6 => ⟨S18, .f32⟩
  | 7 => ⟨S36x512x1x1, .f32⟩
  | 8 => ⟨S36, .f32⟩
  | 9 => ⟨S36, .i32⟩
  | 10 => ⟨S9x4, .f32⟩
  | 11 => ⟨S256x84x84, .f32⟩
  | 12 => ⟨S84x84x256, .f32⟩
  | 13 => ⟨S_, .i32⟩
  | 14 => ⟨S_, .f32⟩
  | 15 => ⟨S86x88x256, .f32⟩
  | 16 => ⟨S7568x256, .f32⟩
  | 17 => ⟨S3x3x256x512, .f32⟩
  | 18 => ⟨S9x256x512, .f32⟩
  | 19 => ⟨S18x512, .f32⟩
  | 20 => ⟨S36x512, .f32⟩
  | 21 => ⟨S_, .i32⟩
  | 22 => ⟨S36, .i32⟩
  | 23 => ⟨S36, .i1⟩
  | 24 => ⟨S_, .i32⟩
  | 25 => ⟨S36, .i32⟩
  | 26 => ⟨S36, .i32⟩
  | 27 => ⟨S36, .i32⟩
  | 28 => ⟨S36x1, .i32⟩
  | 29 => ⟨S36x512, .f32⟩
  | 30 => ⟨S_, .f32⟩
  | 31 => ⟨S10x512, .f32⟩
  | 32 => ⟨S64x512, .f32⟩
  | 33 => ⟨S512x64, .f32⟩
  | 34 => ⟨S_, .i32⟩
  | 35 => ⟨S36, .i32⟩
  | 36 => ⟨S36, .i1⟩
  | 37 => ⟨S_, .i32⟩
  | 38 => ⟨S36, .i32⟩
  | 39 => ⟨S36, .i32⟩
  | 40 => ⟨S36, .i32⟩
  | 41 => ⟨S36x1, .i32⟩
  | 42 => ⟨S36, .f32⟩
  | 43 => ⟨S_, .f32⟩
  | 44 => ⟨S10, .f32⟩
  | 45 => ⟨S64, .f32⟩
  | 46 => ⟨S1x64, .f32⟩
  | 47 => ⟨S1x512, .f32⟩
  | 48 => ⟨S84, .i32⟩
  | 49 => ⟨S_, .i32⟩
  | 50 => ⟨S84, .i32⟩
  | 51 => ⟨S84, .i32⟩
  | 52 => ⟨S84, .i32⟩
  | 53 => ⟨S_, .i32⟩
  | 54 => ⟨S84, .i32⟩
  | 55 => ⟨S84, .i32⟩
  | 56 => ⟨S84x84, .i32⟩
  | 57 => ⟨S84x84, .i32⟩
  | 58 => ⟨S7056, .i32⟩
  | 59 => ⟨S7056, .i32⟩
  | 60 => ⟨S7056, .i32⟩
  | 61 => ⟨S7056, .i32⟩
  | 62 => ⟨S7056x1, .i32⟩
  | 63 => ⟨S7056x1, .i32⟩
  | 64 => ⟨S7056x1, .i32⟩
  | 65 => ⟨S7056x1, .i32⟩
  | 66 => ⟨S7056x4, .i32⟩
  | 67 => ⟨S1x9x4, .f32⟩
  | 68 => ⟨S7056x1x4, .i32⟩
  | 69 => ⟨S7056x1x4, .f32⟩
  | 70 => ⟨S7056x9x4, .f32⟩
  | 71 => ⟨S7056x9x4, .f32⟩
  | 72 => ⟨S7056x9x4, .f32⟩
  | 73 => ⟨S7056x9x1, .f32⟩
  | 74 => ⟨S7056x9, .f32⟩
  | 75 => ⟨S7056x9x1, .f32⟩
  | 76 => ⟨S7056x9, .f32⟩
  | 77 => ⟨S7056x9, .f32⟩
  | 78 => ⟨S_, .f32⟩
  | 79 => ⟨S7056x9, .f32⟩
  | 80 => ⟨S7056x9, .f32⟩
  | 81 => ⟨S7056x9x1, .f32⟩
  | 82 => ⟨S7056x9, .f32⟩
  | 83 => ⟨S7056x9x1, .f32⟩
  | 84 => ⟨S7056x9, .f32⟩
  | 85 => ⟨S7056x9, .f32⟩
  | 86 => ⟨S_, .f32⟩
  | 87 => ⟨S7056x9, .f32⟩
  | 88 => ⟨S7056x9, .f32⟩
  | 89 => ⟨S7056x9x1, .f32⟩
  | 90 => ⟨S7056x9, .f32⟩
  | 91 => ⟨S_, .f32⟩
  | 92 => ⟨S7056x9, .f32⟩
  | 93 => ⟨S7056x9, .f32⟩
  | 94 => ⟨S7056x9, .f32⟩
  | 95 => ⟨S7056x9x1, .f32⟩
  | 96 => ⟨S7056x9, .f32⟩
  | 97 => ⟨S_, .f32⟩
  | 98 => ⟨S7056x9, .f32⟩
  | 99 => ⟨S7056x9, .f32⟩
  | 100 => ⟨S7056x9, .f32⟩
  | 101 => ⟨S84x84x9, .f32⟩
  | 102 => ⟨S_, .f32⟩
  | 103 => ⟨S_, .f32⟩
  | 104 => ⟨S84x88x9, .f32⟩
  | 105 => ⟨S7392x9, .f32⟩
  | 106 => ⟨S84x84x9, .f32⟩
  | 107 => ⟨S_, .f32⟩
  | 108 => ⟨S_, .f32⟩
  | 109 => ⟨S84x88x9, .f32⟩
  | 110 => ⟨S7392x9, .f32⟩
  | 111 => ⟨S84x84x9, .f32⟩
  | 112 => ⟨S_, .f32⟩
  | 113 => ⟨S_, .f32⟩
  | 114 => ⟨S84x88x9, .f32⟩
  | 115 => ⟨S7392x9, .f32⟩
  | 116 => ⟨S84x84x9, .f32⟩
  | 117 => ⟨S_, .f32⟩
  | 118 => ⟨S_, .f32⟩
  | 119 => ⟨S84x88x9, .f32⟩
  | 120 => ⟨S7392x9, .f32⟩
  | 121 => ⟨S7392x48, .f32⟩
  | 122 => ⟨S84x88x48, .f32⟩
  | 123 => ⟨S84x84x48, .f32⟩
  | 124 => ⟨S7056x48, .f32⟩
  | 125 => ⟨S7056x9, .f32⟩
  | 126 => ⟨S63504, .f32⟩
  | 127 => ⟨S7056x9, .f32⟩
  | _ => ⟨S1x256x84x84, .f32⟩

abbrev hbmTy0_1 (i : Nat) : BufTy := match i % 128 with
  | 0 => ⟨S63504, .f32⟩
  | 1 => ⟨S7056x9, .f32⟩
  | 2 => ⟨S63504, .f32⟩
  | 3 => ⟨S7056x9, .f32⟩
  | 4 => ⟨S63504, .f32⟩
  | 5 => ⟨S7056x9, .f32⟩
  | 6 => ⟨S63504, .f32⟩
  | 7 => ⟨S_, .f32⟩
  | 8 => ⟨S_, .f32⟩
  | _ => ⟨S1x256x84x84, .f32⟩

abbrev hbmTy (i : Nat) : BufTy := match i / 128 with
  | 0 => hbmTy0_0 i
  | 1 => hbmTy0_1 i
  | _ => ⟨S1x256x84x84, .f32⟩

abbrev bufTy : (tb : Table) → Fin (tcTables nBuf tb) → BufTy
  | .hbm, ⟨i, _⟩ => hbmTy i
  | .local _ .vmem, ⟨0, _⟩ => ⟨S7568x256, .f32⟩
  | .local _ .vmem, ⟨1, _⟩ => ⟨S9x256x512, .f32⟩
  | .local _ .vmem, ⟨2, _⟩ => ⟨S1x512, .f32⟩
  | .local _ .vmem, ⟨3, _⟩ => ⟨S512x64, .f32⟩
  | .local _ .vmem, ⟨4, _⟩ => ⟨S1x64, .f32⟩
  | .local _ .vmem, ⟨5, _⟩ => ⟨S176x9, .f32⟩
  | .local _ .vmem, ⟨6, _⟩ => ⟨S176x9, .f32⟩
  | .local _ .vmem, ⟨7, _⟩ => ⟨S176x9, .f32⟩
  | .local _ .vmem, ⟨8, _⟩ => ⟨S176x9, .f32⟩
  | .local _ .vmem, ⟨9, _⟩ => ⟨S176x9, .f32⟩
  | .local _ .vmem, ⟨10, _⟩ => ⟨S176x9, .f32⟩
  | .local _ .vmem, ⟨11, _⟩ => ⟨S176x9, .f32⟩
  | .local _ .vmem, ⟨12, _⟩ => ⟨S176x9, .f32⟩
  | .local _ .vmem, ⟨13, _⟩ => ⟨S176x48, .f32⟩
  | .local _ .vmem, ⟨14, _⟩ => ⟨S176x48, .f32⟩
  | _, _ => ⟨S1x256x84x84, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_call0_v0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c_1 : Ref sig .tc := ⟨.hbm, 21, rfl⟩
abbrev main_v8 : Ref sig .tc := ⟨.hbm, 22, rfl⟩
abbrev main_v9 : Ref sig .tc := ⟨.hbm, 23, rfl⟩
abbrev main_c_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_4 : Ref sig .tc := ⟨.hbm, 34, rfl⟩
abbrev main_v18 : Ref sig .tc := ⟨.hbm, 35, rfl⟩
abbrev main_v19 : Ref sig .tc := ⟨.hbm, 36, rfl⟩
abbrev main_c_5 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_7 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_8 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_9 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_10 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_11 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_12 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_13 : Ref sig .tc := ⟨.hbm, 102, rfl⟩
abbrev main_call1_v0 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_14 : Ref sig .tc := ⟨.hbm, 107, rfl⟩
abbrev main_call2_v0 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_15 : Ref sig .tc := ⟨.hbm, 112, rfl⟩
abbrev main_call3_v0 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_cst_16 : Ref sig .tc := ⟨.hbm, 117, rfl⟩
abbrev main_call4_v0 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_cst_17 : Ref sig .tc := ⟨.hbm, 135, rfl⟩
abbrev main_cst_18 : Ref sig .tc := ⟨.hbm, 136, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![42], ![false]⟩

def k0_off1 (i : grid0.Coords) (c_m1_i32 : BitVec 32) : Fin 2 → Nat :=
  let c2_i32 : BitVec 32 := 2#32
  let arg0 : BitVec 32 := BitVec.ofNat 32 (i 0).val
  let v2 : BitVec 32 := Scalar.muli c2_i32 arg0
  let c1_i32 : BitVec 32 := 1#32
  let v3 : BitVec 32 := Scalar.addi v2 c1_i32
  let v4 : BitVec 32 := Scalar.addi v3 c_m1_i32
  let c88_i32 : BitVec 32 := 88#32
  let v5 : BitVec 32 := Scalar.muli v4 c88_i32
  let v6 : Index := Scalar.indexCast v5
  let c0 : Index := 0#32
  ![v6.toNat, 0]
def k0_off1_at (r : Fin 3) : BitVec 32 :=
  if r.val < 1 then
    4294967295#32
  else
    if r.val < 2 then
      0#32
    else
      1#32
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S7568x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S9x256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S176x9 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x9 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x9 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x9 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S176x48 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S1x256x84x84 : Shape := ⟨4, ![1, 256, 84, 84]⟩
abbrev S3 : Shape := ⟨1, ![3]⟩
abbrev S8x6 : Shape := ⟨2, ![8, 6]⟩
abbrev S512x256x3x3 : Shape := ⟨4, ![512, 256, 3, 3]⟩
abbrev S512 : Shape := ⟨1, ![512]⟩
abbrev S18x512x1x1 : Shape := ⟨4, ![18, 512, 1, 1]⟩
abbrev S18 : Shape := ⟨1, ![18]⟩
abbrev S36x512x1x1 : Shape := ⟨4, ![36, 512, 1, 1]⟩
abbrev S36 : Shape := ⟨1, ![36]⟩
abbrev S9x4 : Shape := ⟨2, ![9, 4]⟩
abbrev S_ : Shape := ⟨0, ![]⟩
abbrev S1x256x86x86 : Shape := ⟨4, ![1, 256, 86, 86]⟩
abbrev S512x256x1x1 : Shape := ⟨4, ![512, 256, 1, 1]⟩
abbrev S512x256 : Shape := ⟨2, ![512, 256]⟩
abbrev S512x1x84x84 : Shape := ⟨4, ![512, 1, 84, 84]⟩
abbrev S1x512x84x84 : Shape := ⟨4, ![1, 512, 84, 84]⟩
abbrev S1x512x1x1 : Shape := ⟨4, ![1, 512, 1, 1]⟩
abbrev S18x512 : Shape := ⟨2, ![18, 512]⟩
abbrev S18x1x84x84 : Shape := ⟨4, ![18, 1, 84, 84]⟩
abbrev S1x18x84x84 : Shape := ⟨4, ![1, 18, 84, 84]⟩
abbrev S1x18x1x1 : Shape := ⟨4, ![1, 18, 1, 1]⟩
abbrev S1x2x756x84 : Shape := ⟨4, ![1, 2, 756, 84]⟩
abbrev S1x756x84 : Shape := ⟨3, ![1, 756, 84]⟩
abbrev S1x1x756x84 : Shape := ⟨4, ![1, 1, 756, 84]⟩
abbrev S36x512 : Shape := ⟨2, ![36, 512]⟩
abbrev S36x1x84x84 : Shape := ⟨4, ![36, 1, 84, 84]⟩
abbrev S1x36x84x84 : Shape := ⟨4, ![1, 36, 84, 84]⟩
abbrev S1x36x1x1 : Shape := ⟨4, ![1, 36, 1, 1]⟩
abbrev S7056 : Shape := ⟨1, ![7056]⟩
abbrev S7056x1 : Shape := ⟨2, ![7056, 1]⟩
abbrev S7056x4 : Shape := ⟨2, ![7056, 4]⟩
abbrev S1x9x4 : Shape := ⟨3, ![1, 9, 4]⟩
abbrev S7056x1x4 : Shape := ⟨3, ![7056, 1, 4]⟩
abbrev S7056x9x4 : Shape := ⟨3, ![7056, 9, 4]⟩
abbrev S63504x4 : Shape := ⟨2, ![63504, 4]⟩
abbrev S1x9x84x84 : Shape := ⟨4, ![1, 9, 84, 84]⟩
abbrev S9x84x84 : Shape := ⟨3, ![9, 84, 84]⟩
abbrev S84x84x9 : Shape := ⟨3, ![84, 84, 9]⟩
abbrev S63504 : Shape := ⟨1, ![63504]⟩
abbrev S36x84x84 : Shape := ⟨3, ![36, 84, 84]⟩
abbrev S84x84x36 : Shape := ⟨3, ![84, 84, 36]⟩
abbrev S63504x1 : Shape := ⟨2, ![63504, 1]⟩
abbrev S1 : Shape := ⟨1, ![1]⟩

abbrev nBuf : Space → Nat
  | .hbm => 327
  | .vmem => 0
  | .smem => 0
  | _ => 0

abbrev hbmTy0_0 (i : Nat) : BufTy := match i % 128 with
  | 0 => ⟨S1x256x84x84, .f32⟩
  | 1 => ⟨S3, .f32⟩
  | 2 => ⟨S8x6, .f32⟩
  | 3 => ⟨S512x256x3x3, .f32⟩
  | 4 => ⟨S512, .f32⟩
  | 5 => ⟨S18x512x1x1, .f32⟩
  | 6 => ⟨S18, .f32⟩
  | 7 => ⟨S36x512x1x1, .f32⟩
  | 8 => ⟨S36, .f32⟩
  | 9 => ⟨S9x4, .f32⟩
  | 10 => ⟨S_, .i32⟩
  | 11 => ⟨S_, .f32⟩
  | 12 => ⟨S1x256x86x86, .f32⟩
  | 13 => ⟨S1x256x84x84, .f32⟩
  | 14 => ⟨S512x256x1x1, .f32⟩
  | 15 => ⟨S512x256, .f32⟩
  | 16 => ⟨S512x1x84x84, .f32⟩
  | 17 => ⟨S1x512x84x84, .f32⟩
  | 18 => ⟨S_, .f32⟩
  | 19 => ⟨S1x512x84x84, .f32⟩
  | 20 => ⟨S1x512x84x84, .f32⟩
  | 21 => ⟨S1x256x84x84, .f32⟩
  | 22 => ⟨S512x256x1x1, .f32⟩
  | 23 => ⟨S512x256, .f32⟩
  | 24 => ⟨S512x1x84x84, .f32⟩
  | 25 => ⟨S1x512x84x84, .f32⟩
  | 26 => ⟨S1x512x84x84, .f32⟩
  | 27 => ⟨S1x256x84x84, .f32⟩
  | 28 => ⟨S512x256x1x1, .f32⟩
  | 29 => ⟨S512x256, .f32⟩
  | 30 => ⟨S512x1x84x84, .f32⟩
  | 31 => ⟨S1x512x84x84, .f32⟩
  | 32 => ⟨S1x512x84x84, .f32⟩
  | 33 => ⟨S1x256x84x84, .f32⟩
  | 34 => ⟨S512x256x1x1, .f32⟩
  | 35 => ⟨S512x256, .f32⟩
  | 36 => ⟨S512x1x84x84, .f32⟩
  | 37 => ⟨S1x512x84x84, .f32⟩
  | 38 => ⟨S1x512x84x84, .f32⟩
  | 39 => ⟨S1x256x84x84, .f32⟩
  | 40 => ⟨S512x256x1x1, .f32⟩
  | 41 => ⟨S512x256, .f32⟩
  | 42 => ⟨S512x1x84x84, .f32⟩
  | 43 => ⟨S1x512x84x84, .f32⟩
  | 44 => ⟨S1x512x84x84, .f32⟩
  | 45 => ⟨S1x256x84x84, .f32⟩
  | 46 => ⟨S512x256x1x1, .f32⟩
  | 47 => ⟨S512x256, .f32⟩
  | 48 => ⟨S512x1x84x84, .f32⟩
  | 49 => ⟨S1x512x84x84, .f32⟩
  | 50 => ⟨S1x512x84x84, .f32⟩
  | 51 => ⟨S1x256x84x84, .f32⟩
  | 52 => ⟨S512x256x1x1, .f32⟩
  | 53 => ⟨S512x256, .f32⟩
  | 54 => ⟨S512x1x84x84, .f32⟩
  | 55 => ⟨S1x512x84x84, .f32⟩
  | 56 => ⟨S1x512x84x84, .f32⟩
  | 57 => ⟨S1x256x84x84, .f32⟩
  | 58 => ⟨S512x256x1x1, .f32⟩
  | 59 => ⟨S512x256, .f32⟩
  | 60 => ⟨S512x1x84x84, .f32⟩
  | 61 => ⟨S1x512x84x84, .f32⟩
  | 62 => ⟨S1x512x84x84, .f32⟩
  | 63 => ⟨S1x256x84x84, .f32⟩
  | 64 => ⟨S512x256x1x1, .f32⟩
  | 65 => ⟨S512x256, .f32⟩
  | 66 => ⟨S512x1x84x84, .f32⟩
  | 67 => ⟨S1x512x84x84, .f32⟩
  | 68 => ⟨S1x512x84x84, .f32⟩
  | 69 => ⟨S1x512x1x1, .f32⟩
  | 70 => ⟨S1x512x84x84, .f32⟩
  | 71 => ⟨S1x512x84x84, .f32⟩
  | 72 => ⟨S_, .f32⟩
  | 73 => ⟨S1x512x84x84, .f32⟩
  | 74 => ⟨S1x512x84x84, .f32⟩
  | 75 => ⟨S18x512, .f32⟩
  | 76 => ⟨S18x1x84x84, .f32⟩
  | 77 => ⟨S1x18x84x84, .f32⟩
  | 78 => ⟨S1x18x1x1, .f32⟩
  | 79 => ⟨S1x18x84x84, .f32⟩
  | 80 => ⟨S1x18x84x84, .f32⟩
  | 81 => ⟨S1x2x756x84, .f32⟩
  | 82 => ⟨S_, .f32⟩
  | 83 => ⟨S1x756x84, .f32⟩
  | 84 => ⟨S_, .f32⟩
  | 85 => ⟨S1x756x84, .f32⟩
  | 86 => ⟨S1x756x84, .f32⟩
  | 87 => ⟨S1x1x756x84, .f32⟩
  | 88 => ⟨S1x2x756x84, .f32⟩
  | 89 => ⟨S1x2x756x84, .f32⟩
  | 90 => ⟨S1x2x756x84, .f32⟩
  | 91 => ⟨S_, .f32⟩
  | 92 => ⟨S1x756x84, .f32⟩
  | 93 => ⟨S1x1x756x84, .f32⟩
  | 94 => ⟨S1x2x756x84, .f32⟩
  | 95 => ⟨S1x2x756x84, .f32⟩
  | 96 => ⟨S1x18x84x84, .f32⟩
  | 97 => ⟨S36x512, .f32⟩
  | 98 => ⟨S36x1x84x84, .f32⟩
  | 99 => ⟨S1x36x84x84, .f32⟩
  | 100 => ⟨S1x36x1x1, .f32⟩
  | 101 => ⟨S1x36x84x84, .f32⟩
  | 102 => ⟨S1x36x84x84, .f32⟩
  | 103 => ⟨S7056, .i32⟩
  | 104 => ⟨S_, .i32⟩
  | 105 => ⟨S_, .i32⟩
  | 106 => ⟨S_, .i32⟩
  | 107 => ⟨S_, .i1⟩
  | 108 => ⟨S_, .i32⟩
  | 109 => ⟨S_, .i32⟩
  | 110 => ⟨S7056, .i32⟩
  | 111 => ⟨S7056, .i32⟩
  | 112 => ⟨S_, .i32⟩
  | 113 => ⟨S7056, .i32⟩
  | 114 => ⟨S7056, .i1⟩
  | 115 => ⟨S_, .i32⟩
  | 116 => ⟨S7056, .i32⟩
  | 117 => ⟨S7056, .i1⟩
  | 118 => ⟨S_, .i32⟩
  | 119 => ⟨S_, .i1⟩
  | 120 => ⟨S7056, .i1⟩
  | 121 => ⟨S7056, .i1⟩
  | 122 => ⟨S7056, .i1⟩
  | 123 => ⟨S7056, .i32⟩
  | 124 => ⟨S7056, .i32⟩
  | 125 => ⟨S7056, .i32⟩
  | 126 => ⟨S_, .i32⟩
  | 127 => ⟨S7056, .i32⟩
  | _ => ⟨S1x256x84x84, .f32⟩

abbrev hbmTy0_1 (i : Nat) : BufTy := match i % 128 with
  | 0 => ⟨S7056, .i32⟩
  | 1 => ⟨S7056, .f32⟩
  | 2 => ⟨S_, .i32⟩
  | 3 => ⟨S_, .i32⟩
  | 4 => ⟨S7056, .i32⟩
  | 5 => ⟨S7056, .i32⟩
  | 6 => ⟨S7056, .i32⟩
  | 7 => ⟨S_, .i32⟩
  | 8 => ⟨S7056, .i32⟩
  | 9 => ⟨S7056, .i1⟩
  | 10 => ⟨S7056, .i32⟩
  | 11 => ⟨S7056, .i32⟩
  | 12 => ⟨S_, .i32⟩
  | 13 => ⟨S7056, .i32⟩
  | 14 => ⟨S7056, .i1⟩
  | 15 => ⟨S7056, .i1⟩
  | 16 => ⟨S_, .i32⟩
  | 17 => ⟨S7056, .i32⟩
  | 18 => ⟨S7056, .i32⟩
  | 19 => ⟨S7056, .i32⟩
  | 20 => ⟨S_, .i32⟩
  | 21 => ⟨S7056, .i32⟩
  | 22 => ⟨S7056, .i32⟩
  | 23 => ⟨S7056, .f32⟩
  | 24 => ⟨S7056x1, .f32⟩
  | 25 => ⟨S7056x1, .f32⟩
  | 26 => ⟨S7056x1, .f32⟩
  | 27 => ⟨S7056x1, .f32⟩
  | 28 => ⟨S7056x4, .f32⟩
  | 29 => ⟨S1x9x4, .f32⟩
  | 30 => ⟨S7056x1x4, .f32⟩
  | 31 => ⟨S7056x9x4, .f32⟩
  | 32 => ⟨S7056x9x4, .f32⟩
  | 33 => ⟨S7056x9x4, .f32⟩
  | 34 => ⟨S63504x4, .f32⟩
  | 35 => ⟨S1x9x84x84, .f32⟩
  | 36 => ⟨S9x84x84, .f32⟩
  | 37 => ⟨S84x84x9, .f32⟩
  | 38 => ⟨S63504, .f32⟩
  | 39 => ⟨S36x84x84, .f32⟩
  | 40 => ⟨S84x84x36, .f32⟩
  | 41 => ⟨S63504x4, .f32⟩
  | 42 => ⟨S63504x1, .f32⟩
  | 43 => ⟨S63504, .f32⟩
  | 44 => ⟨S63504x1, .f32⟩
  | 45 => ⟨S63504, .f32⟩
  | 46 => ⟨S63504, .f32⟩
  | 47 => ⟨S_, .f32⟩
  | 48 => ⟨S63504, .f32⟩
  | 49 => ⟨S63504, .f32⟩
  | 50 => ⟨S63504x1, .f32⟩
  | 51 => ⟨S63504, .f32⟩
  | 52 => ⟨S63504x1, .f32⟩
  | 53 => ⟨S63504, .f32⟩
  | 54 => ⟨S63504, .f32⟩
  | 55 => ⟨S_, .f32⟩
  | 56 => ⟨S63504, .f32⟩
  | 57 => ⟨S63504, .f32⟩
  | 58 => ⟨S63504x1, .f32⟩
  | 59 => ⟨S63504, .f32⟩
  | 60 => ⟨S_, .f32⟩
  | 61 => ⟨S63504, .f32⟩
  | 62 => ⟨S63504, .f32⟩
  | 63 => ⟨S63504, .f32⟩
  | 64 => ⟨S63504x1, .f32⟩
  | 65 => ⟨S63504, .f32⟩
  | 66 => ⟨S_, .f32⟩
  | 67 => ⟨S63504, .f32⟩
  | 68 => ⟨S63504, .f32⟩
  | 69 => ⟨S63504, .f32⟩
  | 70 => ⟨S63504x1, .f32⟩
  | 71 => ⟨S63504, .f32⟩
  | 72 => ⟨S63504x1, .f32⟩
  | 73 => ⟨S63504, .f32⟩
  | 74 => ⟨S63504x1, .f32⟩
  | 75 => ⟨S63504, .f32⟩
  | 76 => ⟨S63504x1, .f32⟩
  | 77 => ⟨S63504, .f32⟩
  | 78 => ⟨S63504, .f32⟩
  | 79 => ⟨S63504, .f32⟩
  | 80 => ⟨S63504, .f32⟩
  | 81 => ⟨S63504, .f32⟩
  | 82 => ⟨S63504, .f32⟩
  | 83 => ⟨S63504, .f32⟩
  | 84 => ⟨S63504, .f32⟩
  | 85 => ⟨S63504, .f32⟩
  | 86 => ⟨S_, .f32⟩
  | 87 => ⟨S63504, .f32⟩
  | 88 => ⟨S63504, .f32⟩
  | 89 => ⟨S63504, .f32⟩
  | 90 => ⟨S_, .f32⟩
  | 91 => ⟨S63504, .f32⟩
  | 92 => ⟨S63504, .f32⟩
  | 93 => ⟨S63504, .f32⟩
  | 94 => ⟨S_, .f32⟩
  | 95 => ⟨S63504, .f32⟩
  | 96 => ⟨S63504, .f32⟩
  | 97 => ⟨S63504, .f32⟩
  | 98 => ⟨S_, .f32⟩
  | 99 => ⟨S63504, .f32⟩
  | 100 => ⟨S63504, .f32⟩
  | 101 => ⟨S63504, .f32⟩
  | 102 => ⟨S63504x1, .f32⟩
  | 103 => ⟨S63504x1, .f32⟩
  | 104 => ⟨S63504x1, .f32⟩
  | 105 => ⟨S63504x1, .f32⟩
  | 106 => ⟨S63504x4, .f32⟩
  | 107 => ⟨S63504x1, .f32⟩
  | 108 => ⟨S63504, .f32⟩
  | 109 => ⟨S1, .f32⟩
  | 110 => ⟨S_, .f32⟩
  | 111 => ⟨S_, .f32⟩
  | 112 => ⟨S_, .f32⟩
  | 113 => ⟨S_, .f32⟩
  | 114 => ⟨S_, .f32⟩
  | 115 => ⟨S63504, .f32⟩
  | 116 => ⟨S63504, .f32⟩
  | 117 => ⟨S63504, .f32⟩
  | 118 => ⟨S63504, .f32⟩
  | 119 => ⟨S63504x1, .f32⟩
  | 120 => ⟨S63504, .f32⟩
  | 121 => ⟨S1, .f32⟩
  | 122 => ⟨S_, .f32⟩
  | 123 => ⟨S_, .f32⟩
  | 124 => ⟨S_, .f32⟩
  | 125 => ⟨S_, .f32⟩
  | 126 => ⟨S_, .f32⟩
  | 127 => ⟨S63504, .f32⟩
  | _ => ⟨S1x256x84x84, .f32⟩

abbrev hbmTy0_2 (i : Nat) : BufTy := match i % 128 with
  | 0 => ⟨S63504, .f32⟩
  | 1 => ⟨S63504, .f32⟩
  | 2 => ⟨S63504, .f32⟩
  | 3 => ⟨S63504x1, .f32⟩
  | 4 => ⟨S63504, .f32⟩
  | 5 => ⟨S1, .f32⟩
  | 6 => ⟨S_, .f32⟩
  | 7 => ⟨S_, .f32⟩
  | 8 => ⟨S_, .f32⟩
  | 9 => ⟨S_, .f32⟩
  | 10 => ⟨S_, .f32⟩
  | 11 => ⟨S63504, .f32⟩
  | 12 => ⟨S63504, .f32⟩
  | 13 => ⟨S63504, .f32⟩
  | 14 => ⟨S63504, .f32⟩
  | 15 => ⟨S63504x1, .f32⟩
  | 16 => ⟨S63504, .f32⟩
  | 17 => ⟨S1, .f32⟩
  | 18 => ⟨S_, .f32⟩
  | 19 => ⟨S_, .f32⟩
  | 20 => ⟨S_, .f32⟩
  | 21 => ⟨S_, .f32⟩
  | 22 => ⟨S_, .f32⟩
  | 23 => ⟨S63504, .f32⟩
  | 24 => ⟨S63504, .f32⟩
  | 25 => ⟨S63504, .f32⟩
  | 26 => ⟨S63504, .f32⟩
  | 27 => ⟨S63504x1, .f32⟩
  | 28 => ⟨S63504x1, .f32⟩
  | 29 => ⟨S63504x1, .f32⟩
  | 30 => ⟨S63504x1, .f32⟩
  | 31 => ⟨S63504x4, .f32⟩
  | 32 => ⟨S63504x1, .f32⟩
  | 33 => ⟨S63504, .f32⟩
  | 34 => ⟨S63504x1, .f32⟩
  | 35 => ⟨S63504, .f32⟩
  | 36 => ⟨S63504, .f32⟩
  | 37 => ⟨S_, .f32⟩
  | 38 => ⟨S63504, .f32⟩
  | 39 => ⟨S63504, .f32⟩
  | 40 => ⟨S63504x1, .f32⟩
  | 41 => ⟨S63504, .f32⟩
  | 42 => ⟨S63504x1, .f32⟩
  | 43 => ⟨S63504, .f32⟩
  | 44 => ⟨S63504, .f32⟩
  | 45 => ⟨S_, .f32⟩
  | 46 => ⟨S63504, .f32⟩
  | 47 => ⟨S63504, .f32⟩
  | 48 => ⟨S1, .f32⟩
  | 49 => ⟨S_, .f32⟩
  | 50 => ⟨S_, .f32⟩
  | 51 => ⟨S_, .f32⟩
  | 52 => ⟨S63504, .f32⟩
  | 53 => ⟨S63504, .i1⟩
  | 54 => ⟨S63504, .f32⟩
  | 55 => ⟨S63504, .i1⟩
  | 56 => ⟨S63504, .i1⟩
  | 57 => ⟨S_, .f32⟩
  | 58 => ⟨S_, .f32⟩
  | 59 => ⟨S63504, .f32⟩
  | 60 => ⟨S63504, .f32⟩
  | 61 => ⟨S63504x1, .f32⟩
  | 62 => ⟨S63504, .f32⟩
  | 63 => ⟨S63504x1, .f32⟩
  | 64 => ⟨S63504, .f32⟩
  | 65 => ⟨S63504x1, .f32⟩
  | 66 => ⟨S63504, .f32⟩
  | 67 => ⟨S63504x1, .f32⟩
  | 68 => ⟨S63504, .f32⟩
  | 69 => ⟨S_, .f32⟩
  | 70 => ⟨S_, .f32⟩
  | _ => ⟨S1x256x84x84, .f32⟩

abbrev hbmTy (i : Nat) : BufTy := match i / 128 with
  | 0 => hbmTy0_0 i
  | 1 => hbmTy0_1 i
  | 2 => hbmTy0_2 i
  | _ => ⟨S1x256x84x84, .f32⟩

abbrev bufTy : (tb : Table) → Fin (tcTables nBuf tb) → BufTy
  | .hbm, ⟨i, _⟩ => hbmTy i
  | _, _ => ⟨S1x256x84x84, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_call1_cst : Ref sig .tc := ⟨.hbm, 72, rfl⟩
abbrev main_call1_v0 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_cst_1 : Ref sig .tc := ⟨.hbm, 82, rfl⟩
abbrev main_v67 : Ref sig .tc := ⟨.hbm, 83, rfl⟩
abbrev main_cst_2 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_cst_3 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_c_4 : Ref sig .tc := ⟨.hbm, 104, rfl⟩
abbrev main_call2_v0 : Ref sig .tc := ⟨.hbm, 105, rfl⟩
abbrev main_call2_c : Ref sig .tc := ⟨.hbm, 106, rfl⟩
abbrev main_call2_v1 : Ref sig .tc := ⟨.hbm, 107, rfl⟩
abbrev main_call2_c_0 : Ref sig .tc := ⟨.hbm, 108, rfl⟩
abbrev main_call2_v2 : Ref sig .tc := ⟨.hbm, 109, rfl⟩
abbrev main_call2_v3 : Ref sig .tc := ⟨.hbm, 110, rfl⟩
abbrev main_call2_v4 : Ref sig .tc := ⟨.hbm, 111, rfl⟩
abbrev main_call2_c_1 : Ref sig .tc := ⟨.hbm, 112, rfl⟩
abbrev main_call2_v5 : Ref sig .tc := ⟨.hbm, 113, rfl⟩
abbrev main_call2_v6 : Ref sig .tc := ⟨.hbm, 114, rfl⟩
abbrev main_call2_c_2 : Ref sig .tc := ⟨.hbm, 115, rfl⟩
abbrev main_call2_v7 : Ref sig .tc := ⟨.hbm, 116, rfl⟩
abbrev main_call2_v8 : Ref sig .tc := ⟨.hbm, 117, rfl⟩
abbrev main_call2_c_3 : Ref sig .tc := ⟨.hbm, 118, rfl⟩
abbrev main_call2_v9 : Ref sig .tc := ⟨.hbm, 119, rfl⟩
abbrev main_call2_v10 : Ref sig .tc := ⟨.hbm, 120, rfl⟩
abbrev main_call2_v11 : Ref sig .tc := ⟨.hbm, 121, rfl⟩
abbrev main_call2_v12 : Ref sig .tc := ⟨.hbm, 122, rfl⟩
abbrev main_call2_v13 : Ref sig .tc := ⟨.hbm, 123, rfl⟩
abbrev main_call2_v14 : Ref sig .tc := ⟨.hbm, 124, rfl⟩
abbrev main_v86 : Ref sig .tc := ⟨.hbm, 125, rfl⟩
abbrev main_c_5 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_c_6 : Ref sig .tc := ⟨.hbm, 130, rfl⟩
abbrev main_call3_v0 : Ref sig .tc := ⟨.hbm, 131, rfl⟩
abbrev main_call3_v1 : Ref sig .tc := ⟨.hbm, 132, rfl⟩
abbrev main_call3_v2 : Ref sig .tc := ⟨.hbm, 133, rfl⟩
abbrev main_call3_v3 : Ref sig .tc := ⟨.hbm, 134, rfl⟩
abbrev main_call3_v4 : Ref sig .tc := ⟨.hbm, 135, rfl⟩
abbrev main_call3_v5 : Ref sig .tc := ⟨.hbm, 136, rfl⟩
abbrev main_call3_v6 : Ref sig .tc := ⟨.hbm, 137, rfl⟩
abbrev main_call3_v7 : Ref sig .tc := ⟨.hbm, 138, rfl⟩
abbrev main_call3_v8 : Ref sig .tc := ⟨.hbm, 139, rfl⟩
abbrev main_call3_c : Ref sig .tc := ⟨.hbm, 140, rfl⟩
abbrev main_call3_v9 : Ref sig .tc := ⟨.hbm, 141, rfl⟩
abbrev main_call3_v10 : Ref sig .tc := ⟨.hbm, 142, rfl⟩
abbrev main_call3_v11 : Ref sig .tc := ⟨.hbm, 143, rfl⟩
abbrev main_call3_c_0 : Ref sig .tc := ⟨.hbm, 144, rfl⟩
abbrev main_call3_v12 : Ref sig .tc := ⟨.hbm, 145, rfl⟩
abbrev main_call3_v13 : Ref sig .tc := ⟨.hbm, 146, rfl⟩
abbrev main_v90 : Ref sig .tc := ⟨.hbm, 147, rfl⟩
abbrev main_c_7 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_cst_8 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_cst_9 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_cst_10 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_cst_11 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_cst_12 : Ref sig .tc := ⟨.hbm, 214, rfl⟩
abbrev main_v152 : Ref sig .tc := ⟨.hbm, 215, rfl⟩
abbrev main_v153 : Ref sig .tc := ⟨.hbm, 216, rfl⟩
abbrev main_v154 : Ref sig .tc := ⟨.hbm, 217, rfl⟩
abbrev main_cst_13 : Ref sig .tc := ⟨.hbm, 218, rfl⟩
abbrev main_v155 : Ref sig .tc := ⟨.hbm, 219, rfl⟩
abbrev main_v156 : Ref sig .tc := ⟨.hbm, 220, rfl⟩
abbrev main_v157 : Ref sig .tc := ⟨.hbm, 221, rfl⟩
abbrev main_cst_14 : Ref sig .tc := ⟨.hbm, 222, rfl⟩
abbrev main_v158 : Ref sig .tc := ⟨.hbm, 223, rfl⟩
abbrev main_v159 : Ref sig .tc := ⟨.hbm, 224, rfl⟩
abbrev main_v160 : Ref sig .tc := ⟨.hbm, 225, rfl⟩
abbrev main_cst_15 : Ref sig .tc := ⟨.hbm, 226, rfl⟩
abbrev main_v161 : Ref sig .tc := ⟨.hbm, 227, rfl⟩
abbrev main_v162 : Ref sig .tc := ⟨.hbm, 228, rfl⟩
abbrev main_v163 : Ref sig .tc := ⟨.hbm, 229, rfl⟩
abbrev main_v164 : Ref sig .tc := ⟨.hbm, 230, rfl⟩
abbrev main_v165 : Ref sig .tc := ⟨.hbm, 231, rfl⟩
abbrev main_v166 : Ref sig .tc := ⟨.hbm, 232, rfl⟩
abbrev main_v167 : Ref sig .tc := ⟨.hbm, 233, rfl⟩
abbrev main_v168 : Ref sig .tc := ⟨.hbm, 234, rfl⟩
abbrev main_v169 : Ref sig .tc := ⟨.hbm, 235, rfl⟩
abbrev main_v170 : Ref sig .tc := ⟨.hbm, 236, rfl⟩
abbrev main_v171 : Ref sig .tc := ⟨.hbm, 237, rfl⟩
abbrev main_v172 : Ref sig .tc := ⟨.hbm, 238, rfl⟩
abbrev main_cst_16 : Ref sig .tc := ⟨.hbm, 239, rfl⟩
abbrev main_v173 : Ref sig .tc := ⟨.hbm, 240, rfl⟩
abbrev main_cst_17 : Ref sig .tc := ⟨.hbm, 241, rfl⟩
abbrev main_call4_v0 : Ref sig .tc := ⟨.hbm, 242, rfl⟩
abbrev main_call4_v1 : Ref sig .tc := ⟨.hbm, 243, rfl⟩
abbrev main_call4_v2 : Ref sig .tc := ⟨.hbm, 244, rfl⟩
abbrev main_call4_v3 : Ref sig .tc := ⟨.hbm, 245, rfl⟩
abbrev main_v174 : Ref sig .tc := ⟨.hbm, 246, rfl⟩
abbrev main_v175 : Ref sig .tc := ⟨.hbm, 247, rfl⟩
abbrev main_v176 : Ref sig .tc := ⟨.hbm, 248, rfl⟩
abbrev main_v177 : Ref sig .tc := ⟨.hbm, 249, rfl⟩
abbrev main_v178 : Ref sig .tc := ⟨.hbm, 250, rfl⟩
abbrev main_cst_18 : Ref sig .tc := ⟨.hbm, 251, rfl⟩
abbrev main_v179 : Ref sig .tc := ⟨.hbm, 252, rfl⟩
abbrev main_cst_19 : Ref sig .tc := ⟨.hbm, 253, rfl⟩
abbrev main_call5_v0 : Ref sig .tc := ⟨.hbm, 254, rfl⟩
abbrev main_call5_v1 : Ref sig .tc := ⟨.hbm, 255, rfl⟩
abbrev main_call5_v2 : Ref sig .tc := ⟨.hbm, 256, rfl⟩
abbrev main_call5_v3 : Ref sig .tc := ⟨.hbm, 257, rfl⟩
abbrev main_v180 : Ref sig .tc := ⟨.hbm, 258, rfl⟩
abbrev main_v181 : Ref sig .tc := ⟨.hbm, 259, rfl⟩
abbrev main_v182 : Ref sig .tc := ⟨.hbm, 260, rfl⟩
abbrev main_v183 : Ref sig .tc := ⟨.hbm, 261, rfl⟩
abbrev main_v184 : Ref sig .tc := ⟨.hbm, 262, rfl⟩
abbrev main_cst_20 : Ref sig .tc := ⟨.hbm, 263, rfl⟩
abbrev main_v185 : Ref sig .tc := ⟨.hbm, 264, rfl⟩
abbrev main_cst_21 : Ref sig .tc := ⟨.hbm, 265, rfl⟩
abbrev main_call6_v0 : Ref sig .tc := ⟨.hbm, 266, rfl⟩
abbrev main_call6_v1 : Ref sig .tc := ⟨.hbm, 267, rfl⟩
abbrev main_call6_v2 : Ref sig .tc := ⟨.hbm, 268, rfl⟩
abbrev main_call6_v3 : Ref sig .tc := ⟨.hbm, 269, rfl⟩
abbrev main_v186 : Ref sig .tc := ⟨.hbm, 270, rfl⟩
abbrev main_v187 : Ref sig .tc := ⟨.hbm, 271, rfl⟩
abbrev main_v188 : Ref sig .tc := ⟨.hbm, 272, rfl⟩
abbrev main_v189 : Ref sig .tc := ⟨.hbm, 273, rfl⟩
abbrev main_v190 : Ref sig .tc := ⟨.hbm, 274, rfl⟩
abbrev main_cst_22 : Ref sig .tc := ⟨.hbm, 275, rfl⟩
abbrev main_v191 : Ref sig .tc := ⟨.hbm, 276, rfl⟩
abbrev main_cst_23 : Ref sig .tc := ⟨.hbm, 277, rfl⟩
abbrev main_call7_v0 : Ref sig .tc := ⟨.hbm, 278, rfl⟩
abbrev main_call7_v1 : Ref sig .tc := ⟨.hbm, 279, rfl⟩
abbrev main_call7_v2 : Ref sig .tc := ⟨.hbm, 280, rfl⟩
abbrev main_call7_v3 : Ref sig .tc := ⟨.hbm, 281, rfl⟩
abbrev main_v192 : Ref sig .tc := ⟨.hbm, 282, rfl⟩
abbrev main_v193 : Ref sig .tc := ⟨.hbm, 283, rfl⟩
abbrev main_v194 : Ref sig .tc := ⟨.hbm, 284, rfl⟩
abbrev main_v195 : Ref sig .tc := ⟨.hbm, 285, rfl⟩
abbrev main_v196 : Ref sig .tc := ⟨.hbm, 286, rfl⟩
abbrev main_v197 : Ref sig .tc := ⟨.hbm, 287, rfl⟩
abbrev main_v198 : Ref sig .tc := ⟨.hbm, 288, rfl⟩
abbrev main_v199 : Ref sig .tc := ⟨.hbm, 289, rfl⟩
abbrev main_v200 : Ref sig .tc := ⟨.hbm, 290, rfl⟩
abbrev main_v201 : Ref sig .tc := ⟨.hbm, 291, rfl⟩
abbrev main_v202 : Ref sig .tc := ⟨.hbm, 292, rfl⟩
abbrev main_cst_24 : Ref sig .tc := ⟨.hbm, 293, rfl⟩
abbrev main_v203 : Ref sig .tc := ⟨.hbm, 294, rfl⟩
abbrev main_v204 : Ref sig .tc := ⟨.hbm, 295, rfl⟩
abbrev main_v205 : Ref sig .tc := ⟨.hbm, 296, rfl⟩
abbrev main_v206 : Ref sig .tc := ⟨.hbm, 297, rfl⟩
abbrev main_v207 : Ref sig .tc := ⟨.hbm, 298, rfl⟩
abbrev main_v208 : Ref sig .tc := ⟨.hbm, 299, rfl⟩
abbrev main_v209 : Ref sig .tc := ⟨.hbm, 300, rfl⟩
abbrev main_cst_25 : Ref sig .tc := ⟨.hbm, 301, rfl⟩
abbrev main_v210 : Ref sig .tc := ⟨.hbm, 302, rfl⟩
abbrev main_v211 : Ref sig .tc := ⟨.hbm, 303, rfl⟩
abbrev main_v212 : Ref sig .tc := ⟨.hbm, 304, rfl⟩
abbrev main_v213 : Ref sig .tc := ⟨.hbm, 305, rfl⟩
abbrev main_cst_26 : Ref sig .tc := ⟨.hbm, 306, rfl⟩
abbrev main_v214 : Ref sig .tc := ⟨.hbm, 307, rfl⟩
abbrev main_v215 : Ref sig .tc := ⟨.hbm, 308, rfl⟩
abbrev main_v216 : Ref sig .tc := ⟨.hbm, 309, rfl⟩
abbrev main_v217 : Ref sig .tc := ⟨.hbm, 310, rfl⟩
abbrev main_v218 : Ref sig .tc := ⟨.hbm, 311, rfl⟩
abbrev main_v219 : Ref sig .tc := ⟨.hbm, 312, rfl⟩
abbrev main_cst_27 : Ref sig .tc := ⟨.hbm, 313, rfl⟩
abbrev main_call8_v0 : Ref sig .tc := ⟨.hbm, 314, rfl⟩
abbrev main_call8_v1 : Ref sig .tc := ⟨.hbm, 315, rfl⟩
abbrev main_v220 : Ref sig .tc := ⟨.hbm, 316, rfl⟩
abbrev main_v221 : Ref sig .tc := ⟨.hbm, 317, rfl⟩
abbrev main_v222 : Ref sig .tc := ⟨.hbm, 318, rfl⟩
abbrev main_v223 : Ref sig .tc := ⟨.hbm, 319, rfl⟩
abbrev main_v224 : Ref sig .tc := ⟨.hbm, 320, rfl⟩
abbrev main_v225 : Ref sig .tc := ⟨.hbm, 321, rfl⟩
abbrev main_v226 : Ref sig .tc := ⟨.hbm, 322, rfl⟩
abbrev main_v227 : Ref sig .tc := ⟨.hbm, 323, rfl⟩
abbrev main_v228 : Ref sig .tc := ⟨.hbm, 324, rfl⟩
abbrev main_cst_28 : Ref sig .tc := ⟨.hbm, 325, rfl⟩
abbrev main_cst_29 : Ref sig .tc := ⟨.hbm, 326, rfl⟩

abbrev nD : Nat := 1
abbrev τ : Topo := Topo.v7x

variable {F : FTy → Type} [FloatOps F]
-- ==== Select.lean ====
abbrev S63504 : Shape := ⟨1, ![63504]⟩
abbrev S6000 : Shape := ⟨1, ![6000]⟩
abbrev S_ : Shape := ⟨0, ![]⟩
abbrev S6000x1 : Shape := ⟨2, ![6000, 1]⟩
abbrev S144 : Shape := ⟨1, ![144]⟩
abbrev S6144 : Shape := ⟨1, ![6144]⟩
abbrev S48x128 : Shape := ⟨2, ![48, 128]⟩
abbrev S128x128 : Shape := ⟨2, ![128, 128]⟩
abbrev S1x128 : Shape := ⟨2, ![1, 128]⟩
abbrev S128x1 : Shape := ⟨2, ![128, 1]⟩
abbrev S128 : Shape := ⟨1, ![128]⟩
abbrev S1x128x1 : Shape := ⟨3, ![1, 128, 1]⟩
abbrev S1 : Shape := ⟨1, ![1]⟩
abbrev S1x1x1 : Shape := ⟨3, ![1, 1, 1]⟩
abbrev S1x1x128 : Shape := ⟨3, ![1, 1, 128]⟩
abbrev S300 : Shape := ⟨1, ![300]⟩
abbrev S300x1 : Shape := ⟨2, ![300, 1]⟩
abbrev S300x5 : Shape := ⟨2, ![300, 5]⟩

abbrev nBuf : Space → Nat
  | .hbm => 115
  | .vmem => 7
  | .smem => 0
  | _ => 0

abbrev bufTy : (tb : Table) → Fin (tcTables nBuf tb) → BufTy
  | .hbm, ⟨0, _⟩ => ⟨S63504, .f32⟩
  | .hbm, ⟨1, _⟩ => ⟨S63504, .f32⟩
  | .hbm, ⟨2, _⟩ => ⟨S63504, .f32⟩
  | .hbm, ⟨3, _⟩ => ⟨S63504, .f32⟩
  | .hbm, ⟨4, _⟩ => ⟨S63504, .f32⟩
  | .hbm, ⟨5, _⟩ => ⟨S6000, .f32⟩
  | .hbm, ⟨6, _⟩ => ⟨S6000, .i32⟩
  | .hbm, ⟨7, _⟩ => ⟨S_, .i32⟩
  | .hbm, ⟨8, _⟩ => ⟨S6000, .i32⟩
  | .hbm, ⟨9, _⟩ => ⟨S6000, .i1⟩
  | .hbm, ⟨10, _⟩ => ⟨S_, .i32⟩
  | .hbm, ⟨11, _⟩ => ⟨S6000, .i32⟩
  | .hbm, ⟨12, _⟩ => ⟨S6000, .i32⟩
  | .hbm, ⟨13, _⟩ => ⟨S6000, .i32⟩
  | .hbm, ⟨14, _⟩ => ⟨S6000x1, .i32⟩
  | .hbm, ⟨15, _⟩ => ⟨S6000, .f32⟩
  | .hbm, ⟨16, _⟩ => ⟨S_, .i32⟩
  | .hbm, ⟨17, _⟩ => ⟨S6000, .i32⟩
  | .hbm, ⟨18, _⟩ => ⟨S6000, .i1⟩
  | .hbm, ⟨19, _⟩ => ⟨S_, .i32⟩
  | .hbm, ⟨20, _⟩ => ⟨S6000, .i32⟩
  | .hbm, ⟨21, _⟩ => ⟨S6000, .i32⟩
  | .hbm, ⟨22, _⟩ => ⟨S6000, .i32⟩
  | .hbm, ⟨23, _⟩ => ⟨S6000x1, .i32⟩
  | .hbm, ⟨24, _⟩ => ⟨S6000, .f32⟩
  | .hbm, ⟨25, _⟩ => ⟨S_, .i32⟩
  | .hbm, ⟨26, _⟩ => ⟨S6000, .i32⟩
  | .hbm, ⟨27, _⟩ => ⟨S6000, .i1⟩
  | .hbm, ⟨28, _⟩ => ⟨S_, .i32⟩
  | .hbm, ⟨29, _⟩ => ⟨S6000, .i32⟩
  | .hbm, ⟨30, _⟩ => ⟨S6000, .i32⟩
  | .hbm, ⟨31, _⟩ => ⟨S6000, .i32⟩
  | .hbm, ⟨32, _⟩ => ⟨S6000x1, .i32⟩
  | .hbm, ⟨33, _⟩ => ⟨S6000, .f32⟩
  | .hbm, ⟨34, _⟩ => ⟨S_, .i32⟩
  | .hbm, ⟨35, _⟩ => ⟨S6000, .i32⟩
  | .hbm, ⟨36, _⟩ => ⟨S6000, .i1⟩
  | .hbm, ⟨37, _⟩ => ⟨S_, .i32⟩
  | .hbm, ⟨38, _⟩ => ⟨S6000, .i32⟩
  | .hbm, ⟨39, _⟩ => ⟨S6000, .i32⟩
  | .hbm, ⟨40, _⟩ => ⟨S6000, .i32⟩
  | .hbm, ⟨41, _⟩ => ⟨S6000x1, .i32⟩
  | .hbm, ⟨42, _⟩ => ⟨S6000, .f32⟩
  | .hbm, ⟨43, _⟩ => ⟨S_, .f32⟩
  | .hbm, ⟨44, _⟩ => ⟨S144, .f32⟩
  | .hbm, ⟨45, _⟩ => ⟨S6144, .f32⟩
  | .hbm, ⟨46, _⟩ => ⟨S48x128, .f32⟩
  | .hbm, ⟨47, _⟩ => ⟨S_, .f32⟩
  | .hbm, ⟨48, _⟩ => ⟨S144, .f32⟩
  | .hbm, ⟨49, _⟩ => ⟨S6144, .f32⟩
  | .hbm, ⟨50, _⟩ => ⟨S48x128, .f32⟩
  | .hbm, ⟨51, _⟩ => ⟨S_, .f32⟩
  | .hbm, ⟨52, _⟩ => ⟨S144, .f32⟩
  | .hbm, ⟨53, _⟩ => ⟨S6144, .f32⟩
  | .hbm, ⟨54, _⟩ => ⟨S48x128, .f32⟩
  | .hbm, ⟨55, _⟩ => ⟨S_, .f32⟩
  | .hbm, ⟨56, _⟩ => ⟨S144, .f32⟩
  | .hbm, ⟨57, _⟩ => ⟨S6144, .f32⟩
  | .hbm, ⟨58, _⟩ => ⟨S48x128, .f32⟩
  | .hbm, ⟨59, _⟩ => ⟨S48x128, .f32⟩
  | .hbm, ⟨60, _⟩ => ⟨S6144, .f32⟩
  | .hbm, ⟨61, _⟩ => ⟨S6000, .f32⟩
  | .hbm, ⟨62, _⟩ => ⟨S_, .f32⟩
  | .hbm, ⟨63, _⟩ => ⟨S6000, .f32⟩
  | .hbm, ⟨64, _⟩ => ⟨S6000, .i1⟩
  | .hbm, ⟨65, _⟩ => ⟨S_, .f32⟩
  | .hbm, ⟨66, _⟩ => ⟨S_, .f32⟩
  | .hbm, ⟨67, _⟩ => ⟨S6000, .f32⟩
  | .hbm, ⟨68, _⟩ => ⟨S6000, .f32⟩
  | .hbm, ⟨69, _⟩ => ⟨S300, .f32⟩
  | .hbm, ⟨70, _⟩ => ⟨S300, .i32⟩
  | .hbm, ⟨71, _⟩ => ⟨S_, .f32⟩
  | .hbm, ⟨72, _⟩ => ⟨S300, .f32⟩
  | .hbm, ⟨73, _⟩ => ⟨S_, .i32⟩
  | .hbm, ⟨74, _⟩ => ⟨S300, .i32⟩
  | .hbm, ⟨75, _⟩ => ⟨S300, .i1⟩
  | .hbm, ⟨76, _⟩ => ⟨S_, .i32⟩
  | .hbm, ⟨77, _⟩ => ⟨S300, .i32⟩
  | .hbm, ⟨78, _⟩ => ⟨S300, .i32⟩
  | .hbm, ⟨79, _⟩ => ⟨S300, .i32⟩
  | .hbm, ⟨80, _⟩ => ⟨S300x1, .i32⟩
  | .hbm, ⟨81, _⟩ => ⟨S300, .f32⟩
  | .hbm, ⟨82, _⟩ => ⟨S_, .i32⟩
  | .hbm, ⟨83, _⟩ => ⟨S300, .i32⟩
  | .hbm, ⟨84, _⟩ => ⟨S300, .i1⟩
  | .hbm, ⟨85, _⟩ => ⟨S_, .i32⟩
  | .hbm, ⟨86, _⟩ => ⟨S300, .i32⟩
  | .hbm, ⟨87, _⟩ => ⟨S300, .i32⟩
  | .hbm, ⟨88, _⟩ => ⟨S300, .i32⟩
  | .hbm, ⟨89, _⟩ => ⟨S300x1, .i32⟩
  | .hbm, ⟨90, _⟩ => ⟨S300, .f32⟩
  | .hbm, ⟨91, _⟩ => ⟨S_, .i32⟩
  | .hbm, ⟨92, _⟩ => ⟨S300, .i32⟩
  | .hbm, ⟨93, _⟩ => ⟨S300, .i1⟩
  | .hbm, ⟨94, _⟩ => ⟨S_, .i32⟩
  | .hbm, ⟨95, _⟩ => ⟨S300, .i32⟩
  | .hbm, ⟨96, _⟩ => ⟨S300, .i32⟩
  | .hbm, ⟨97, _⟩ => ⟨S300, .i32⟩
  | .hbm, ⟨98, _⟩ => ⟨S300x1, .i32⟩
  | .hbm, ⟨99, _⟩ => ⟨S300, .f32⟩
  | .hbm, ⟨100, _⟩ => ⟨S_, .i32⟩
  | .hbm, ⟨101, _⟩ => ⟨S300, .i32⟩
  | .hbm, ⟨102, _⟩ => ⟨S300, .i1⟩
  | .hbm, ⟨103, _⟩ => ⟨S_, .i32⟩
  | .hbm, ⟨104, _⟩ => ⟨S300, .i32⟩
  | .hbm, ⟨105, _⟩ => ⟨S300, .i32⟩
  | .hbm, ⟨106, _⟩ => ⟨S300, .i32⟩
  | .hbm, ⟨107, _⟩ => ⟨S300x1, .i32⟩
  | .hbm, ⟨108, _⟩ => ⟨S300, .f32⟩
  | .hbm, ⟨109, _⟩ => ⟨S300x1, .f32⟩
  | .hbm, ⟨110, _⟩ => ⟨S300x1, .f32⟩
  | .hbm, ⟨111, _⟩ => ⟨S300x1, .f32⟩
  | .hbm, ⟨112, _⟩ => ⟨S300x1, .f32⟩
  | .hbm, ⟨113, _⟩ => ⟨S300x1, .f32⟩
  | .hbm, ⟨114, _⟩ => ⟨S300x5, .f32⟩
  | .local _ .vmem, ⟨0, _⟩ => ⟨S48x128, .f32⟩
  | .local _ .vmem, ⟨1, _⟩ => ⟨S48x128, .f32⟩
  | .local _ .vmem, ⟨2, _⟩ => ⟨S48x128, .f32⟩
  | .local _ .vmem, ⟨3, _⟩ => ⟨S48x128, .f32⟩
  | .local _ .vmem, ⟨4, _⟩ => ⟨S48x128, .f32⟩
  | .local _ .vmem, ⟨5, _⟩ => ⟨S48x128, .f32⟩
  | .local _ .vmem, ⟨6, _⟩ => ⟨S48x128, .f32⟩
  | _, _ => ⟨S63504, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_values : Ref sig .tc := ⟨.hbm, 5, rfl⟩
abbrev main_indices : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_3 : Ref sig .tc := ⟨.hbm, 25, rfl⟩
abbrev main_v14 : Ref sig .tc := ⟨.hbm, 26, rfl⟩
abbrev main_v15 : Ref sig .tc := ⟨.hbm, 27, rfl⟩
abbrev main_c_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_5 : Ref sig .tc := ⟨.hbm, 34, rfl⟩
abbrev main_v21 : Ref sig .tc := ⟨.hbm, 35, rfl⟩
abbrev main_v22 : Ref sig .tc := ⟨.hbm, 36, rfl⟩
abbrev main_c_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_7 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_8 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_9 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_10 : Ref sig .tc := ⟨.hbm, 62, rfl⟩
abbrev main_v43 : Ref sig .tc := ⟨.hbm, 63, rfl⟩
abbrev main_v44 : Ref sig .tc := ⟨.hbm, 64, rfl⟩
abbrev main_cst_11 : Ref sig .tc := ⟨.hbm, 65, rfl⟩
abbrev main_call0_v0 : Ref sig .tc := ⟨.hbm, 66, rfl⟩
abbrev main_call0_v1 : Ref sig .tc := ⟨.hbm, 67, rfl⟩
abbrev main_v45 : Ref sig .tc := ⟨.hbm, 68, rfl⟩
abbrev main_values_12 : Ref sig .tc := ⟨.hbm, 69, rfl⟩
abbrev main_indices_13 : Ref sig .tc := ⟨.hbm, 70, rfl⟩
abbrev main_cst_14 : Ref sig .tc := ⟨.hbm, 71, rfl⟩
abbrev main_v46 : Ref sig .tc := ⟨.hbm, 72, rfl⟩
abbrev main_c_15 : Ref sig .tc := ⟨.hbm, 73, rfl⟩
abbrev main_v47 : Ref sig .tc := ⟨.hbm, 74, rfl⟩
abbrev main_v48 : Ref sig .tc := ⟨.hbm, 75, rfl⟩
abbrev main_c_16 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_c_17 : Ref sig .tc := ⟨.hbm, 82, rfl⟩
abbrev main_v54 : Ref sig .tc := ⟨.hbm, 83, rfl⟩
abbrev main_v55 : Ref sig .tc := ⟨.hbm, 84, rfl⟩
abbrev main_c_18 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_c_19 : Ref sig .tc := ⟨.hbm, 91, rfl⟩
abbrev main_v61 : Ref sig .tc := ⟨.hbm, 92, rfl⟩
abbrev main_v62 : Ref sig .tc := ⟨.hbm, 93, rfl⟩
abbrev main_c_20 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_c_21 : Ref sig .tc := ⟨.hbm, 100, rfl⟩
abbrev main_v68 : Ref sig .tc := ⟨.hbm, 101, rfl⟩
abbrev main_v69 : Ref sig .tc := ⟨.hbm, 102, rfl⟩
abbrev main_c_22 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

def k0_off1 (arg7 : BitVec 32) : Fin 2 → Nat :=
  let v23 : Index := Scalar.indexCast arg7
  let c0_14 : Index := 0#32
  ![v23.toNat, 0]

@[reducible] def k0_t1_loop (arg7 : BitVec 32) : Scf.Loop 32 :=
  let c0_i32_20 : BitVec 32 := 0#32
  let v53 : BitVec 32 := Scalar.subi arg7 c0_i32_20
  let c1_i32 : BitVec 32 := 1#32
  let v55 : BitVec 32 := Scalar.divsi v53 c1_i32
  let v56 : BitVec 32 := Scalar.muli v55 c1_i32
  let v57 : BitVec 32 := Scalar.addi c0_i32_20 v56
  let c1_i32_21 : BitVec 32 := 1#32
  ⟨c0_i32_20, v57, c1_i32_21⟩
def k0_off2 (arg7 : BitVec 32) (k0_t1 : Fin (k0_t1_loop arg7).trips) : Fin 2 → Nat :=
  let c0_i32_20 : BitVec 32 := 0#32
  let c1_i32_21 : BitVec 32 := 1#32
  let arg9 : BitVec 32 := Scf.iv c0_i32_20 c1_i32_21 k0_t1
  let v140 : Index := Scalar.indexCast arg9
  let c0_49 : Index := 0#32
  ![v140.toNat, 0]
@[reducible] def k0_t2_loop (arg7 : BitVec 32) : Scf.Loop 32 :=
  let c0_i32_20 : BitVec 32 := 0#32
  let v53 : BitVec 32 := Scalar.subi arg7 c0_i32_20
  let c1_i32 : BitVec 32 := 1#32
  let v55 : BitVec 32 := Scalar.divsi v53 c1_i32
  let v56 : BitVec 32 := Scalar.muli v55 c1_i32
  let v57 : BitVec 32 := Scalar.addi c0_i32_20 v56
  let v54 : BitVec 32 := Scalar.addi c0_i32_20 v53
  let c1_i32_22 : BitVec 32 := 1#32
  ⟨v57, v54, c1_i32_22⟩
def k0_off3 (arg7 : BitVec 32) (k0_t2 : Fin (k0_t2_loop arg7).trips) : Fin 2 → Nat :=
  let c0_i32_20 : BitVec 32 := 0#32
  let v53 : BitVec 32 := Scalar.subi arg7 c0_i32_20
  let c1_i32 : BitVec 32 := 1#32
  let v55 : BitVec 32 := Scalar.divsi v53 c1_i32
  let v56 : BitVec 32 := Scalar.muli v55 c1_i32
  let v57 : BitVec 32 := Scalar.addi c0_i32_20 v56
  let c1_i32_22 : BitVec 32 := 1#32
  let arg9 : BitVec 32 := Scf.iv v57 c1_i32_22 k0_t2
  let v140 : Index := Scalar.indexCast arg9
  let c0_49 : Index := 0#32
  ![v140.toNat, 0]

def k0_chk1 (arg7 : BitVec 32) : Prop :=
  (∀ a, (k0_off1 arg7) a + S1x128.size a ≤ S48x128.size a) ∧
  ((k0_t1_loop arg7).OK) ∧
  (∀ k0_t1 : Fin (k0_t1_loop arg7).trips, ∀ a, (k0_off2 arg7 k0_t1) a + S1x128.size a ≤ S48x128.size a) ∧
  ((k0_t2_loop arg7).OK) ∧
  (∀ k0_t2 : Fin (k0_t2_loop arg7).trips, ∀ a, (k0_off3 arg7 k0_t2) a + S1x128.size a ≤ S48x128.size a)
theorem k0_off1_inb : ∀ (arg7 : BitVec 32) (k0_hw1 : k0_chk1 arg7), ∀ a, (k0_off1 arg7) a + S1x128.size a ≤ S48x128.size a := fun arg7 k0_hw1 => k0_hw1.1
theorem k0_t1_ok : ∀ (arg7 : BitVec 32) (k0_hw1 : k0_chk1 arg7), (k0_t1_loop arg7).OK := fun arg7 k0_hw1 => k0_hw1.2.1
theorem k0_off2_inb : ∀ (arg7 : BitVec 32) (k0_hw1 : k0_chk1 arg7) (k0_t1 : Fin (k0_t1_loop arg7).trips), ∀ a, (k0_off2 arg7 k0_t1) a + S1x128.size a ≤ S48x128.size a := fun arg7 k0_hw1 k0_t1 => k0_hw1.2.2.1 k0_t1
theorem k0_t2_ok : ∀ (arg7 : BitVec 32) (k0_hw1 : k0_chk1 arg7), (k0_t2_loop arg7).OK := fun arg7 k0_hw1 => k0_hw1.2.2.2.1
theorem k0_off3_inb : ∀ (arg7 : BitVec 32) (k0_hw1 : k0_chk1 arg7) (k0_t2 : Fin (k0_t2_loop arg7).trips), ∀ a, (k0_off3 arg7 k0_t2) a + S1x128.size a ≤ S48x128.size a := fun arg7 k0_hw1 k0_t2 => k0_hw1.2.2.2.2 k0_t2

abbrev stage0_0 : Fin 1 → Memref sig .tc .vmem S48x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S48x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S48x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S48x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S48x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== SelectReferenceIdeal.lean ====
abbrev S63504 : Shape := ⟨1, ![63504]⟩
abbrev S63504x1 : Shape := ⟨2, ![63504, 1]⟩
abbrev S63504x4 : Shape := ⟨2, ![63504, 4]⟩
abbrev S6000 : Shape := ⟨1, ![6000]⟩
abbrev S_ : Shape := ⟨0, ![]⟩
abbrev S6000x1 : Shape := ⟨2, ![6000, 1]⟩
abbrev S6000x4 : Shape := ⟨2, ![6000, 4]⟩
abbrev S1 : Shape := ⟨1, ![1]⟩
abbrev S300 : Shape := ⟨1, ![300]⟩
abbrev S300x1 : Shape := ⟨2, ![300, 1]⟩
abbrev S300x4 : Shape := ⟨2, ![300, 4]⟩
abbrev S300x5 : Shape := ⟨2, ![300, 5]⟩

abbrev nBuf : Space → Nat
  | .hbm => 160
  | .vmem => 0
  | .smem => 0
  | _ => 0

abbrev hbmTy0_0 (i : Nat) : BufTy := match i % 128 with
  | 0 => ⟨S63504, .f32⟩
  | 1 => ⟨S63504, .f32⟩
  | 2 => ⟨S63504, .f32⟩
  | 3 => ⟨S63504, .f32⟩
  | 4 => ⟨S63504, .f32⟩
  | 5 => ⟨S63504x1, .f32⟩
  | 6 => ⟨S63504x1, .f32⟩
  | 7 => ⟨S63504x1, .f32⟩
  | 8 => ⟨S63504x1, .f32⟩
  | 9 => ⟨S63504x4, .f32⟩
  | 10 => ⟨S6000, .f32⟩
  | 11 => ⟨S6000, .i32⟩
  | 12 => ⟨S_, .i32⟩
  | 13 => ⟨S6000, .i32⟩
  | 14 => ⟨S6000, .i1⟩
  | 15 => ⟨S_, .i32⟩
  | 16 => ⟨S6000, .i32⟩
  | 17 => ⟨S6000, .i32⟩
  | 18 => ⟨S6000, .i32⟩
  | 19 => ⟨S6000x1, .i32⟩
  | 20 => ⟨S6000x4, .f32⟩
  | 21 => ⟨S6000x1, .f32⟩
  | 22 => ⟨S6000, .f32⟩
  | 23 => ⟨S6000x1, .f32⟩
  | 24 => ⟨S6000, .f32⟩
  | 25 => ⟨S6000x1, .f32⟩
  | 26 => ⟨S6000, .f32⟩
  | 27 => ⟨S6000x1, .f32⟩
  | 28 => ⟨S6000, .f32⟩
  | 29 => ⟨S6000, .f32⟩
  | 30 => ⟨S_, .f32⟩
  | 31 => ⟨S6000, .f32⟩
  | 32 => ⟨S6000, .f32⟩
  | 33 => ⟨S6000, .f32⟩
  | 34 => ⟨S_, .f32⟩
  | 35 => ⟨S6000, .f32⟩
  | 36 => ⟨S6000, .f32⟩
  | 37 => ⟨S6000, .f32⟩
  | 38 => ⟨S6000, .i32⟩
  | 39 => ⟨S_, .i1⟩
  | 40 => ⟨S6000, .i1⟩
  | 41 => ⟨S_, .i32⟩
  | 42 => ⟨S_, .i32⟩
  | 43 => ⟨S6000, .f32⟩
  | 44 => ⟨S6000, .f32⟩
  | 45 => ⟨S6000, .f32⟩
  | 46 => ⟨S6000, .f32⟩
  | 47 => ⟨S6000, .f32⟩
  | 48 => ⟨S6000, .i32⟩
  | 49 => ⟨S_, .i32⟩
  | 50 => ⟨S_, .i32⟩
  | 51 => ⟨S6000, .i1⟩
  | 52 => ⟨S_, .i32⟩
  | 53 => ⟨S_, .i1⟩
  | 54 => ⟨S_, .i32⟩
  | 55 => ⟨S_, .i32⟩
  | 56 => ⟨S_, .i32⟩
  | 57 => ⟨S_, .i1⟩
  | 58 => ⟨S_, .i32⟩
  | 59 => ⟨S_, .i32⟩
  | 60 => ⟨S_, .i32⟩
  | 61 => ⟨S_, .i32⟩
  | 62 => ⟨S1, .f32⟩
  | 63 => ⟨S_, .f32⟩
  | 64 => ⟨S6000, .f32⟩
  | 65 => ⟨S6000, .f32⟩
  | 66 => ⟨S_, .i32⟩
  | 67 => ⟨S_, .i1⟩
  | 68 => ⟨S_, .i32⟩
  | 69 => ⟨S_, .i32⟩
  | 70 => ⟨S_, .i32⟩
  | 71 => ⟨S_, .i32⟩
  | 72 => ⟨S1, .f32⟩
  | 73 => ⟨S_, .f32⟩
  | 74 => ⟨S6000, .f32⟩
  | 75 => ⟨S6000, .f32⟩
  | 76 => ⟨S_, .i32⟩
  | 77 => ⟨S_, .i1⟩
  | 78 => ⟨S_, .i32⟩
  | 79 => ⟨S_, .i32⟩
  | 80 => ⟨S_, .i32⟩
  | 81 => ⟨S_, .i32⟩
  | 82 => ⟨S1, .f32⟩
  | 83 => ⟨S_, .f32⟩
  | 84 => ⟨S6000, .f32⟩
  | 85 => ⟨S6000, .f32⟩
  | 86 => ⟨S_, .i32⟩
  | 87 => ⟨S_, .i1⟩
  | 88 => ⟨S_, .i32⟩
  | 89 => ⟨S_, .i32⟩
  | 90 => ⟨S_, .i32⟩
  | 91 => ⟨S_, .i32⟩
  | 92 => ⟨S1, .f32⟩
  | 93 => ⟨S_, .f32⟩
  | 94 => ⟨S6000, .f32⟩
  | 95 => ⟨S6000, .f32⟩
  | 96 => ⟨S6000, .f32⟩
  | 97 => ⟨S_, .f32⟩
  | 98 => ⟨S6000, .f32⟩
  | 99 => ⟨S6000, .f32⟩
  | 100 => ⟨S_, .f32⟩
  | 101 => ⟨S6000, .f32⟩
  | 102 => ⟨S6000, .f32⟩
  | 103 => ⟨S6000, .f32⟩
  | 104 => ⟨S_, .f32⟩
  | 105 => ⟨S6000, .f32⟩
  | 106 => ⟨S6000, .f32⟩
  | 107 => ⟨S_, .f32⟩
  | 108 => ⟨S6000, .f32⟩
  | 109 => ⟨S6000, .f32⟩
  | 110 => ⟨S6000, .f32⟩
  | 111 => ⟨S_, .i32⟩
  | 112 => ⟨S_, .i1⟩
  | 113 => ⟨S_, .i32⟩
  | 114 => ⟨S_, .i32⟩
  | 115 => ⟨S_, .i32⟩
  | 116 => ⟨S_, .i32⟩
  | 117 => ⟨S1, .f32⟩
  | 118 => ⟨S_, .f32⟩
  | 119 => ⟨S6000, .f32⟩
  | 120 => ⟨S6000, .f32⟩
  | 121 => ⟨S6000, .f32⟩
  | 122 => ⟨S6000, .f32⟩
  | 123 => ⟨S_, .f32⟩
  | 124 => ⟨S6000, .f32⟩
  | 125 => ⟨S6000, .i1⟩
  | 126 => ⟨S_, .i32⟩
  | 127 => ⟨S6000, .i32⟩
  | _ => ⟨S63504, .f32⟩

abbrev hbmTy0_1 (i : Nat) : BufTy := match i % 128 with
  | 0 => ⟨S6000, .i1⟩
  | 1 => ⟨S6000, .i1⟩
  | 2 => ⟨S6000, .i1⟩
  | 3 => ⟨S_, .i32⟩
  | 4 => ⟨S_, .i1⟩
  | 5 => ⟨S_, .i32⟩
  | 6 => ⟨S_, .i32⟩
  | 7 => ⟨S_, .i32⟩
  | 8 => ⟨S_, .i32⟩
  | 9 => ⟨S1, .i1⟩
  | 10 => ⟨S_, .i1⟩
  | 11 => ⟨S6000, .i1⟩
  | 12 => ⟨S_, .i32⟩
  | 13 => ⟨S_, .i32⟩
  | 14 => ⟨S_, .f32⟩
  | 15 => ⟨S_, .f32⟩
  | 16 => ⟨S6000, .f32⟩
  | 17 => ⟨S6000, .f32⟩
  | 18 => ⟨S300, .f32⟩
  | 19 => ⟨S300, .i32⟩
  | 20 => ⟨S_, .i32⟩
  | 21 => ⟨S300, .i32⟩
  | 22 => ⟨S300, .i1⟩
  | 23 => ⟨S_, .i32⟩
  | 24 => ⟨S300, .i32⟩
  | 25 => ⟨S300, .i32⟩
  | 26 => ⟨S300, .i32⟩
  | 27 => ⟨S300x1, .i32⟩
  | 28 => ⟨S300x4, .f32⟩
  | 29 => ⟨S_, .f32⟩
  | 30 => ⟨S300x1, .f32⟩
  | 31 => ⟨S300x5, .f32⟩
  | _ => ⟨S63504, .f32⟩

abbrev hbmTy (i : Nat) : BufTy := match i / 128 with
  | 0 => hbmTy0_0 i
  | 1 => hbmTy0_1 i
  | _ => ⟨S63504, .f32⟩

abbrev bufTy : (tb : Table) → Fin (tcTables nBuf tb) → BufTy
  | .hbm, ⟨i, _⟩ => hbmTy i
  | _, _ => ⟨S63504, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_values : Ref sig .tc := ⟨.hbm, 10, rfl⟩
abbrev main_indices : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_2 : Ref sig .tc := ⟨.hbm, 39, rfl⟩
abbrev main_v28 : Ref sig .tc := ⟨.hbm, 40, rfl⟩
abbrev main_c_3 : Ref sig .tc := ⟨.hbm, 41, rfl⟩
abbrev main_c_4 : Ref sig .tc := ⟨.hbm, 42, rfl⟩
abbrev main_v29_0 : Ref sig .tc := ⟨.hbm, 43, rfl⟩
abbrev main_v29_1 : Ref sig .tc := ⟨.hbm, 44, rfl⟩
abbrev main_v29_2 : Ref sig .tc := ⟨.hbm, 45, rfl⟩
abbrev main_v29_3 : Ref sig .tc := ⟨.hbm, 46, rfl⟩
abbrev main_v29_4 : Ref sig .tc := ⟨.hbm, 47, rfl⟩
abbrev main_v29_5 : Ref sig .tc := ⟨.hbm, 48, rfl⟩
abbrev main_v29_6 : Ref sig .tc := ⟨.hbm, 49, rfl⟩
abbrev main_v29_7 : Ref sig .tc := ⟨.hbm, 50, rfl⟩
abbrev main_v29_8 : Ref sig .tc := ⟨.hbm, 51, rfl⟩
abbrev main_while0c_c_19 : Ref sig .tc := ⟨.hbm, 52, rfl⟩
abbrev main_while0c_v40 : Ref sig .tc := ⟨.hbm, 53, rfl⟩
abbrev main_while0b_c_19 : Ref sig .tc := ⟨.hbm, 54, rfl⟩
abbrev main_while0b_v40 : Ref sig .tc := ⟨.hbm, 55, rfl⟩
abbrev main_while0b_c_20 : Ref sig .tc := ⟨.hbm, 56, rfl⟩
abbrev main_while0b_v41 : Ref sig .tc := ⟨.hbm, 57, rfl⟩
abbrev main_while0b_v42 : Ref sig .tc := ⟨.hbm, 58, rfl⟩
abbrev main_while0b_c_21 : Ref sig .tc := ⟨.hbm, 59, rfl⟩
abbrev main_while0b_v43 : Ref sig .tc := ⟨.hbm, 60, rfl⟩
abbrev main_while0b_v44 : Ref sig .tc := ⟨.hbm, 61, rfl⟩
abbrev main_while0b_v45 : Ref sig .tc := ⟨.hbm, 62, rfl⟩
abbrev main_while0b_v46 : Ref sig .tc := ⟨.hbm, 63, rfl⟩
abbrev main_while0b_v47 : Ref sig .tc := ⟨.hbm, 64, rfl⟩
abbrev main_while0b_v48 : Ref sig .tc := ⟨.hbm, 65, rfl⟩
abbrev main_while0b_c_22 : Ref sig .tc := ⟨.hbm, 66, rfl⟩
abbrev main_while0b_v49 : Ref sig .tc := ⟨.hbm, 67, rfl⟩
abbrev main_while0b_v50 : Ref sig .tc := ⟨.hbm, 68, rfl⟩
abbrev main_while0b_c_23 : Ref sig .tc := ⟨.hbm, 69, rfl⟩
abbrev main_while0b_v51 : Ref sig .tc := ⟨.hbm, 70, rfl⟩
abbrev main_while0b_v52 : Ref sig .tc := ⟨.hbm, 71, rfl⟩
abbrev main_while0b_v53 : Ref sig .tc := ⟨.hbm, 72, rfl⟩
abbrev main_while0b_v54 : Ref sig .tc := ⟨.hbm, 73, rfl⟩
abbrev main_while0b_v55 : Ref sig .tc := ⟨.hbm, 74, rfl⟩
abbrev main_while0b_v56 : Ref sig .tc := ⟨.hbm, 75, rfl⟩
abbrev main_while0b_c_24 : Ref sig .tc := ⟨.hbm, 76, rfl⟩
abbrev main_while0b_v57 : Ref sig .tc := ⟨.hbm, 77, rfl⟩
abbrev main_while0b_v58 : Ref sig .tc := ⟨.hbm, 78, rfl⟩
abbrev main_while0b_c_25 : Ref sig .tc := ⟨.hbm, 79, rfl⟩
abbrev main_while0b_v59 : Ref sig .tc := ⟨.hbm, 80, rfl⟩
abbrev main_while0b_v60 : Ref sig .tc := ⟨.hbm, 81, rfl⟩
abbrev main_while0b_v61 : Ref sig .tc := ⟨.hbm, 82, rfl⟩
abbrev main_while0b_v62 : Ref sig .tc := ⟨.hbm, 83, rfl⟩
abbrev main_while0b_v63 : Ref sig .tc := ⟨.hbm, 84, rfl⟩
abbrev main_while0b_v64 : Ref sig .tc := ⟨.hbm, 85, rfl⟩
abbrev main_while0b_c_26 : Ref sig .tc := ⟨.hbm, 86, rfl⟩
abbrev main_while0b_v65 : Ref sig .tc := ⟨.hbm, 87, rfl⟩
abbrev main_while0b_v66 : Ref sig .tc := ⟨.hbm, 88, rfl⟩
abbrev main_while0b_c_27 : Ref sig .tc := ⟨.hbm, 89, rfl⟩
abbrev main_while0b_v67 : Ref sig .tc := ⟨.hbm, 90, rfl⟩
abbrev main_while0b_v68 : Ref sig .tc := ⟨.hbm, 91, rfl⟩
abbrev main_while0b_v69 : Ref sig .tc := ⟨.hbm, 92, rfl⟩
abbrev main_while0b_v70 : Ref sig .tc := ⟨.hbm, 93, rfl⟩
abbrev main_while0b_v71 : Ref sig .tc := ⟨.hbm, 94, rfl⟩
abbrev main_while0b_v72 : Ref sig .tc := ⟨.hbm, 95, rfl⟩
abbrev main_while0b_v73 : Ref sig .tc := ⟨.hbm, 96, rfl⟩
abbrev main_while0b_cst_28 : Ref sig .tc := ⟨.hbm, 97, rfl⟩
abbrev main_while0b_v74 : Ref sig .tc := ⟨.hbm, 98, rfl⟩
abbrev main_while0b_v75 : Ref sig .tc := ⟨.hbm, 99, rfl⟩
abbrev main_while0b_cst_29 : Ref sig .tc := ⟨.hbm, 100, rfl⟩
abbrev main_while0b_v76 : Ref sig .tc := ⟨.hbm, 101, rfl⟩
abbrev main_while0b_v77 : Ref sig .tc := ⟨.hbm, 102, rfl⟩
abbrev main_while0b_v78 : Ref sig .tc := ⟨.hbm, 103, rfl⟩
abbrev main_while0b_cst_30 : Ref sig .tc := ⟨.hbm, 104, rfl⟩
abbrev main_while0b_v79 : Ref sig .tc := ⟨.hbm, 105, rfl⟩
abbrev main_while0b_v80 : Ref sig .tc := ⟨.hbm, 106, rfl⟩
abbrev main_while0b_cst_31 : Ref sig .tc := ⟨.hbm, 107, rfl⟩
abbrev main_while0b_v81 : Ref sig .tc := ⟨.hbm, 108, rfl⟩
abbrev main_while0b_v82 : Ref sig .tc := ⟨.hbm, 109, rfl⟩
abbrev main_while0b_v83 : Ref sig .tc := ⟨.hbm, 110, rfl⟩
abbrev main_while0b_c_32 : Ref sig .tc := ⟨.hbm, 111, rfl⟩
abbrev main_while0b_v84 : Ref sig .tc := ⟨.hbm, 112, rfl⟩
abbrev main_while0b_v85 : Ref sig .tc := ⟨.hbm, 113, rfl⟩
abbrev main_while0b_c_33 : Ref sig .tc := ⟨.hbm, 114, rfl⟩
abbrev main_while0b_v86 : Ref sig .tc := ⟨.hbm, 115, rfl⟩
abbrev main_while0b_v87 : Ref sig .tc := ⟨.hbm, 116, rfl⟩
abbrev main_while0b_v88 : Ref sig .tc := ⟨.hbm, 117, rfl⟩
abbrev main_while0b_v89 : Ref sig .tc := ⟨.hbm, 118, rfl⟩
abbrev main_while0b_v90 : Ref sig .tc := ⟨.hbm, 119, rfl⟩
abbrev main_while0b_v91 : Ref sig .tc := ⟨.hbm, 120, rfl⟩
abbrev main_while0b_v92 : Ref sig .tc := ⟨.hbm, 121, rfl⟩
abbrev main_while0b_v93 : Ref sig .tc := ⟨.hbm, 122, rfl⟩
abbrev main_while0b_cst_34 : Ref sig .tc := ⟨.hbm, 123, rfl⟩
abbrev main_while0b_v94 : Ref sig .tc := ⟨.hbm, 124, rfl⟩
abbrev main_while0b_v95 : Ref sig .tc := ⟨.hbm, 125, rfl⟩
abbrev main_while0b_v96 : Ref sig .tc := ⟨.hbm, 126, rfl⟩
abbrev main_while0b_v97 : Ref sig .tc := ⟨.hbm, 127, rfl⟩
abbrev main_while0b_v98 : Ref sig .tc := ⟨.hbm, 128, rfl⟩
abbrev main_while0b_v99 : Ref sig .tc := ⟨.hbm, 129, rfl⟩
abbrev main_while0b_v100 : Ref sig .tc := ⟨.hbm, 130, rfl⟩
abbrev main_while0b_c_35 : Ref sig .tc := ⟨.hbm, 131, rfl⟩
abbrev main_while0b_v101 : Ref sig .tc := ⟨.hbm, 132, rfl⟩
abbrev main_while0b_v102 : Ref sig .tc := ⟨.hbm, 133, rfl⟩
abbrev main_while0b_c_36 : Ref sig .tc := ⟨.hbm, 134, rfl⟩
abbrev main_while0b_v103 : Ref sig .tc := ⟨.hbm, 135, rfl⟩
abbrev main_while0b_v104 : Ref sig .tc := ⟨.hbm, 136, rfl⟩
abbrev main_while0b_v105 : Ref sig .tc := ⟨.hbm, 137, rfl⟩
abbrev main_while0b_v106 : Ref sig .tc := ⟨.hbm, 138, rfl⟩
abbrev main_while0b_v107 : Ref sig .tc := ⟨.hbm, 139, rfl⟩
abbrev main_while0b_c_37 : Ref sig .tc := ⟨.hbm, 140, rfl⟩
abbrev main_while0b_v108 : Ref sig .tc := ⟨.hbm, 141, rfl⟩
abbrev main_cst_5 : Ref sig .tc := ⟨.hbm, 142, rfl⟩
abbrev main_call1_v0 : Ref sig .tc := ⟨.hbm, 143, rfl⟩
abbrev main_call1_v1 : Ref sig .tc := ⟨.hbm, 144, rfl⟩
abbrev main_v30 : Ref sig .tc := ⟨.hbm, 145, rfl⟩
abbrev main_values_6 : Ref sig .tc := ⟨.hbm, 146, rfl⟩
abbrev main_indices_7 : Ref sig .tc := ⟨.hbm, 147, rfl⟩
abbrev main_c_8 : Ref sig .tc := ⟨.hbm, 148, rfl⟩
abbrev main_v31 : Ref sig .tc := ⟨.hbm, 149, rfl⟩
abbrev main_v32 : Ref sig .tc := ⟨.hbm, 150, rfl⟩
abbrev main_c_9 : Ref sig .tc := ⟨.hbm, 151, rfl⟩
abbrev main_v33 : Ref sig .tc := ⟨.hbm, 152, rfl⟩
abbrev main_v34 : Ref sig .tc := ⟨.hbm, 153, rfl⟩
abbrev main_v35 : Ref sig .tc := ⟨.hbm, 154, rfl⟩
abbrev main_v36 : Ref sig .tc := ⟨.hbm, 155, rfl⟩
abbrev main_v37 : Ref sig .tc := ⟨.hbm, 156, rfl⟩
abbrev main_cst_10 : Ref sig .tc := ⟨.hbm, 157, rfl⟩
abbrev main_v38 : Ref sig .tc := ⟨.hbm, 158, rfl⟩
abbrev main_v39 : Ref sig .tc := ⟨.hbm, 159, rfl⟩

abbrev nD : Nat := 1
abbrev τ : Topo := Topo.v7x

variable {F : FTy → Type} [FloatOps F]

abbrev main_while0_count : Scf.Loop 32 := ⟨0#32, 6000#32, 1#32⟩
-- ==== Proof.Spec.lean ====
/- The mathematics both programs are shown to compute, at one anchor of one feature position, over the extended reals:
   the 3x3 convolution of the zero-bordered feature map, its rectified value, one output channel of a 1x1 convolution of
   it, the foreground probability of an anchor, and the decoded, clipped box with its score. -/
module

public import Idealize.ShloMosaic.Lib.Pointwise

@[expose] public section

noncomputable section

namespace Cert.Proposal

open Idealize.ShloMosaic

/-- A feature map. -/
abbrev Img : Type := (⟨4, ![1, 256, 84, 84]⟩ : Shape).Idx → EReal
/-- The weights of the 3x3 convolution. -/
abbrev Ker : Type := (⟨4, ![512, 256, 3, 3]⟩ : Shape).Idx → EReal
/-- A vector of 512 entries. -/
abbrev Vec512 : Type := (⟨1, ![512]⟩ : Shape).Idx → EReal

/-- The feature map inside a border of zeros: row `i` and column `j` count from the border, so the map's own rows and
    columns are 1 to 84. -/
def pix (x : Img) (k : Fin 256) (i j : ℕ) : EReal :=
  if h : (1 ≤ i ∧ i - 1 < 84) ∧ 1 ≤ j ∧ j - 1 < 84 then x (ix4 0 k ⟨i - 1, h.1.2⟩ ⟨j - 1, h.2.2⟩) else 0

/-- One tap of the 3x3 convolution at output channel `o` and position `(i, j)`: the sum over the input channels. -/
def tap (x : Img) (w : Ker) (o : Fin 512) (i j : ℕ) (ky kx : Fin 3) : EReal :=
  ∑ k : Fin 256, pix x k (i + ky.val) (j + kx.val) * w (ix4 o k ky kx)

/-- The 3x3 convolution at output channel `o` and position `(i, j)`: its nine taps, added row by row. -/
def conv (x : Img) (w : Ker) (o : Fin 512) (i j : ℕ) : EReal :=
  tap x w o i j 0 0 + tap x w o i j 0 1 + tap x w o i j 0 2 + tap x w o i j 1 0 + tap x w o i j 1 1 + tap x w o i j 1 2
    + tap x w o i j 2 0 + tap x w o i j 2 1 + tap x w o i j 2 2

/-- The hidden feature: the convolution plus its bias, rectified. -/
def hidden (x : Img) (w : Ker) (b : Vec512) (i j : ℕ) (o : Fin 512) : EReal := max (conv x w o i j + b (ix1 o)) 0

/-- One channel of a 1x1 convolution of hidden features `f`, with weights `w` and bias `b`. -/
def head (f : Fin 512 → EReal) (w : Fin 512 → EReal) (b : EReal) : EReal := ∑ o : Fin 512, f o * w o + b

/-- The foreground probability of an anchor from its background and foreground scores. -/
def prob (bg fg : EReal) : EReal :=
  Ideal.div (Ideal.exp (fg - max bg fg)) (Ideal.exp (bg - max bg fg) + Ideal.exp (fg - max bg fg))

/-- One half. -/
abbrev half : EReal := Ideal.ofBits FTy.f32 1056964608#32
/-- The largest coordinate inside the image. -/
abbrev edge : EReal := Ideal.ofBits FTy.f32 1151852544#32
/-- The least side of a box that is kept. -/
abbrev side : EReal := Ideal.ofBits FTy.f32 1098907648#32
/-- The score of a box that is not kept. -/
abbrev gone : EReal := Ideal.ofBits FTy.f32 3463342888#32

/-- A coordinate clipped to the image. -/
def clip (v : EReal) : EReal := min edge (max 0 v)

/-- The low end of a decoded interval: offset `d`, log scale `s`, anchor extent `e` and anchor centre `q`. -/
def low (d s e q : EReal) : EReal := clip (d * e + q - half * (Ideal.exp s * e))

/-- The high end of a decoded interval. -/
def high (d s e q : EReal) : EReal := clip (d * e + q + half * (Ideal.exp s * e))

/-- The bit that says an interval is long enough. -/
def long (lo hi : EReal) : BitVec 1 := BitVec.ofBool (decide (side ≤ hi - lo + 1))

/-- The score of a box: its probability where both sides are long enough. -/
def score (x1 y1 x2 y2 p : EReal) : EReal := Scalar.select (IntOp.andi (long x1 x2) (long y1 y2)) p gone

/-- The displacement, in image coordinates, of feature row or column `n`. -/
def shift (n : ℕ) : EReal := FloatOps.sitofp (F := Ideal) FTy.f32 (IntOp.muli (BitVec.ofNat 32 n) 16#32)

/-- The extent of anchor `a` of the table `base` along the axis whose low and high corners are columns `l` and `h`, at
    displacement `n`. -/
def extent (base : Fin 9 → Fin 4 → EReal) (a : Fin 9) (l h : Fin 4) (n : ℕ) : EReal :=
  base a h + shift n - (base a l + shift n) + 1

/-- The centre of that anchor along the axis. -/
def centre (base : Fin 9 → Fin 4 → EReal) (a : Fin 9) (l h : Fin 4) (n : ℕ) : EReal :=
  base a l + shift n + half * extent base a l h n

/-- Row `4 * a + q` of the regression weights: coordinate `q` of anchor `a`. -/
def boxRow (q : Fin 4) (a : Fin 9) : Fin 36 := ⟨4 * a.val + q.val, by omega⟩

/-- What the proposals are computed from: the feature map, the convolution's weights and bias, those of the
    classification and of the regression, and the table of base anchors. -/
structure Net where
  /-- The feature map. -/
  x : Img
  /-- The convolution's weights. -/
  w : Ker
  /-- The convolution's bias. -/
  b : Vec512
  /-- The classification weights. -/
  wc : (⟨4, ![18, 512, 1, 1]⟩ : Shape).Idx → EReal
  /-- The classification bias. -/
  bc : (⟨1, ![18]⟩ : Shape).Idx → EReal
  /-- The regression weights. -/
  wb : (⟨4, ![36, 512, 1, 1]⟩ : Shape).Idx → EReal
  /-- The regression bias. -/
  bb : (⟨1, ![36]⟩ : Shape).Idx → EReal
  /-- The table of base anchors. -/
  base : Fin 9 → Fin 4 → EReal

namespace Net

variable (N : Net) (i j : ℕ) (a : Fin 9)

/-- The score of class `n` at position `(i, j)`. -/
def cls (n : Fin 18) : EReal := head (hidden N.x N.w N.b i j) (fun o => N.wc (ix4 n o 0 0)) (N.bc (ix1 n))

/-- Offset or log scale `q` of anchor `a` at position `(i, j)`. -/
def reg (q : Fin 4) : EReal :=
  head (hidden N.x N.w N.b i j) (fun o => N.wb (ix4 (boxRow q a) o 0 0)) (N.bb (ix1 (boxRow q a)))

/-- The left end of the proposal of anchor `a` at position `(i, j)`. -/
def x1 : EReal := low (N.reg i j a 0) (N.reg i j a 2) (extent N.base a 0 2 j) (centre N.base a 0 2 j)
/-- Its upper end. -/
def y1 : EReal := low (N.reg i j a 1) (N.reg i j a 3) (extent N.base a 1 3 i) (centre N.base a 1 3 i)
/-- Its right end. -/
def x2 : EReal := high (N.reg i j a 0) (N.reg i j a 2) (extent N.base a 0 2 j) (centre N.base a 0 2 j)
/-- Its lower end. -/
def y2 : EReal := high (N.reg i j a 1) (N.reg i j a 3) (extent N.base a 1 3 i) (centre N.base a 1 3 i)

/-- Its foreground probability. -/
def fg : EReal := prob (N.cls i j ⟨a.val, by omega⟩) (N.cls i j ⟨9 + a.val, by omega⟩)

/-- Its score. -/
def score : EReal := Proposal.score (N.x1 i j a) (N.y1 i j a) (N.x2 i j a) (N.y2 i j a) (N.fg i j a)

end Net

end Cert.Proposal

end

end
-- ==== Proof.Inputs.lean ====
/- What the kernel call finds in its nine input arrays, element by element, as a function of the program's arguments. -/
module

public import proofs.«01_k».proof.Proof.Gen.KernelIdeal.Frame.Runs
public import proofs.«01_k».proof.Proof.Spec
public import Idealize.ShloMosaic.Lib.StableHlo.ReadAt
public import Idealize.ShloMosaic.Lib.Routing.Ops
public import Idealize.ShloMosaic.Lib.Routing.OpsSet

@[expose] public section

set_option maxRecDepth 16384

noncomputable section

namespace Cert.Proposal

open Cert.KernelIdeal Idealize.ShloMosaic Idealize.ShloMosaic.TcCoe Idealize.ShloMosaic.StableHlo

/-- An entry of the table of base anchors, as the kernel's program states it. -/
def base : Fin 9 → Fin 4 → EReal := fun a q => Ideal.ofBits FTy.f32 (lit1 (S9x4.rowMajor (ix2 a q)))

variable (m : (ℓ : Loc nD τ sig) → Buf (Elt Ideal) ℓ)

set_option maxHeartbeats 4000000 in
/-- The feature map as the call reads it: row `r` of its array is position `(r / 88, r % 88)` of the map with a zero row
    above it and zeros to its right. -/
theorem x_at (c : Dev nD) (r : Fin 7568) (k : Fin 256) :
    (Gen.V m c main_v3 : S7568x256.Idx → EReal) (ix2 r k)
      = pix (m ((c.tc : Thread nD τ).loc main_arg0)) k (r.val / 88) (r.val % 88 + 1) := by
  unfold Gen.V Gen.V0
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.append_nil, List.cons_append, List.nil_append]
  after_reads_at
  unfold pix
  have h0 : (FloatOps.sitofp (F := Ideal) FTy.f32 (0#32) : EReal) = 0 := by
    show (((0#32 : BitVec 32).toInt : ℝ) : EReal) = 0; simp
  split_ifs with h1 h2 h2
  · rfl
  · exact absurd ⟨h1.1, by omega, by omega⟩ h2
  · exact absurd ⟨h2.1, by omega⟩ h1
  · exact h0

set_option maxHeartbeats 4000000 in
/-- The convolution's weights: slab `3 * ky + kx` of their array is tap `(ky, kx)`. -/
theorem w1_at (c : Dev nD) (s : Fin 9) (k : Fin 256) (o : Fin 512) :
    (Gen.V m c main_v5 : S9x256x512.Idx → EReal) (ix3 s k o)
      = (m ((c.tc : Thread nD τ).loc main_arg3) : Ker) (ix4 o k ⟨s.val / 3, by omega⟩ ⟨s.val % 3, by omega⟩) := by
  unfold Gen.V Gen.V0
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.append_nil, List.cons_append, List.nil_append]
  after_reads_at

set_option maxHeartbeats 4000000 in
/-- The convolution's bias. -/
theorem b1_at (c : Dev nD) (z : Fin 1) (o : Fin 512) :
    (Gen.V m c main_v28 : S1x512.Idx → EReal) (ix2 z o) = (m ((c.tc : Thread nD τ).loc main_arg4) : Vec512) (ix1 o) := by
  unfold Gen.V Gen.V0
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.append_nil, List.cons_append, List.nil_append]
  after_reads_at

/-- The order in which the call's program picks the rows of the regression weights. -/
def order : IVec S36x1 32 :=
  broadcastInDim S36x1 ![0] Gen.bcast_S36_S36x1_0
    (select
      (cmpi CmpIPredicate.slt (fun i => lit0 (S36.rowMajor i))
        (broadcastInDim S36 ![] Gen.bcast_S_S36 (constantI S_ 32 0#32)))
      (addi (fun i => lit0 (S36.rowMajor i)) (broadcastInDim S36 ![] Gen.bcast_S_S36 (constantI S_ 32 36#32)))
      fun i => lit0 (S36.rowMajor i))

/-- Place `9 * q + a` of that order holds row `4 * a + q`. -/
theorem order_at (q : Fin 4) (a : Fin 9) (h : 9 * q.val + a.val < 36) :
    order (ix2 ⟨9 * q.val + a.val, h⟩ 0) = BitVec.ofNat 32 (boxRow q a).val := by
  have key : ∀ n : Fin 36, order (ix2 n 0) = BitVec.ofNat 32 (4 * (n.val % 9) + n.val / 9) := by decide +kernel
  rw [key]
  exact congrArg (BitVec.ofNat 32) (show 4 * ((9 * q.val + a.val) % 9) + (9 * q.val + a.val) / 9 = 4 * a.val + q.val by omega)

set_option maxHeartbeats 4000000 in
/-- The first 18 columns of the heads' weights: the classification weights. -/
theorem w2_cls (c : Dev nD) (o : Fin 512) (j : Fin 18) :
    (Gen.V m c main_v17 : S512x64.Idx → EReal) (ix2 o ⟨j.val, by omega⟩)
      = (m ((c.tc : Thread nD τ).loc main_arg5) : S18x512x1x1.Idx → EReal) (ix4 j o 0 0) := by
  unfold Gen.V Gen.V0
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.append_nil, List.cons_append, List.nil_append]
  after_reads_at
  all_goals try after_reads_at
  all_goals try after_reads_at

set_option maxHeartbeats 4000000 in
/-- The first 18 entries of the heads' bias: the classification bias. -/
theorem b2_cls (c : Dev nD) (z : Fin 1) (j : Fin 18) :
    (Gen.V m c main_v27 : S1x64.Idx → EReal) (ix2 z ⟨j.val, by omega⟩)
      = (m ((c.tc : Thread nD τ).loc main_arg6) : S18.Idx → EReal) (ix1 j) := by
  unfold Gen.V Gen.V0
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.append_nil, List.cons_append, List.nil_append]
  after_reads_at
  all_goals try after_reads_at
  all_goals try after_reads_at

set_option maxHeartbeats 4000000 in
/-- The next 36 entries of the heads' bias: the regression bias, ordered by coordinate first. -/
theorem b2_box (c : Dev nD) (z : Fin 1) (q : Fin 4) (a : Fin 9) :
    (Gen.V m c main_v27 : S1x64.Idx → EReal) (ix2 z ⟨18 + (9 * q.val + a.val), by omega⟩)
      = (m ((c.tc : Thread nD τ).loc main_arg8) : S36.Idx → EReal) (ix1 (boxRow q a)) := by
  unfold Gen.V Gen.V0
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.append_nil, List.cons_append, List.nil_append]
  after_reads_at
  all_goals try after_reads_at
  all_goals try after_reads_at
  rw [dif_pos (show 9 * q.val + a.val < 36 by omega)]
  refine (Routing.gather_take1 _ rfl rfl rfl rfl _ _ _ (boxRow q a) (order_at q a _) (by decide)).trans rfl

set_option maxHeartbeats 4000000 in
/-- The next 36 columns of the heads' weights: the regression weights, ordered by coordinate first. -/
theorem w2_box (c : Dev nD) (o : Fin 512) (q : Fin 4) (a : Fin 9) :
    (Gen.V m c main_v17 : S512x64.Idx → EReal) (ix2 o ⟨18 + (9 * q.val + a.val), by omega⟩)
      = (m ((c.tc : Thread nD τ).loc main_arg7) : S36x512x1x1.Idx → EReal) (ix4 (boxRow q a) o 0 0) := by
  unfold Gen.V Gen.V0
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.append_nil, List.cons_append, List.nil_append]
  after_reads_at
  all_goals try after_reads_at
  all_goals try after_reads_at
  rw [dif_pos (show 9 * q.val + a.val < 36 by omega)]
  refine (Routing.gather_row _ rfl rfl rfl rfl rfl _ _ _ _ (boxRow q a) (order_at q a _) (by decide)).trans rfl

set_option maxHeartbeats 4000000 in
/-- The anchors' widths. -/
theorem aw_at (c : Dev nD) (r : Fin 7392) (a : Fin 9) (h : r.val / 88 < 84 ∧ r.val % 88 < 84) :
    (Gen.V m c main_v78 : S7392x9.Idx → EReal) (ix2 r a)
      = extent base a 0 2 (r.val % 88) := by
  unfold Gen.V Gen.V0
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.append_nil, List.cons_append, List.nil_append]
  after_reads_at
  all_goals try after_reads_at
  all_goals try after_reads_at
  rw [dif_pos h, show (r.val / 88 * 84 + r.val % 88) % 84 = r.val % 88 by omega]
  rfl

set_option maxHeartbeats 4000000 in
/-- The anchors' heights. -/
theorem ah_at (c : Dev nD) (r : Fin 7392) (a : Fin 9) (h : r.val / 88 < 84 ∧ r.val % 88 < 84) :
    (Gen.V m c main_v81 : S7392x9.Idx → EReal) (ix2 r a)
      = extent base a 1 3 (r.val / 88) := by
  unfold Gen.V Gen.V0
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.append_nil, List.cons_append, List.nil_append]
  after_reads_at
  all_goals try after_reads_at
  all_goals try after_reads_at
  rw [dif_pos h, show (r.val / 88 * 84 + r.val % 88) / 84 = r.val / 88 by omega]
  rfl

set_option maxHeartbeats 4000000 in
/-- The anchors' horizontal centres. -/
theorem cx_at (c : Dev nD) (r : Fin 7392) (a : Fin 9) (h : r.val / 88 < 84 ∧ r.val % 88 < 84) :
    (Gen.V m c main_v84 : S7392x9.Idx → EReal) (ix2 r a)
      = centre base a 0 2 (r.val % 88) := by
  unfold Gen.V Gen.V0
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.append_nil, List.cons_append, List.nil_append]
  after_reads_at
  all_goals try after_reads_at
  all_goals try after_reads_at
  rw [dif_pos h, show (r.val / 88 * 84 + r.val % 88) % 84 = r.val % 88 by omega]
  rfl

set_option maxHeartbeats 4000000 in
/-- The anchors' vertical centres. -/
theorem cy_at (c : Dev nD) (r : Fin 7392) (a : Fin 9) (h : r.val / 88 < 84 ∧ r.val % 88 < 84) :
    (Gen.V m c main_v87 : S7392x9.Idx → EReal) (ix2 r a)
      = centre base a 1 3 (r.val / 88) := by
  unfold Gen.V Gen.V0
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.append_nil, List.cons_append, List.nil_append]
  after_reads_at
  all_goals try after_reads_at
  all_goals try after_reads_at
  rw [dif_pos h, show (r.val / 88 * 84 + r.val % 88) / 84 = r.val / 88 by omega]
  rfl

end Cert.Proposal

end

end
-- ==== Proof.Block.lean ====
/- The kernel body's arithmetic on one block of rows, element by element: the nine taps of the convolution, the hidden
   feature, the heads, and the scores and boxes decoded from them. -/
module

public import proofs.«01_k».proof.Proof.Gen.KernelIdeal.Skeleton
public import proofs.«01_k».proof.Proof.Spec

@[expose] public section

set_option maxRecDepth 16384

noncomputable section

namespace Cert.Proposal

open Cert.KernelIdeal Idealize.ShloMosaic Idealize.ShloMosaic.TcCoe

/-- `X` holds the rows of the feature map that tap row `ky` reads for the two output rows from `i` on. -/
def Rows (x : Img) (i : ℕ) (ky : Fin 3) (X : Vec Ideal S176x256 .f32) : Prop :=
  ∀ (p : Fin 176) (k : Fin 256), X (ix2 p k) = pix x k (i + p.val / 88 + ky.val) (p.val % 88 + 1)

/-- `W` holds the weights of tap `(ky, kx)`. -/
def Slab (w : Ker) (ky kx : Fin 3) (W : Vec Ideal S1x256x512 .f32) : Prop :=
  ∀ (k : Fin 256) (o : Fin 512), W (ix3 0 k o) = w (ix4 o k ky kx)

variable {x : Img} {w : Ker} {i : ℕ} {ky : Fin 3} {X : Vec Ideal S176x256 .f32} {W : Vec Ideal S1x256x512 .f32}

/-- The product of the rows moved down by one, a zero row first, is the left tap. -/
theorem left_tap (hX : Rows x i ky X) (hW : Slab w ky 0 W) (p : Fin 176) (o : Fin 512) (z : Fin 256 → EReal)
    (hz : ∀ k, z k = 0) :
    ∑ k : Fin 256, (if h : p.val < 1 then z k else X (ix2 ⟨p.val - 1, by omega⟩ k)) * W (ix3 0 k o)
      = tap x w o (i + p.val / 88) (p.val % 88) ky 0 := by
  refine Finset.sum_congr rfl fun k _ => ?_
  rw [hW k o]
  refine congrArg (· * w (ix4 o k ky 0)) ?_
  split_ifs with h
  · rw [hz]; unfold pix; rw [dif_neg]; simp; omega
  · rw [hX]
    by_cases h0 : p.val % 88 = 0
    · unfold pix
      rw [dif_neg (by simp; omega), dif_neg (by simp; omega)]
    · have e1 : (p.val - 1) / 88 = p.val / 88 := by omega
      have e2 : (p.val - 1) % 88 + 1 = p.val % 88 := by omega
      simp only [e1, e2]
      rfl

/-- The product of the rows as they stand is the middle tap. -/
theorem mid_tap (hX : Rows x i ky X) (hW : Slab w ky 1 W) (p : Fin 176) (o : Fin 512) :
    ∑ k : Fin 256, X (ix2 p k) * W (ix3 0 k o) = tap x w o (i + p.val / 88) (p.val % 88) ky 1 := by
  refine Finset.sum_congr rfl fun k _ => ?_
  rw [hW k o, hX]
  rfl

/-- The product of the rows moved up by one, a zero row last, is the right tap at a column inside the map. -/
theorem right_tap (hX : Rows x i ky X) (hW : Slab w ky 2 W) (p : Fin 176) (hp : p.val % 88 < 84) (o : Fin 512)
    (z : Fin 256 → EReal) :
    ∑ k : Fin 256, (if h : p.val < 175 then X (ix2 ⟨1 + p.val, by omega⟩ k) else z k) * W (ix3 0 k o)
      = tap x w o (i + p.val / 88) (p.val % 88) ky 2 := by
  refine Finset.sum_congr rfl fun k _ => ?_
  have h : p.val < 175 := by omega
  rw [hW k o, dif_pos h, hX]
  have e1 : (1 + p.val) / 88 = p.val / 88 := by omega
  have e2 : (1 + p.val) % 88 + 1 = p.val % 88 + 2 := by omega
  simp only [e1, e2]
  rfl

variable {X0 X1 X2 : Vec Ideal S176x256 .f32} {W0 W1 W2 W3 W4 W5 W6 W7 W8 : Vec Ideal S1x256x512 .f32}

set_option maxHeartbeats 4000000 in
/-- The first three taps. -/
theorem taps_a (h0 : Rows x i 0 X0) (k0 : Slab w 0 0 W0) (k1 : Slab w 0 1 W1) (k2 : Slab w 0 2 W2)
    (p : Fin 176) (hp : p.val % 88 < 84) (o : Fin 512) :
    Gen.k0_pay3 X0 W0 W1 W2 (ix2 p o)
      = tap x w o (i + p.val / 88) (p.val % 88) 0 0 + tap x w o (i + p.val / 88) (p.val % 88) 0 1
        + tap x w o (i + p.val / 88) (p.val % 88) 0 2 := by
  pointwise [Gen.k0_pay3, Gen.k0_pay2]
  exact congrArg₂ (· + ·) (congrArg₂ (· + ·) (left_tap h0 k0 p o _ fun _ => rfl) (mid_tap h0 k1 p o))
    (right_tap h0 k2 p hp o _)

set_option maxHeartbeats 4000000 in
/-- The next five taps, added to what stands. -/
theorem taps_b (v : FVec Ideal S176x512 .f32) (h1 : Rows x i 1 X1) (h2 : Rows x i 2 X2)
    (k3 : Slab w 1 0 W3) (k4 : Slab w 1 1 W4) (k5 : Slab w 1 2 W5) (k6 : Slab w 2 0 W6) (k7 : Slab w 2 1 W7)
    (p : Fin 176) (hp : p.val % 88 < 84) (o : Fin 512) :
    Gen.k0_pay7 (Gen.k0_pay2 (F := Ideal)) v (Gen.k0_pay4 X1) (Gen.k0_pay5 X1) W3 W4 W5 X2 W6 W7 (ix2 p o)
      = v (ix2 p o) + tap x w o (i + p.val / 88) (p.val % 88) 1 0 + tap x w o (i + p.val / 88) (p.val % 88) 1 1
        + tap x w o (i + p.val / 88) (p.val % 88) 1 2 + tap x w o (i + p.val / 88) (p.val % 88) 2 0
        + tap x w o (i + p.val / 88) (p.val % 88) 2 1 := by
  pointwise [Gen.k0_pay7, Gen.k0_pay6, Gen.k0_pay4, Gen.k0_pay5, Gen.k0_pay2]
  exact congrArg₂ (· + ·) (congrArg₂ (· + ·) (congrArg₂ (· + ·) (congrArg₂ (· + ·)
    (congrArg₂ (· + ·) rfl (left_tap h1 k3 p o _ fun _ => rfl)) (mid_tap h1 k4 p o)) (right_tap h1 k5 p hp o _))
    (left_tap h2 k6 p o _ fun _ => rfl)) (mid_tap h2 k7 p o)

set_option maxHeartbeats 4000000 in
/-- One channel of the heads: the last tap completes the convolution, which is rectified and multiplied. -/
theorem heads (b : Vec512) (h0 : Rows x i 0 X0) (h1 : Rows x i 1 X1) (h2 : Rows x i 2 X2)
    (k0 : Slab w 0 0 W0) (k1 : Slab w 0 1 W1) (k2 : Slab w 0 2 W2) (k3 : Slab w 1 0 W3) (k4 : Slab w 1 1 W4)
    (k5 : Slab w 1 2 W5) (k6 : Slab w 2 0 W6) (k7 : Slab w 2 1 W7) (k8 : Slab w 2 2 W8)
    (B : Vec Ideal S1x512 .f32) (hB : ∀ o : Fin 512, B (ix2 0 o) = b (ix1 o))
    (V : Vec Ideal S512x64 .f32) (U : Vec Ideal S1x64 .f32) (p : Fin 176) (hp : p.val % 88 < 84) (n : Fin 64) :
    Gen.k0_pay9
        (Gen.k0_pay7 (Gen.k0_pay2 (F := Ideal)) (Gen.k0_pay3 X0 W0 W1 W2) (Gen.k0_pay4 X1) (Gen.k0_pay5 X1) W3 W4 W5 X2 W6 W7)
        (Gen.k0_pay8 (Gen.k0_pay2 (F := Ideal)) X2) W8 B V U (ix2 p n)
      = head (hidden x w b (i + p.val / 88) (p.val % 88)) (fun o => V (ix2 o n)) (U (ix2 0 n)) := by
  have hv := fun o => taps_b (Gen.k0_pay3 X0 W0 W1 W2) h1 h2 k3 k4 k5 k6 k7 p hp o
  have hu := fun o => taps_a h0 k0 k1 k2 p hp o
  generalize Gen.k0_pay7 (Gen.k0_pay2 (F := Ideal)) (Gen.k0_pay3 X0 W0 W1 W2) (Gen.k0_pay4 X1) (Gen.k0_pay5 X1) W3 W4 W5 X2 W6 W7 = v at *
  pointwise [Gen.k0_pay9, Gen.k0_pay8, Gen.k0_pay6, Gen.k0_pay2]
  unfold head
  refine congrArg (· + U (ix2 0 n)) (Finset.sum_congr rfl fun o _ => congrArg (· * V (ix2 o n)) ?_)
  rw [hv, hu, hB]
  exact congrArg (fun r => max (_ + r + b (ix1 o)) 0) (right_tap h2 k8 p hp o _)

variable (v64 : FVec Ideal S176x512 .f32) (v66 : FVec Ideal S176x256 .f32) (B : Vec Ideal S1x512 .f32)
  (V : Vec Ideal S512x64 .f32) (U : Vec Ideal S1x64 .f32) (AW AH CX CY : Vec Ideal S176x9 .f32)

/-- The block the body writes, from the values it has read and computed. -/
def payload (W : Vec Ideal S1x256x512 .f32) : FVec Ideal S176x48 .f32 :=
  Gen.k0_pay1 (Gen.k0_pay10 v64 v66 W B V U)
    (Gen.k0_pay21 (Gen.k0_pay11 v64 v66 W B V U) (Gen.k0_pay13 AW) (Gen.k0_pay16 v64 v66 W B V U AW CX))
    (Gen.k0_pay22 (Gen.k0_pay12 v64 v66 W B V U) (Gen.k0_pay14 AH) (Gen.k0_pay15 CY) (Gen.k0_pay17 v64 v66 W B V U AH))
    (Gen.k0_pay23 (Gen.k0_pay11 v64 v66 W B V U) (Gen.k0_pay13 AW) (Gen.k0_pay16 v64 v66 W B V U AW CX))
    (Gen.k0_pay24 (Gen.k0_pay12 v64 v66 W B V U) (Gen.k0_pay14 AH) (Gen.k0_pay15 CY) (Gen.k0_pay17 v64 v66 W B V U AH))
    (Gen.k0_pay25 (Gen.k0_pay11 v64 v66 W B V U) (Gen.k0_pay12 v64 v66 W B V U) (Gen.k0_pay13 AW) (Gen.k0_pay14 AH)
      (Gen.k0_pay15 CY) (Gen.k0_pay16 v64 v66 W B V U AW CX) (Gen.k0_pay17 v64 v66 W B V U AH))

/-- The heads' channels at row `p`. -/
def channels (W : Vec Ideal S1x256x512 .f32) (p : Fin 176) (n : Fin 64) : EReal := Gen.k0_pay9 v64 v66 W B V U (ix2 p n)

/-- The low end of anchor `a`'s interval along the axis whose offsets start at channel `d` and log scales at `s`, from
    the channels `h` of its row and the anchor's extent and centre. -/
def boxLow (h : Fin 64 → EReal) (d s : Fin 46) (a : Fin 9) (e q : EReal) : EReal :=
  low (h ⟨d.val + a.val, by omega⟩) (h ⟨s.val + a.val, by omega⟩) e q

/-- The high end of that interval. -/
def boxHigh (h : Fin 64 → EReal) (d s : Fin 46) (a : Fin 9) (e q : EReal) : EReal :=
  high (h ⟨d.val + a.val, by omega⟩) (h ⟨s.val + a.val, by omega⟩) e q

set_option maxHeartbeats 4000000 in
/-- The first nine columns: the scores. -/
theorem payload_score (p : Fin 176) (a : Fin 9) :
    payload v64 v66 B V U AW AH CX CY W (ix2 p ⟨a.val, by omega⟩)
      = score (boxLow (channels v64 v66 B V U W p) 18 36 a (AW (ix2 p a)) (CX (ix2 p a))) (boxLow (channels v64 v66 B V U W p) 27 45 a (AH (ix2 p a)) (CY (ix2 p a)))
          (boxHigh (channels v64 v66 B V U W p) 18 36 a (AW (ix2 p a)) (CX (ix2 p a))) (boxHigh (channels v64 v66 B V U W p) 27 45 a (AH (ix2 p a)) (CY (ix2 p a)))
          (prob ((channels v64 v66 B V U W p) ⟨a.val, by omega⟩) ((channels v64 v66 B V U W p) ⟨9 + a.val, by omega⟩)) := by
  unfold payload channels boxLow boxHigh
  simp only [Gen.k0_pay10, Gen.k0_pay11, Gen.k0_pay12, Gen.k0_pay16, Gen.k0_pay17]
  generalize Gen.k0_pay9 v64 v66 W B V U = H
  pointwise [Gen.k0_pay1, Gen.k0_pay25, Gen.k0_pay24, Gen.k0_pay23, Gen.k0_pay22, Gen.k0_pay21, Gen.k0_pay20, Gen.k0_pay19, Gen.k0_pay18, Gen.k0_pay15, Gen.k0_pay14, Gen.k0_pay13]
  rfl

set_option maxHeartbeats 4000000 in
/-- The next nine columns: the left ends. -/
theorem payload_x1 (p : Fin 176) (a : Fin 9) :
    payload v64 v66 B V U AW AH CX CY W (ix2 p ⟨9 + a.val, by omega⟩)
      = boxLow (channels v64 v66 B V U W p) 18 36 a (AW (ix2 p a)) (CX (ix2 p a)) := by
  unfold payload channels boxLow
  simp only [Gen.k0_pay10, Gen.k0_pay11, Gen.k0_pay12, Gen.k0_pay16, Gen.k0_pay17]
  generalize Gen.k0_pay9 v64 v66 W B V U = H
  pointwise [Gen.k0_pay1, Gen.k0_pay25, Gen.k0_pay24, Gen.k0_pay23, Gen.k0_pay22, Gen.k0_pay21, Gen.k0_pay20, Gen.k0_pay19, Gen.k0_pay18, Gen.k0_pay15, Gen.k0_pay14, Gen.k0_pay13]
  rfl

set_option maxHeartbeats 4000000 in
/-- The next nine columns: the upper ends. -/
theorem payload_y1 (p : Fin 176) (a : Fin 9) :
    payload v64 v66 B V U AW AH CX CY W (ix2 p ⟨18 + a.val, by omega⟩)
      = boxLow (channels v64 v66 B V U W p) 27 45 a (AH (ix2 p a)) (CY (ix2 p a)) := by
  unfold payload channels boxLow
  simp only [Gen.k0_pay10, Gen.k0_pay11, Gen.k0_pay12, Gen.k0_pay16, Gen.k0_pay17]
  generalize Gen.k0_pay9 v64 v66 W B V U = H
  pointwise [Gen.k0_pay1, Gen.k0_pay25, Gen.k0_pay24, Gen.k0_pay23, Gen.k0_pay22, Gen.k0_pay21, Gen.k0_pay20, Gen.k0_pay19, Gen.k0_pay18, Gen.k0_pay15, Gen.k0_pay14, Gen.k0_pay13]
  rw [dif_neg (show ¬ 18 + a.val < 9 by omega)]
  rw [dif_neg (show ¬ 18 + a.val - 9 < 9 by omega)]
  rw [dif_pos (show 18 + a.val - 9 - 9 < 9 by omega)]
  simp only [show 18 + a.val - 9 - 9 = a.val by omega]
  rfl

set_option maxHeartbeats 4000000 in
/-- The next nine columns: the right ends. -/
theorem payload_x2 (p : Fin 176) (a : Fin 9) :
    payload v64 v66 B V U AW AH CX CY W (ix2 p ⟨27 + a.val, by omega⟩)
      = boxHigh (channels v64 v66 B V U W p) 18 36 a (AW (ix2 p a)) (CX (ix2 p a)) := by
  unfold payload channels boxHigh
  simp only [Gen.k0_pay10, Gen.k0_pay11, Gen.k0_pay12, Gen.k0_pay16, Gen.k0_pay17]
  generalize Gen.k0_pay9 v64 v66 W B V U = H
  pointwise [Gen.k0_pay1, Gen.k0_pay25, Gen.k0_pay24, Gen.k0_pay23, Gen.k0_pay22, Gen.k0_pay21, Gen.k0_pay20, Gen.k0_pay19, Gen.k0_pay18, Gen.k0_pay15, Gen.k0_pay14, Gen.k0_pay13]
  rw [dif_neg (show ¬ 27 + a.val < 9 by omega)]
  rw [dif_neg (show ¬ 27 + a.val - 9 < 9 by omega)]
  rw [dif_neg (show ¬ 27 + a.val - 9 - 9 < 9 by omega)]
  rw [dif_pos (show 27 + a.val - 9 - 9 - 9 < 9 by omega)]
  simp only [show 27 + a.val - 9 - 9 - 9 = a.val by omega]
  rfl

set_option maxHeartbeats 4000000 in
/-- The next nine columns: the lower ends. -/
theorem payload_y2 (p : Fin 176) (a : Fin 9) :
    payload v64 v66 B V U AW AH CX CY W (ix2 p ⟨36 + a.val, by omega⟩)
      = boxHigh (channels v64 v66 B V U W p) 27 45 a (AH (ix2 p a)) (CY (ix2 p a)) := by
  unfold payload channels boxHigh
  simp only [Gen.k0_pay10, Gen.k0_pay11, Gen.k0_pay12, Gen.k0_pay16, Gen.k0_pay17]
  generalize Gen.k0_pay9 v64 v66 W B V U = H
  pointwise [Gen.k0_pay1, Gen.k0_pay25, Gen.k0_pay24, Gen.k0_pay23, Gen.k0_pay22, Gen.k0_pay21, Gen.k0_pay20, Gen.k0_pay19, Gen.k0_pay18, Gen.k0_pay15, Gen.k0_pay14, Gen.k0_pay13]
  rw [dif_neg (show ¬ 36 + a.val < 9 by omega)]
  rw [dif_neg (show ¬ 36 + a.val - 9 < 9 by omega)]
  rw [dif_neg (show ¬ 36 + a.val - 9 - 9 < 9 by omega)]
  rw [dif_neg (show ¬ 36 + a.val - 9 - 9 - 9 < 9 by omega)]
  rw [dif_pos (show 36 + a.val - 9 - 9 - 9 - 9 < 9 by omega)]
  simp only [show 36 + a.val - 9 - 9 - 9 - 9 = a.val by omega]
  rfl

end Cert.Proposal

end

end
-- ==== Proof.Array.lean ====
/- What the kernel call leaves in its output array: at row `88 * h + w` the scores and boxes of position `(h, w)`. -/
module

public import proofs.«01_k».proof.Proof.Gen.KernelIdeal.Frame
public import proofs.«01_k».proof.Proof.Inputs
public import proofs.«01_k».proof.Proof.Block
public import Idealize.ShloMosaic.Lib.Pipeline.ValueKit

@[expose] public section

set_option maxRecDepth 16384

noncomputable section

namespace Cert.Proposal

open Cert.KernelIdeal Idealize.ShloMosaic Idealize.ShloMosaic.TcCoe

variable (m : (ℓ : Loc nD τ sig) → Buf (Elt Ideal) ℓ)

/-- The number of grid points. -/
theorem points : cfg0.N = 42 := rfl

/-- The blocks of the four anchor arrays and of the output follow one another down the rows. -/
theorem index_rows : ∀ t : Fin grid0.N,
    win0_5.index t = ![t.val, 0] ∧ win0_6.index t = ![t.val, 0] ∧ win0_7.index t = ![t.val, 0]
      ∧ win0_8.index t = ![t.val, 0] ∧ win0_9.index t = ![t.val, 0] := by decide +kernel

/-- The other arrays are handed over whole. -/
theorem index_whole : ∀ t : Fin grid0.N,
    win0_0.index t = ![0, 0] ∧ win0_1.index t = ![0, 0, 0] ∧ win0_2.index t = ![0, 0] ∧ win0_3.index t = ![0, 0]
      ∧ win0_4.index t = ![0, 0] := by decide +kernel

/-- Where the body starts reading the feature map for each of the three tap rows. -/
theorem off_rows : ∀ t : Fin grid0.N,
    k0_off1 (grid0.coords t) 4294967295#32 = ![(2 * t.val + 0) * 88, 0] ∧ k0_off1 (grid0.coords t) 0#32 = ![(2 * t.val + 1) * 88, 0]
      ∧ k0_off1 (grid0.coords t) 1#32 = ![(2 * t.val + 2) * 88, 0] := by decide +kernel

/-- The array row of row `p` of block `t`. -/
def row (t : Fin cfg0.N) (p : Fin 176) : Fin 7392 := ⟨t.val * 176 + p.val, by have := points; omega⟩

/-- Block `t` of the anchors' widths. -/
theorem blk5 (c : Dev nD) (t : Fin cfg0.N) (p : Fin 176) (a : Fin 9) :
    (Gen.iblk m c 5 t : Vec Ideal S176x9 .f32) (ix2 p a) = (Gen.V m c main_v78 : S7392x9.Idx → EReal) (ix2 (row t p) a) := by
  have e := (index_rows t).1
  blk_simp [Gen.iblk]
  unfold row
  blk_ext [e]

/-- Block `t` of the anchors' heights. -/
theorem blk6 (c : Dev nD) (t : Fin cfg0.N) (p : Fin 176) (a : Fin 9) :
    (Gen.iblk m c 6 t : Vec Ideal S176x9 .f32) (ix2 p a) = (Gen.V m c main_v81 : S7392x9.Idx → EReal) (ix2 (row t p) a) := by
  have e := (index_rows t).2.1
  blk_simp [Gen.iblk]
  unfold row
  blk_ext [e]

/-- Block `t` of the anchors' horizontal centres. -/
theorem blk7 (c : Dev nD) (t : Fin cfg0.N) (p : Fin 176) (a : Fin 9) :
    (Gen.iblk m c 7 t : Vec Ideal S176x9 .f32) (ix2 p a) = (Gen.V m c main_v84 : S7392x9.Idx → EReal) (ix2 (row t p) a) := by
  have e := (index_rows t).2.2.1
  blk_simp [Gen.iblk]
  unfold row
  blk_ext [e]

/-- Block `t` of the anchors' vertical centres. -/
theorem blk8 (c : Dev nD) (t : Fin cfg0.N) (p : Fin 176) (a : Fin 9) :
    (Gen.iblk m c 8 t : Vec Ideal S176x9 .f32) (ix2 p a) = (Gen.V m c main_v87 : S7392x9.Idx → EReal) (ix2 (row t p) a) := by
  have e := (index_rows t).2.2.2.1
  blk_simp [Gen.iblk]
  unfold row
  blk_ext [e]

/-- Block `t` of the convolution's bias is the whole of it. -/
theorem blk2 (c : Dev nD) (t : Fin cfg0.N) (o : Fin 512) :
    (Gen.iblk m c 2 t : Vec Ideal S1x512 .f32) (ix2 0 o) = (Gen.V m c main_v28 : S1x512.Idx → EReal) (ix2 0 o) := by
  have e := (index_whole t).2.2.1
  blk_simp [Gen.iblk]
  blk_ext [e]

/-- Block `t` of the heads' weights is the whole of them. -/
theorem blk3 (c : Dev nD) (t : Fin cfg0.N) (o : Fin 512) (n : Fin 64) :
    (Gen.iblk m c 3 t : Vec Ideal S512x64 .f32) (ix2 o n) = (Gen.V m c main_v17 : S512x64.Idx → EReal) (ix2 o n) := by
  have e := (index_whole t).2.2.2.1
  blk_simp [Gen.iblk]
  blk_ext [e]

/-- Block `t` of the heads' bias is the whole of it. -/
theorem blk4 (c : Dev nD) (t : Fin cfg0.N) (n : Fin 64) :
    (Gen.iblk m c 4 t : Vec Ideal S1x64 .f32) (ix2 0 n) = (Gen.V m c main_v27 : S1x64.Idx → EReal) (ix2 0 n) := by
  have e := (index_whole t).2.2.2.2
  blk_simp [Gen.iblk]
  blk_ext [e]

/-- Block `t` of the feature map is the whole of it. -/
theorem blk0 (c : Dev nD) (t : Fin cfg0.N) (r : Fin 7568) (k : Fin 256) :
    (Gen.iblk m c 0 t : Vec Ideal S7568x256 .f32) (ix2 r k) = (Gen.V m c main_v3 : S7568x256.Idx → EReal) (ix2 r k) := by
  have e := (index_whole t).1
  blk_simp [Gen.iblk]
  blk_ext [e]

/-- Block `t` of the convolution's weights is the whole of them. -/
theorem blk1 (c : Dev nD) (t : Fin cfg0.N) (s : Fin 9) (k : Fin 256) (o : Fin 512) :
    (Gen.iblk m c 1 t : Vec Ideal S9x256x512 .f32) (ix3 s k o) = (Gen.V m c main_v5 : S9x256x512.Idx → EReal) (ix3 s k o) := by
  have e := (index_whole t).2.1
  blk_simp [Gen.iblk]
  blk_ext [e]

/-- A read of 176 rows of the feature map from row `n` on, at an index. -/
theorem ld_rows (Y : Vec Ideal S7568x256 .f32) (n : ℕ) (off : Fin 2 → ℕ) (h : off = ![n, 0])
    (inb : ∀ a, off a + ![176, 256] a ≤ S7568x256.size a) (p : Fin 176) (k : Fin 256) (hn : n + p.val < 7568) :
    View.ld Y (Rect.unit (s := S7568x256) off ![176, 256] inb) (ix2 p k) = Y (ix2 ⟨n + p.val, hn⟩ k) := by
  subst h
  refine congrArg Y (funext fun a => Fin.ext ?_)
  match a with
  | ⟨0, _⟩ => show n + 1 * p.val = n + p.val; omega
  | ⟨1, _⟩ => show 0 + 1 * k.val = k.val; omega

/-- A read of one slab of the convolution's weights, at an index. -/
theorem ld_slab (Y : Vec Ideal S9x256x512 .f32) (s : Fin 9) (off : Fin 3 → ℕ) (h : off = ![s.val, 0, 0])
    (inb : ∀ a, off a + ![1, 256, 512] a ≤ S9x256x512.size a) (k : Fin 256) (o : Fin 512) :
    View.ld Y (Rect.unit (s := S9x256x512) off ![1, 256, 512] inb) (ix3 0 k o) = Y (ix3 s k o) := by
  subst h
  refine congrArg Y (funext fun a => Fin.ext ?_)
  match a with
  | ⟨0, _⟩ => show s.val + 1 * 0 = s.val; omega
  | ⟨1, _⟩ => show 0 + 1 * k.val = k.val; omega
  | ⟨2, _⟩ => show 0 + 1 * o.val = o.val; omega

/-- The slab the body reads at offset `s` of the convolution's weights is tap `(s / 3, s % 3)`. -/
theorem slab (c : Dev nD) (t : Fin cfg0.N) (s : Fin 9) (off : Fin 3 → ℕ) (h : off = ![s.val, 0, 0]) (inb) :
    Slab (m ((c.tc : Thread nD τ).loc main_arg3)) ⟨s.val / 3, by omega⟩ ⟨s.val % 3, by omega⟩
      (View.ld (Gen.iblk m c 1 t) (Rect.unit (s := S9x256x512) off ![1, 256, 512] inb)) :=
  fun k o => ((ld_slab _ s off h inb k o).trans (blk1 m c t s k o)).trans (w1_at m c s k o)

/-- The rows the body reads from row `(2 * t + ky) * 88` on are those of tap row `ky`. -/
theorem rows (c : Dev nD) (t : Fin cfg0.N) (ky : Fin 3) (off : Fin 2 → ℕ) (h : off = ![(2 * t.val + ky.val) * 88, 0]) (inb) :
    Rows (m ((c.tc : Thread nD τ).loc main_arg0)) (2 * t.val) ky
      (View.ld (Gen.iblk m c 0 t) (Rect.unit (s := S7568x256) off ![176, 256] inb)) := by
  intro p k
  have hN : t.val < 42 := t.isLt
  have hn : (2 * t.val + ky.val) * 88 + p.val < 7568 := by omega
  refine ((ld_rows _ _ off h inb p k hn).trans (blk0 m c t _ k)).trans ((x_at m c _ k).trans ?_)
  show pix _ k (((2 * t.val + ky.val) * 88 + p.val) / 88) (((2 * t.val + ky.val) * 88 + p.val) % 88 + 1) = _
  rw [show ((2 * t.val + ky.val) * 88 + p.val) / 88 = 2 * t.val + p.val / 88 + ky.val by omega,
    show ((2 * t.val + ky.val) * 88 + p.val) % 88 = p.val % 88 by omega]

/-- The proposals' data, as the kernel's program is given them. -/
def netK (c : Dev nD) : Net where
  x := m ((c.tc : Thread nD τ).loc main_arg0)
  w := m ((c.tc : Thread nD τ).loc main_arg3)
  b := m ((c.tc : Thread nD τ).loc main_arg4)
  wc := m ((c.tc : Thread nD τ).loc main_arg5)
  bc := m ((c.tc : Thread nD τ).loc main_arg6)
  wb := m ((c.tc : Thread nD τ).loc main_arg7)
  bb := m ((c.tc : Thread nD τ).loc main_arg8)
  base := base

/-- What the body leaves at point `t` is a payload whose channels are the heads' at the block's positions. -/
theorem outsAt_eq (c : Dev nD) (t : Fin cfg0.N) :
    ∃ v64 v66 W, Gen.outsAt0 m c t = payload v64 v66 (Gen.iblk m c 2 t) (Gen.iblk m c 3 t) (Gen.iblk m c 4 t)
        (Gen.iblk m c 5 t) (Gen.iblk m c 6 t) (Gen.iblk m c 7 t) (Gen.iblk m c 8 t) W
      ∧ ∀ (p : Fin 176), p.val % 88 < 84 → ∀ n : Fin 64,
        channels v64 v66 (Gen.iblk m c 2 t) (Gen.iblk m c 3 t) (Gen.iblk m c 4 t) W p n
          = head (hidden (netK m c).x (netK m c).w (netK m c).b (2 * t.val + p.val / 88) (p.val % 88))
              (fun o => (Gen.V m c main_v17 : S512x64.Idx → EReal) (ix2 o n))
              ((Gen.V m c main_v27 : S1x64.Idx → EReal) (ix2 0 n)) := by
  apply Exists.intro
  apply Exists.intro
  apply Exists.intro
  refine And.intro ?e fun p hp n => ?_
  case e =>
    unfold Gen.outsAt0
    frame_out
    unfold payload
    rfl
  unfold channels
  refine (heads (netK m c).b (rows m c t 0 _ (off_rows t).1 _) (rows m c t 1 _ (off_rows t).2.1 _)
    (rows m c t 2 _ (off_rows t).2.2 _) (slab m c t 0 _ rfl _) (slab m c t 1 _ rfl _) (slab m c t 2 _ rfl _)
    (slab m c t 3 _ rfl _) (slab m c t 4 _ rfl _) (slab m c t 5 _ rfl _) (slab m c t 6 _ rfl _) (slab m c t 7 _ rfl _)
    (slab m c t 8 _ rfl _) _ (fun o => (blk2 m c t o).trans (b1_at m c 0 o)) _ _ p hp n).trans ?_
  rw [blk4]
  simp only [blk3]
  rfl

/-- The heads' channels, named: the class scores and the regression's offsets and log scales. -/
def Heads (N : Net) (i j : ℕ) (h : Fin 64 → EReal) : Prop :=
  (∀ (n : Fin 18) (k : Fin 64), k.val = n.val → h k = N.cls i j n)
    ∧ ∀ (q : Fin 4) (a : Fin 9) (k : Fin 64), k.val = 18 + (9 * q.val + a.val) → h k = N.reg i j a q

/-- What the body leaves at point `t` is a payload whose channels are the class scores and the regression's values. -/
theorem outsAt_heads (c : Dev nD) (t : Fin cfg0.N) :
    ∃ v64 v66 W, Gen.outsAt0 m c t = payload v64 v66 (Gen.iblk m c 2 t) (Gen.iblk m c 3 t) (Gen.iblk m c 4 t)
        (Gen.iblk m c 5 t) (Gen.iblk m c 6 t) (Gen.iblk m c 7 t) (Gen.iblk m c 8 t) W
      ∧ ∀ (p : Fin 176), p.val % 88 < 84 → Heads (netK m c) (2 * t.val + p.val / 88) (p.val % 88)
          (channels v64 v66 (Gen.iblk m c 2 t) (Gen.iblk m c 3 t) (Gen.iblk m c 4 t) W p) := by
  obtain ⟨v64, v66, W, e, h⟩ := outsAt_eq m c t
  refine ⟨v64, v66, W, e, fun p hp => ⟨fun n k hk => ?_, fun q a k hk => ?_⟩⟩
  · obtain rfl : k = ⟨n.val, Nat.lt_trans n.isLt (by decide)⟩ := Fin.ext hk
    rw [h p hp]
    exact congrArg₂ (head _) (funext fun o => w2_cls m c o n) (b2_cls m c 0 n)
  · obtain rfl : k = ⟨18 + (9 * q.val + a.val), (by decide : ∀ (q : Fin 4) (a : Fin 9), 18 + (9 * q.val + a.val) < 64) q a⟩ := Fin.ext hk
    rw [h p hp]
    exact congrArg₂ (head _) (funext fun o => w2_box m c o q a) (b2_box m c 0 q a)

/-- The output array, block by block. -/
theorem arr (c : Dev nD) :
    (Gen.dats m 0 c).arrAt 9 cfg0.N
      = (fun j : S7392x48.Idx => Gen.outsAt0 m c ⟨(j 0).val / 176, by have h : (j 0).val < 7392 := (j 0).isLt; have := points; omega⟩
          (ix2 ⟨(j 0).val % 176, by omega⟩ (j 1)) : S7392x48.Idx → EReal) := by
  refine (Gen.dats m 0 c).arrAt_eq_of_covers 9 _ (by decide +kernel) fun t hf y => ?_
  have e := (index_rows t).2.2.2.2
  rw [Gen.after0_9]
  blk_simp [e]
  have hy : (y 0).val < 176 := (y 0).isLt
  have key : ∀ (t' : Fin cfg0.N) (y' : S176x48.Idx), t' = t → y' = y → Gen.outsAt0 m c t y = Gen.outsAt0 m c t' y' := by
    rintro _ _ rfl rfl; rfl
  refine key _ _ (Fin.ext ?_) (funext fun a => Fin.ext ?_)
  · show (t.val * 176 + (y 0).val) / 176 = t.val
    omega
  · match a with
    | ⟨0, _⟩ => show (t.val * 176 + (y 0).val) % 176 = (y 0).val; omega
    | ⟨1, _⟩ =>
      show (((win0_9.blk t).view.emb y 1 : Fin _) : ℕ) = (y 1).val
      blk_simp [e]

/-- Row `r` of the output array, at a row standing for a position of the map. -/
theorem arr_row (c : Dev nD) (r : Fin 7392) (hr : r.val % 88 < 84) (a : Fin 9) :
    let A : S7392x48.Idx → EReal := (Gen.dats m 0 c).arrAt 9 cfg0.N
    let N := netK m c
    A (ix2 r ⟨a.val, by omega⟩) = N.score (r.val / 88) (r.val % 88) a
      ∧ A (ix2 r ⟨9 + a.val, by omega⟩) = N.x1 (r.val / 88) (r.val % 88) a
      ∧ A (ix2 r ⟨18 + a.val, by omega⟩) = N.y1 (r.val / 88) (r.val % 88) a
      ∧ A (ix2 r ⟨27 + a.val, by omega⟩) = N.x2 (r.val / 88) (r.val % 88) a
      ∧ A (ix2 r ⟨36 + a.val, by omega⟩) = N.y2 (r.val / 88) (r.val % 88) a := by
  intro A N
  have hA : ∀ k : Fin 48, A (ix2 r k) = Gen.outsAt0 m c ⟨r.val / 176, by have := points; omega⟩ (ix2 ⟨r.val % 176, by omega⟩ k) :=
    fun k => congrFun (arr m c) (ix2 r k)
  have e1 : 2 * (r.val / 176) + r.val % 176 / 88 = r.val / 88 := by omega
  have e2 : r.val % 176 % 88 = r.val % 88 := by omega
  have e3 : r.val / 176 * 176 + r.val % 176 = r.val := by omega
  have hb : r.val / 88 < 84 ∧ r.val % 88 < 84 := ⟨by omega, hr⟩
  have hrow : row ⟨r.val / 176, by have := points; omega⟩ ⟨r.val % 176, by omega⟩ = r := Fin.ext e3
  obtain ⟨v64, v66, W, e, h⟩ := outsAt_heads m c ⟨r.val / 176, by have := points; omega⟩
  have hh := h ⟨r.val % 176, by omega⟩ (by show r.val % 176 % 88 < 84; omega)
  simp only [e1, e2] at hh
  have hx := blk5 m c ⟨r.val / 176, by have := points; omega⟩ ⟨r.val % 176, by omega⟩ a
  have hy := blk6 m c ⟨r.val / 176, by have := points; omega⟩ ⟨r.val % 176, by omega⟩ a
  have hu := blk7 m c ⟨r.val / 176, by have := points; omega⟩ ⟨r.val % 176, by omega⟩ a
  have hv := blk8 m c ⟨r.val / 176, by have := points; omega⟩ ⟨r.val % 176, by omega⟩ a
  rw [hrow, aw_at m c r a hb] at hx
  rw [hrow, ah_at m c r a hb] at hy
  rw [hrow, cx_at m c r a hb] at hu
  rw [hrow, cy_at m c r a hb] at hv
  simp only [hA, e]
  rw [payload_score, payload_x1, payload_y1, payload_x2, payload_y2, hx, hy, hu, hv]
  generalize channels v64 v66 _ _ _ W _ = H at hh ⊢
  unfold boxLow boxHigh
  rw [hh.2 0 a ⟨(18 : Fin 46).val + a.val, _⟩ (by simp), hh.2 1 a ⟨(27 : Fin 46).val + a.val, _⟩ (by simp; omega),
    hh.2 2 a ⟨(36 : Fin 46).val + a.val, _⟩ (by simp; omega), hh.2 3 a ⟨(45 : Fin 46).val + a.val, _⟩ (by simp; omega),
    hh.1 ⟨a.val, by omega⟩ ⟨a.val, _⟩ rfl, hh.1 ⟨9 + a.val, by omega⟩ ⟨9 + a.val, _⟩ rfl]
  exact ⟨rfl, rfl, rfl, rfl, rfl⟩

end Cert.Proposal

end

end
-- ==== Proof.Result.lean ====
/- The kernel's results, element by element. -/
module

public import proofs.«01_k».proof.Proof.Array
public import proofs.«01_k».proof.Proof.Gen.KernelIdeal.Run
public import Idealize.ShloMosaic.Lib.Tactic.CleanTypes

@[expose] public section

set_option maxRecDepth 16384

noncomputable section

namespace Cert.Proposal

open Cert.KernelIdeal Cert.KernelIdeal.Gen Cert.KernelIdeal.Value Idealize.ShloMosaic Idealize.ShloMosaic.TcCoe Idealize.ShloMosaic.StableHlo

/-- One group of nine channels of the padded output, flattened as the kernel's tail flattens it. -/
theorem column (off : ℕ) (hs : S7056x48.Slices ![0, off] S7056x9) (ho : off + 9 ≤ 48) (A : FVec Ideal S7392x48 .f32) (n : Fin 63504) :
    (shapeCast S63504 (extractStridedSlice S7056x9 ![0, off] (shapeCast S7056x48 (extractStridedSlice S84x84x48 ![0, 0, 0]
        (shapeCast S84x88x48 A shapeCasts_S7392x48_S84x88x48) slices_S84x88x48_S84x84x48_0_0_0) shapeCasts_S84x84x48_S7056x48) hs)
      shapeCasts_S7056x9_S63504 : S63504.Idx → EReal) (ix1 n)
      = (A : S7392x48.Idx → EReal) (ix2 ⟨n.val / 9 / 84 * 88 + n.val / 9 % 84, by omega⟩ ⟨off + n.val % 9, by omega⟩) := by
  pointwise []

variable (m : (ℓ : Loc nD τ sig) → Buf (Elt Ideal) ℓ)

/-- What the kernel's tail reads at result `n`. -/
theorem columns_at (c : Dev nD) (n : Fin 63504) :
    let A : S7392x48.Idx → EReal := reg_main_v88 m c
    let N := netK m c
    let r : Fin 7392 := ⟨n.val / 9 / 84 * 88 + n.val / 9 % 84, by omega⟩
    let i := n.val / 9 / 84
    let j := n.val / 9 % 84
    let a : Fin 9 := ⟨n.val % 9, by omega⟩
    A (ix2 r ⟨0 + n.val % 9, by omega⟩) = N.score i j a ∧ A (ix2 r ⟨9 + n.val % 9, by omega⟩) = N.x1 i j a
      ∧ A (ix2 r ⟨18 + n.val % 9, by omega⟩) = N.y1 i j a ∧ A (ix2 r ⟨27 + n.val % 9, by omega⟩) = N.x2 i j a
      ∧ A (ix2 r ⟨36 + n.val % 9, by omega⟩) = N.y2 i j a := by
  intro A N r i j a
  have hr : r.val % 88 = j := by show (n.val / 9 / 84 * 88 + n.val / 9 % 84) % 88 = n.val / 9 % 84; omega
  have hq : r.val / 88 = i := by show (n.val / 9 / 84 * 88 + n.val / 9 % 84) / 88 = n.val / 9 / 84; omega
  have hj : j < 84 := Nat.mod_lt _ (by decide)
  have h := arr_row m c r (by rw [hr]; exact hj) a
  rw [hr, hq] at h
  obtain ⟨h0, h1, h2, h3, h4⟩ := h
  refine ⟨Eq.trans (congrArg (fun k => A (ix2 r k)) (Fin.ext (Nat.zero_add _))) h0, h1, h2, h3, h4⟩

end Cert.Proposal

end

end
-- ==== Proof.Reference.lean ====
/- What the reference computes, element by element. -/
module

public import proofs.«01_k».proof.Proof.Gen.ReferenceIdeal.Run
public import proofs.«01_k».proof.Proof.Spec
public import Idealize.ShloMosaic.Lib.Tactic.CleanTypes

@[expose] public section

set_option maxRecDepth 16384

noncomputable section

namespace Cert.Proposal

open Cert.ReferenceIdeal Cert.ReferenceIdeal.Facts₀ Cert.ReferenceIdeal.Facts Cert.ReferenceIdeal.Value Idealize.ShloMosaic Idealize.ShloMosaic.TcCoe Idealize.ShloMosaic.StableHlo

/-- The proposals' data, as the reference is given them. -/
def netR (V : Valuation τ sig (Elt Ideal)) : Net where
  x := V (Proc.devRef .tc main_arg0)
  w := V (Proc.devRef .tc main_arg3)
  b := V (Proc.devRef .tc main_arg4)
  wc := V (Proc.devRef .tc main_arg5)
  bc := V (Proc.devRef .tc main_arg6)
  wb := V (Proc.devRef .tc main_arg7)
  bb := V (Proc.devRef .tc main_arg8)
  base := fun a q => Ideal.ofBits FTy.f32 (lit0 (S9x4.rowMajor (ix2 a q)))

variable (V : Valuation τ sig (Elt Ideal))

set_option maxHeartbeats 4000000 in
/-- The padded feature map. -/
theorem v0_at (k : Fin 256) (i j : Fin 86) :
    (res_main_v0 V : S1x256x86x86.Idx → EReal) (ix4 0 k i j) = pix (netR V).x k i.val j.val := by
  unfold res_main_v0
  clean_types
  pointwise []
  unfold pix
  have h0 : (FloatOps.sitofp (F := Ideal) FTy.f32 (0#32) : EReal) = 0 := by
    show (((0#32 : BitVec 32).toInt : ℝ) : EReal) = 0; simp
  split_ifs
  · rfl
  · exact h0

set_option maxHeartbeats 4000000 in
/-- The hidden features. -/
theorem v59_at (o : Fin 512) (i j : Fin 84) :
    (res_main_v59 V : S1x512x84x84.Idx → EReal) (ix4 0 o i j) = hidden (netR V).x (netR V).w (netR V).b i.val j.val o := by
  unfold res_main_v59 res_main_v55
  generalize h : res_main_v0 V = Y
  clean_types
  pointwise []
  subst h
  simp only [v0_at, Nat.add_comm 1, Nat.add_comm 2]
  have key : ∀ y x : Fin 3, (∑ k, (netR V).w (ix4 o k y x) * pix (netR V).x k (i.val + y.val) (j.val + x.val))
      = tap (netR V).x (netR V).w o i.val j.val y x := fun y x => Finset.sum_congr rfl fun k _ => mul_comm _ _
  unfold hidden conv
  simp only [← key]
  rfl

set_option maxHeartbeats 4000000 in
/-- The class scores. -/
theorem v66_at (t : Fin 2) (r : Fin 756) (j : Fin 84) :
    (res_main_v66 V : S1x2x756x84.Idx → EReal) (ix4 0 t r j)
      = (netR V).cls (r.val % 84) j.val ⟨9 * t.val + r.val / 84, by omega⟩ := by
  unfold res_main_v66
  generalize h : res_main_v59 V = Y
  clean_types
  pointwise []
  subst h
  simp only [v59_at, Nat.mul_comm t.val 9]
  exact congrArg₂ (· + ·) (Finset.sum_congr rfl fun o _ => mul_comm _ _) rfl

set_option maxHeartbeats 4000000 in
/-- The regression's values. -/
theorem v111_at (n : Fin 63504) (q : Fin 4) :
    (res_main_v111 V : S63504x4.Idx → EReal) (ix2 n q)
      = (netR V).reg (n.val / 9 / 84) (n.val / 9 % 84) ⟨n.val % 9, by omega⟩ q := by
  unfold res_main_v111
  generalize h : res_main_v59 V = Y
  clean_types
  pointwise []
  subst h
  simp only [v59_at, Nat.mul_comm _ 4, show n.val / 756 = n.val / 9 / 84 by omega]
  exact congrArg₂ (· + ·) (Finset.sum_congr rfl fun o _ => mul_comm _ _) rfl

/-- The larger of two class scores, as the reference folds it. -/
theorem fold_max (f : Fin 2 → EReal) :
    max (Ideal.ofBits FTy.f32 4286578688#32)
      (Finset.fold max (Ideal.ofBits FTy.f32 4286578688#32) f Finset.univ) = max (f 0) (f 1) := by
  have h : Ideal.ofBits FTy.f32 4286578688#32 = ⊥ := by simp [Ideal.ofBits, Ideal.ieee]
  rw [h, show (Finset.univ : Finset (Fin 2)) = {0, 1} from rfl, Finset.fold_insert (by decide), Finset.fold_singleton]
  simp

set_option maxHeartbeats 4000000 in
/-- The exponentials of the class scores, less the larger of the two. -/
theorem v73_at (t : Fin 2) (r : Fin 756) (j : Fin 84) :
    (res_main_v73 V : S1x2x756x84.Idx → EReal) (ix4 0 t r j)
      = Ideal.exp ((netR V).cls (r.val % 84) j.val ⟨9 * t.val + r.val / 84, by omega⟩
          - max ((netR V).cls (r.val % 84) j.val ⟨r.val / 84, by omega⟩) ((netR V).cls (r.val % 84) j.val ⟨9 + r.val / 84, by omega⟩)) := by
  unfold res_main_v73
  generalize h : res_main_v66 V = Y
  clean_types
  pointwise []
  subst h
  rw [fold_max, v66_at, v66_at, v66_at]
  simp

/-- Word arithmetic of the horizontal displacement. -/
theorem word_mod : ∀ n : Fin 7056,
    Scalar.select
          (IntOp.andi
            (IntOp.cmpi CmpIPredicate.ne
              (IntOp.cmpi CmpIPredicate.slt (IntOp.remsi ArithUnit.host (BitVec.ofNat 32 n.val) 84#32) 0#32)
              (IntOp.cmpi CmpIPredicate.slt (84#32) 0#32))
            (IntOp.cmpi CmpIPredicate.ne (IntOp.remsi ArithUnit.host (BitVec.ofNat 32 n.val) 84#32) 0#32))
          (IntOp.addi (IntOp.remsi ArithUnit.host (BitVec.ofNat 32 n.val) 84#32) 84#32)
          (IntOp.remsi ArithUnit.host (BitVec.ofNat 32 n.val) 84#32) = BitVec.ofNat 32 (n.val % 84) := by
  decide +kernel

/-- Word arithmetic of the vertical displacement. -/
theorem word_div : ∀ n : Fin 7056,
    Scalar.select
          (IntOp.andi
            (IntOp.cmpi CmpIPredicate.ne
              (if BitVec.ofNat 32 n.val = 0 then (0 : BitVec 32) else if (BitVec.ofNat 32 n.val).msb = true then -1 else 1)
              (if (84#32 : BitVec 32) = 0 then 0 else if BitVec.msb 84#32 = true then -1 else 1))
            (IntOp.cmpi CmpIPredicate.ne (IntOp.remsi ArithUnit.host (BitVec.ofNat 32 n.val) 84#32) 0#32))
          (IntOp.subi (IntOp.divsi ArithUnit.host (BitVec.ofNat 32 n.val) 84#32) 1#32)
          (IntOp.divsi ArithUnit.host (BitVec.ofNat 32 n.val) 84#32) = BitVec.ofNat 32 (n.val / 84) := by
  decide +kernel

set_option maxHeartbeats 4000000 in
/-- The horizontal displacements. -/
theorem v89_at (n : Fin 7056) :
    (res_main_v89 V : S7056.Idx → EReal) (ix1 n) = shift (n.val % 84) := by
  unfold res_main_v89 res_main_call2_v4 res_main_v85 res_main_call2_v2 res_main_call2_v0
  clean_types
  pointwise []
  unfold shift
  rw [← word_mod]
  rfl

set_option maxHeartbeats 4000000 in
/-- The vertical displacements. -/
theorem v93_at (n : Fin 7056) :
    (res_main_v93 V : S7056.Idx → EReal) (ix1 n) = shift (n.val / 84) := by
  unfold res_main_v93 res_main_call3_v2 res_main_v85 res_main_call3_v0
  clean_types
  pointwise []
  unfold shift
  rw [← word_div]
  rfl

set_option maxHeartbeats 4000000 in
/-- The anchors' corners. -/
theorem v104_at (n : Fin 63504) :
    let A : S63504x4.Idx → EReal := res_main_v104 V
    let b := (netR V).base ⟨n.val % 9, by omega⟩
    A (ix2 n 0) = b 0 + shift (n.val / 9 % 84) ∧ A (ix2 n 1) = b 1 + shift (n.val / 9 / 84)
      ∧ A (ix2 n 2) = b 2 + shift (n.val / 9 % 84) ∧ A (ix2 n 3) = b 3 + shift (n.val / 9 / 84) := by
  intro A b
  have key : ∀ q : Fin 4, A (ix2 n q) = b q + if h : q.val < 1 then (res_main_v89 V : S7056.Idx → EReal) (ix1 ⟨n.val / 9, by omega⟩)
      else if h : q.val - 1 < 1 then (res_main_v93 V : S7056.Idx → EReal) (ix1 ⟨n.val / 9, by omega⟩)
      else if h : q.val - 1 - 1 < 1 then (res_main_v89 V : S7056.Idx → EReal) (ix1 ⟨n.val / 9, by omega⟩)
      else (res_main_v93 V : S7056.Idx → EReal) (ix1 ⟨n.val / 9, by omega⟩) := by
    intro q
    show (res_main_v104 V : S63504x4.Idx → EReal) (ix2 n q) = _
    unfold res_main_v104
    generalize h : res_main_v89 V = Y
    generalize h : res_main_v93 V = Z
    clean_types
    pointwise []
    rfl
  simp only [key, v89_at, v93_at]
  exact ⟨rfl, rfl, rfl, rfl⟩

set_option maxHeartbeats 4000000 in
/-- The anchors' extents. -/
theorem extents_at (n : Fin 63504) :
    (res_main_v118 V : S63504.Idx → EReal) (ix1 n) = extent (netR V).base ⟨n.val % 9, by omega⟩ 0 2 (n.val / 9 % 84)
      ∧ (res_main_v125 V : S63504.Idx → EReal) (ix1 n) = extent (netR V).base ⟨n.val % 9, by omega⟩ 1 3 (n.val / 9 / 84) := by
  obtain ⟨h0, h1, h2, h3⟩ := v104_at V n
  unfold res_main_v118 res_main_v125 extent
  generalize res_main_v104 V = Y at *
  clean_types
  constructor <;> pointwise []
  · rw [h0, h2]
  · rw [h1, h3]

set_option maxHeartbeats 4000000 in
/-- The decoded boxes, before they are clipped. -/
theorem v168_at (n : Fin 63504) :
    let A : S63504x4.Idx → EReal := res_main_v168 V
    let N := netR V
    let a : Fin 9 := ⟨n.val % 9, by omega⟩
    let i := n.val / 9 / 84
    let j := n.val / 9 % 84
    let ex := extent N.base a 0 2 j
    let ey := extent N.base a 1 3 i
    let qx := centre N.base a 0 2 j
    let qy := centre N.base a 1 3 i
    A (ix2 n 0) = N.reg i j a 0 * ex + qx - half * (Ideal.exp (N.reg i j a 2) * ex)
      ∧ A (ix2 n 1) = N.reg i j a 1 * ey + qy - half * (Ideal.exp (N.reg i j a 3) * ey)
      ∧ A (ix2 n 2) = N.reg i j a 0 * ex + qx + half * (Ideal.exp (N.reg i j a 2) * ex)
      ∧ A (ix2 n 3) = N.reg i j a 1 * ey + qy + half * (Ideal.exp (N.reg i j a 3) * ey) := by
  intro A N a i j ex ey qx qy
  obtain ⟨h0, h1, -, -⟩ := v104_at V n
  obtain ⟨e0, e1⟩ := extents_at V n
  have r := v111_at V n
  have b0 : (res_main_v145 V : S63504.Idx → EReal) (ix1 n) = N.reg i j a 0 * ex + qx := by
    unfold res_main_v145
    generalize res_main_v104 V = Y at *
    generalize res_main_v111 V = Z at *
    generalize res_main_v118 V = W at *
    clean_types
    pointwise []
    rw [h0, e0, r]
    rfl
  have b1 : (res_main_v147 V : S63504.Idx → EReal) (ix1 n) = N.reg i j a 1 * ey + qy := by
    unfold res_main_v147
    generalize res_main_v104 V = Y at *
    generalize res_main_v111 V = Z at *
    generalize res_main_v125 V = W at *
    clean_types
    pointwise []
    rw [h1, e1, r]
    rfl
  have b2 : (res_main_v149 V : S63504.Idx → EReal) (ix1 n) = Ideal.exp (N.reg i j a 2) * ex := by
    unfold res_main_v149
    generalize res_main_v111 V = Z at *
    generalize res_main_v118 V = W at *
    clean_types
    pointwise []
    rw [e0, r]
  have b3 : (res_main_v151 V : S63504.Idx → EReal) (ix1 n) = Ideal.exp (N.reg i j a 3) * ey := by
    unfold res_main_v151
    generalize res_main_v111 V = Z at *
    generalize res_main_v125 V = W at *
    clean_types
    pointwise []
    rw [e1, r]
  show (res_main_v168 V : S63504x4.Idx → EReal) (ix2 n 0) = _ ∧ (res_main_v168 V : S63504x4.Idx → EReal) (ix2 n 1) = _
    ∧ (res_main_v168 V : S63504x4.Idx → EReal) (ix2 n 2) = _ ∧ (res_main_v168 V : S63504x4.Idx → EReal) (ix2 n 3) = _
  unfold res_main_v168
  generalize res_main_v145 V = Y0 at *
  generalize res_main_v147 V = Y1 at *
  generalize res_main_v149 V = Y2 at *
  generalize res_main_v151 V = Y3 at *
  clean_types
  refine ⟨?_, ?_, ?_, ?_⟩ <;> pointwise []
  · rw [b0, b2]
  · rw [b1, b3]
  · rw [b0, b2]
  · rw [b1, b3]

/-- The precondition at the reference's arguments: the image is 1344 by 1344 and its scale is one. -/
def Image (V : Valuation τ sig (Elt Ideal)) : Prop :=
  let g : S3.Idx → EReal := V (Proc.devRef .tc main_arg1)
  g (ix1 0) = Ideal.ofBits FTy.f32 0x44A80000#32 ∧ g (ix1 1) = Ideal.ofBits FTy.f32 0x44A80000#32
    ∧ g (ix1 2) = Ideal.ofBits FTy.f32 0x3F800000#32

/-- The last coordinate inside an image of extent 1344. -/
theorem edge_eq : Ideal.ofBits FTy.f32 0x44A80000#32 - 1 = edge := by
  have h1 : Ideal.ofBits FTy.f32 0x44A80000#32 = ((1344 : ℝ) : EReal) := by
    simp [Ideal.ofBits, Ideal.ieee, -EReal.coe_mul]; norm_num
  have h2 : edge = ((1343 : ℝ) : EReal) := by
    unfold edge; simp [Ideal.ofBits, Ideal.ieee, -EReal.coe_mul]; norm_num
  rw [h1, h2, ← EReal.coe_one, ← EReal.coe_sub]; norm_num

variable {V}

set_option maxHeartbeats 4000000 in
/-- The clipped boxes. -/
theorem v197_at (hV : Image V) (n : Fin 63504) :
    let A : S63504x4.Idx → EReal := res_main_v197 V
    let N := netR V
    let a : Fin 9 := ⟨n.val % 9, by omega⟩
    let i := n.val / 9 / 84
    let j := n.val / 9 % 84
    A (ix2 n 0) = N.x1 i j a ∧ A (ix2 n 1) = N.y1 i j a ∧ A (ix2 n 2) = N.x2 i j a ∧ A (ix2 n 3) = N.y2 i j a := by
  intro A N a i j
  obtain ⟨h0, h1, h2, h3⟩ := v168_at V n
  obtain ⟨g0, g1, -⟩ := hV
  show (res_main_v197 V : S63504x4.Idx → EReal) (ix2 n 0) = _ ∧ (res_main_v197 V : S63504x4.Idx → EReal) (ix2 n 1) = _
    ∧ (res_main_v197 V : S63504x4.Idx → EReal) (ix2 n 2) = _ ∧ (res_main_v197 V : S63504x4.Idx → EReal) (ix2 n 3) = _
  unfold res_main_v197
  generalize res_main_v168 V = Y at *
  clean_types
  refine ⟨?_, ?_, ?_, ?_⟩ <;> pointwise []
  · rw [h0, g1, edge_eq]
    exact congrArg (fun z => min edge (max z _)) Ideal.ofBits_zero_f32
  · rw [h1, g0, edge_eq]
    exact congrArg (fun z => min edge (max z _)) Ideal.ofBits_zero_f32
  · rw [h2, g1, edge_eq]
    exact congrArg (fun z => min edge (max z _)) Ideal.ofBits_zero_f32
  · rw [h3, g0, edge_eq]
    exact congrArg (fun z => min edge (max z _)) Ideal.ofBits_zero_f32

end Cert.Proposal

end

end
-- ==== Proof.Score.lean ====
/- The masked scores the reference computes, element by element. -/
module

public import proofs.«01_k».proof.Proof.Reference

@[expose] public section

set_option maxRecDepth 16384

noncomputable section

namespace Cert.Proposal

open Cert.ReferenceIdeal Cert.ReferenceIdeal.Facts₀ Cert.ReferenceIdeal.Facts Cert.ReferenceIdeal.Value Idealize.ShloMosaic Idealize.ShloMosaic.TcCoe Idealize.ShloMosaic.StableHlo

variable {V : Valuation τ sig (Elt Ideal)}

/-- The masked scores, as the reference's run leaves them. -/
def scoresR (V : Valuation τ sig (Elt Ideal)) : FVec Ideal S63504 .f32 :=
  select (andi (cmpf .oge (addf (subf (shapeCast _ (extractStridedSlice S63504x1 ![0, 2] (res_main_v197 V) slices_S63504x4_S63504x1_0_2) shapeCasts_S63504x1_S63504) (shapeCast _ (extractStridedSlice S63504x1 ![0, 0] (res_main_v197 V) slices_S63504x4_S63504x1_0_0) shapeCasts_S63504x1_S63504)) (broadcastInDim S63504 ![] bcast_S_S63504 (constant S_ .f32 0x3F800000#32))) (broadcastInDim S63504 ![] bcast_S_S63504 (res_main_v214 V))) (cmpf .oge (addf (subf (shapeCast _ (extractStridedSlice S63504x1 ![0, 3] (res_main_v197 V) slices_S63504x4_S63504x1_0_3) shapeCasts_S63504x1_S63504) (shapeCast _ (extractStridedSlice S63504x1 ![0, 1] (res_main_v197 V) slices_S63504x4_S63504x1_0_1) shapeCasts_S63504x1_S63504)) (broadcastInDim S63504 ![] bcast_S_S63504 (constant S_ .f32 0x3F800000#32))) (broadcastInDim S63504 ![] bcast_S_S63504 (res_main_v214 V)))) (shapeCast _ (transpose S84x84x9 [1, 2, 0] (shapeCast _ (extractStridedSlice S1x9x84x84 ![0, 9, 0, 0] (shapeCast _ (Host.divf (res_main_v73 V) (broadcastInDim S1x2x756x84 ![0, 1, 2, 3] bcast_S1x1x756x84_S1x2x756x84_0_1_2_3 (broadcastInDim S1x1x756x84 ![0, 2, 3] bcast_S1x756x84_S1x1x756x84_0_2_3 (Host.reduceAdd (res_main_v73 V) (constant S_ .f32 0x00000000#32) reducesTo_S1x2x756x84_S1x756x84_d1 h_S_)))) shapeCasts_S1x2x756x84_S1x18x84x84) slices_S1x18x84x84_S1x9x84x84_0_9_0_0) shapeCasts_S1x9x84x84_S9x84x84) transposes_S9x84x84_S84x84x9_1_2_0) shapeCasts_S84x84x9_S63504) (broadcastInDim S63504 ![] bcast_S_S63504 (id (constant S_ .f32 0xCE6E6B28#32)))

/-- The product of the least extent and the image's scale. -/
theorem side_eq : Ideal.ofBits FTy.f32 0x41800000#32 * Ideal.ofBits FTy.f32 0x3F800000#32 = side := by
  rw [Ideal.ofBits_one_f32, mul_one]

/-- The feature row of result `n`, as the reference's flattening of the class scores finds it. -/
theorem row_of (n : ℕ) (hn : n < 63504) : ((9 + n % 9) % 9 * 84 + n / 756) % 84 = n / 9 / 84 := by
  have hq : n / 756 = n / 9 / 84 := by omega
  have h9 : (9 + n % 9) % 9 = n % 9 := by omega
  have hb : n / 9 / 84 < 84 := by omega
  rw [hq, h9]; omega

/-- The anchor of result `n`, as the reference's flattening of the class scores finds it. -/
theorem anchor_of (n : ℕ) (hn : n < 63504) : ((9 + n % 9) % 9 * 84 + n / 756) / 84 = n % 9 := by
  have hq : n / 756 = n / 9 / 84 := by omega
  have h9 : (9 + n % 9) % 9 = n % 9 := by omega
  have hb : n / 9 / 84 < 84 := by omega
  rw [hq, h9]; omega

/-- The exponential of a class score less the larger of a pair depends on the positions only. -/
theorem pair_form (N : Net) {i i' j : ℕ} {p p' b b' f f' : Fin 18} (hi : i = i') (hp : p.val = p'.val) (hb : b.val = b'.val)
    (hf : f.val = f'.val) :
    Ideal.exp (N.cls i j p - max (N.cls i j b) (N.cls i j f)) = Ideal.exp (N.cls i' j p' - max (N.cls i' j b') (N.cls i' j f')) := by
  obtain rfl := Fin.ext hp
  obtain rfl := Fin.ext hb
  obtain rfl := Fin.ext hf
  rw [hi]

/-- A masked score from its parts: the least extent, the four corners and the two exponentials. -/
theorem score_form {s g b0 b1 b2 b3 x1 y1 x2 y2 e1 bg fg : EReal} {e : Fin 2 → EReal} (hs : s = side)
    (h0 : b0 = x1) (h1 : b1 = y1) (h2 : b2 = x2) (h3 : b3 = y2) (he : e1 = Ideal.exp (fg - max bg fg))
    (he0 : e 0 = Ideal.exp (bg - max bg fg)) (he1 : e 1 = Ideal.exp (fg - max bg fg)) (hg : g = gone) :
    Scalar.select (IntOp.andi (BitVec.ofBool (decide (s ≤ b2 - b0 + 1))) (BitVec.ofBool (decide (s ≤ b3 - b1 + 1))))
      (Ideal.div e1 (∑ x, e x)) g = Proposal.score x1 y1 x2 y2 (prob bg fg) := by
  rw [Fin.sum_univ_two, he, he0, he1, hs, h0, h1, h2, h3, hg]
  rfl

set_option maxHeartbeats 4000000 in
/-- The masked scores, element by element. -/
theorem scoresR_at (hV : Image V) (n : Fin 63504) :
    (scoresR V : S63504.Idx → EReal) (ix1 n) = (netR V).score (n.val / 9 / 84) (n.val / 9 % 84) ⟨n.val % 9, by omega⟩ := by
  obtain ⟨h0, h1, h2, h3⟩ := v197_at hV n
  obtain ⟨-, -, g2⟩ := hV
  unfold scoresR
  unfold res_main_v214
  have h := v73_at V
  generalize res_main_v73 V = E at *
  generalize res_main_v197 V = B at *
  clean_types
  pointwise []
  have hi : ((9 + n.val % 9) % 9 * 84 + n.val / 756) % 84 = n.val / 9 / 84 := row_of n.val n.isLt
  have ha : ((9 + n.val % 9) % 9 * 84 + n.val / 756) / 84 = n.val % 9 := anchor_of n.val n.isLt
  unfold Net.score Net.fg
  refine score_form ((congrArg _ g2).trans side_eq) h0 h1 h2 h3 (e := fun x => E (ix4 0 x ⟨(9 + n.val % 9) % 9 * 84 + n.val / 756, _⟩ ⟨n.val / 9 % 84, _⟩)) ?_ ?_ ?_ rfl
  · refine (h _ _ _).trans (pair_form _ hi ?_ ha (congrArg (9 + ·) ha))
    show 9 * ((9 + n.val % 9) / 9) + ((9 + n.val % 9) % 9 * 84 + n.val / 756) / 84 = 9 + n.val % 9
    rw [ha, show (9 + n.val % 9) / 9 = 1 by omega]
  · exact (h _ _ _).trans (pair_form _ hi ((Nat.zero_add _).trans ha) ha (congrArg (9 + ·) ha))
  · exact (h _ _ _).trans (pair_form _ hi (congrArg (9 + ·) ha) ha (congrArg (9 + ·) ha))

end Cert.Proposal

end

end
-- ==== Proof.Claims.lean ====
/- The five claims. -/
module

public import proofs.«01_k».proof.Defs
public import proofs.«01_k».proof.Proof.Gen.Kernel
public import proofs.«01_k».proof.Proof.Gen.Kernel.Frame
public import proofs.«01_k».proof.Proof.Gen.KernelIdeal.Frame
public import proofs.«01_k».proof.Proof.Gen.Pre_setup_image
public import proofs.«01_k».proof.Proof.Result
public import proofs.«01_k».proof.Proof.Score
public import Idealize.ShloMosaic.Lib.Claim
public import Idealize.ShloMosaic.Lib.Quiescent

@[expose] public section

set_option maxRecDepth 16384

noncomputable section

namespace Cert.Proposal

open Idealize.ShloMosaic Idealize.ShloMosaic.TcCoe Idealize.SL.Sem

/-- The two programs' anchor tables are the same words. -/
theorem tables : ∀ n : Fin 36, Cert.ReferenceIdeal.lit0 n = Cert.KernelIdeal.lit1 n := by decide

/-- Nets of equal data are equal. -/
theorem net_ext {N N' : Net} (h0 : N.x = N'.x) (h1 : N.w = N'.w) (h2 : N.b = N'.b) (h3 : N.wc = N'.wc) (h4 : N.bc = N'.bc)
    (h5 : N.wb = N'.wb) (h6 : N.bb = N'.bb) (h7 : N.base = N'.base) : N = N' := by
  cases N; cases N'
  dsimp only at *
  subst h0 h1 h2 h3 h4 h5 h6 h7
  rfl

/-- One conjunction of bits that is set has both bits set. -/
theorem both_set {a b : BitVec 1} (h : a &&& b = 1#1) : a = 1#1 ∧ b = 1#1 := by
  revert a b; decide

/-- A comparison bit that is set says that what it compares is equal. -/
theorem eq_of_bit {p : Prop} [Decidable p] (h : BitVec.ofBool (decide p) = 1#1) : p := by
  by_contra hp
  rw [decide_eq_false hp] at h
  exact absurd h (by decide)

/-- The precondition at an image's description. -/
theorem image_of (x0 : FVec Ideal Cert.Pre_setup_image.S1x256x84x84 .f32) (x1 : FVec Ideal Cert.Pre_setup_image.S3 .f32) (x2 x3 x4 x5 x6 x7 x8)
    (h : Cert.Pre_setup_image.fn (F := Ideal) x0 x1 x2 x3 x4 x5 x6 x7 x8 = fun _ => 1#1) :
    (x1 : Cert.Pre_setup_image.S3.Idx → EReal) (ix1 0) = Ideal.ofBits FTy.f32 0x44A80000#32
      ∧ (x1 : Cert.Pre_setup_image.S3.Idx → EReal) (ix1 1) = Ideal.ofBits FTy.f32 0x44A80000#32
      ∧ (x1 : Cert.Pre_setup_image.S3.Idx → EReal) (ix1 2) = Ideal.ofBits FTy.f32 0x3F800000#32 := by
  have k : Cert.Pre_setup_image.fn (F := Ideal) x0 x1 x2 x3 x4 x5 x6 x7 x8 ix0
      = (BitVec.ofBool (decide ((x1 : Cert.Pre_setup_image.S3.Idx → EReal) (ix1 0) = Ideal.ofBits FTy.f32 0x44A80000#32))
        &&& BitVec.ofBool (decide ((x1 : Cert.Pre_setup_image.S3.Idx → EReal) (ix1 1) = Ideal.ofBits FTy.f32 0x44A80000#32)))
        &&& BitVec.ofBool (decide ((x1 : Cert.Pre_setup_image.S3.Idx → EReal) (ix1 2) = Ideal.ofBits FTy.f32 0x3F800000#32)) := by
    unfold Cert.Pre_setup_image.fn
    pointwise []
    rfl
  rw [h] at k
  obtain ⟨k1, k2⟩ := both_set k.symm
  obtain ⟨k0, k1⟩ := both_set k1
  exact ⟨eq_of_bit k0, eq_of_bit k1, eq_of_bit k2⟩

/-- The reference's frame. -/
theorem frame_ref : Cert.quiescent_ReferenceIdeal := by
  intro m g _
  have h := Cert.ReferenceIdeal.Value.run (F := Ideal) m g
  refine (θ_run Cert.ReferenceIdeal.defs _ _).mono (fun r h => ⟨fun c => ?_, sem_eq_zero_of_no_sems (by decide) r.2⟩) h
  exact (h c).2.2.2.2.2.2.2

/-- One corner of the reference's boxes, as the reference slices it out. -/
theorem corner (q : ℕ) (hq : q < 4) (hs : Cert.ReferenceIdeal.S63504x4.Slices ![0, q] Cert.ReferenceIdeal.S63504x1)
    (A : FVec Ideal Cert.ReferenceIdeal.S63504x4 .f32) (n : Fin 63504) :
    (shapeCast Cert.ReferenceIdeal.S63504 (extractStridedSlice Cert.ReferenceIdeal.S63504x1 ![0, q] A hs)
      Cert.ReferenceIdeal.Gen.shapeCasts_S63504x1_S63504 : Cert.ReferenceIdeal.S63504.Idx → EReal) (ix1 n)
      = (A : Cert.ReferenceIdeal.S63504x4.Idx → EReal) (ix2 n ⟨q, hq⟩) := by
  pointwise []

/-- Vectors of equal elements are equal. -/
theorem vec_ext {f g : Cert.ReferenceIdeal.S63504.Idx → EReal} (h : ∀ n : Fin 63504, f (ix1 n) = g (ix1 n)) : f = g := by
  funext k
  rw [eq_ix1 k]
  exact h (k 0)

set_option maxHeartbeats 4000000 in
/-- Kernel and reference end holding the same results. -/
theorem algebraic : Cert.algebraic_KernelIdeal_ReferenceIdeal_pre_setup_image := by
  pair_intro
  · run_from Cert.KernelIdeal.Value.run m g
  · have hN : ∀ c, netR (StableHlo.launchContents m' c) = netK m c := fun c =>
      have h := hagree c
      net_ext h.1 h.2.2.2.1 h.2.2.2.2.1 h.2.2.2.2.2.1 h.2.2.2.2.2.2.1 h.2.2.2.2.2.2.2.1 h.2.2.2.2.2.2.2.2
        (funext fun a => funext fun q => congrArg (Ideal.ofBits FTy.f32) (tables _))
    have hI : ∀ c, Image (StableHlo.launchContents m' c) := fun c => by
      have h := image_of _ _ _ _ _ _ _ _ _ (hpre c)
      rw [← (hagree c).2.1] at h
      exact h
    run_from Cert.ReferenceIdeal.Value.run m' g'
    · exact vec_ext fun n => (scoresR_at (hI c) n).trans ((congrArg (fun N : Net => N.score _ _ _) (hN c)).trans
        ((column 0 _ (by decide) _ n).trans (columns_at m c n).1).symm)
    · exact vec_ext fun n => (corner 0 (by decide) _ _ n).trans (((v197_at (hI c) n).1).trans ((congrArg (fun N : Net => N.x1 _ _ _) (hN c)).trans
        ((column 9 _ (by decide) _ n).trans (columns_at m c n).2.1).symm))
    · exact vec_ext fun n => (corner 1 (by decide) _ _ n).trans (((v197_at (hI c) n).2.1).trans ((congrArg (fun N : Net => N.y1 _ _ _) (hN c)).trans
        ((column 18 _ (by decide) _ n).trans (columns_at m c n).2.2.1).symm))
    · exact vec_ext fun n => (corner 2 (by decide) _ _ n).trans (((v197_at (hI c) n).2.2.1).trans ((congrArg (fun N : Net => N.x2 _ _ _) (hN c)).trans
        ((column 27 _ (by decide) _ n).trans (columns_at m c n).2.2.2.1).symm))
    · exact vec_ext fun n => (corner 3 (by decide) _ _ n).trans (((v197_at (hI c) n).2.2.2).trans ((congrArg (fun N : Net => N.y2 _ _ _) (hN c)).trans
        ((column 36 _ (by decide) _ n).trans (columns_at m c n).2.2.2.2).symm))

end Cert.Proposal

end

end
-- ==== Proof.Nms.Order.lean ====
/-
  Two facts that name no program. Stable sorting by value is sorting by a strict total order (value, then position), so the
  first places of two arrays agree once they agree on a part that holds enough entries ahead of everything else. And the
  greedy suppression: box `j` is suppressed when an earlier box that is not suppressed hits it.
-/
module

public import Idealize.ShloMosaic.Lib.SortFacts
public import Mathlib.Data.EReal.Basic
public import Mathlib.Order.Interval.Finset.Fin

@[expose] public section

namespace Cert.Proof.Nms

open Idealize.ShloMosaic

section Rank

variable {n : ℕ}

/-- A sorted enumeration's `k`-th entry has `k` entries ahead of it. -/
theorem card_ahead (r : Fin n → Fin n → Prop) [DecidableRel r] (has : ∀ a b, r a b → ¬ r b a) (σ : Fin n → Fin n)
    (hi : Function.Injective σ) (hs : Function.Surjective σ) (hσ : ∀ a b, a < b → r (σ a) (σ b)) (k : Fin n) :
    (Finset.univ.filter fun j => r j (σ k)).card = k.val := by
  have e : (Finset.univ.filter fun j => r j (σ k)) = (Finset.Iio k).image σ := by
    ext j
    obtain ⟨a, rfl⟩ := hs j
    simp only [Finset.mem_filter, Finset.mem_univ, true_and, Finset.mem_image, Finset.mem_Iio]
    constructor
    · intro h
      refine ⟨a, ?_, rfl⟩
      rcases lt_trichotomy a k with h' | h' | h'
      · exact h'
      · subst h'; exact absurd h (has _ _ h)
      · exact absurd h (has _ _ (hσ _ _ h'))
    · rintro ⟨b, hb, hbe⟩
      rw [← hbe]; exact hσ _ _ hb
  rw [e, Finset.card_image_of_injective _ hi, Fin.card_Iio]

/-- Two orders that agree on `P`, where the entries `G` of `P` are ahead of everything outside `P` in both, begin alike. -/
theorem same_top (r s : Fin n → Fin n → Prop) [DecidableRel r] [DecidableRel s]
    (hra : ∀ a b, r a b → ¬ r b a) (hrt : ∀ a b c, r a b → r b c → r a c)
    (hsa : ∀ a b, s a b → ¬ s b a) (hst : ∀ a b c, s a b → s b c → s a c)
    (σ τ : Fin n → Fin n) (hσi : Function.Injective σ) (hσs : Function.Surjective σ) (hσ : ∀ a b, a < b → r (σ a) (σ b))
    (hτi : Function.Injective τ) (hτs : Function.Surjective τ) (hτ : ∀ a b, a < b → s (τ a) (τ b))
    (P : Fin n → Prop) (hrs : ∀ a b, P a → P b → (r a b ↔ s a b)) (G : Finset (Fin n)) (hG : ∀ g ∈ G, P g)
    (hr : ∀ g ∈ G, ∀ j, ¬ P j → r g j) (hs : ∀ g ∈ G, ∀ j, ¬ P j → s g j) (k : Fin n) (hk : k.val < G.card) : σ k = τ k := by
  have hc := card_ahead r hra σ hσi hσs hσ k
  have no : ¬ ∀ g ∈ G, r g (σ k) := by
    intro h
    have : G ⊆ Finset.univ.filter fun j => r j (σ k) := fun g hg => Finset.mem_filter.mpr ⟨Finset.mem_univ _, h g hg⟩
    have := Finset.card_le_card this
    omega
  have hp : P (σ k) := by
    by_contra h
    exact no fun g hg => hr g hg _ h
  have e : (Finset.univ.filter fun j => r j (σ k)) = Finset.univ.filter fun j => s j (σ k) := by
    ext j
    simp only [Finset.mem_filter, Finset.mem_univ, true_and]
    constructor
    · intro h
      have hj : P j := by
        by_contra hj
        exact no fun g hg => hrt _ _ _ (hr g hg j hj) h
      exact (hrs _ _ hj hp).mp h
    · intro h
      have hj : P j := by
        by_contra hj
        exact no fun g hg => (hrs _ _ (hG g hg) hp).mpr (hst _ _ _ (hs g hg j hj) h)
      exact (hrs _ _ hj hp).mpr h
  obtain ⟨l, hl⟩ := hτs (σ k)
  have hc' := card_ahead s hsa τ hτi hτs hτ l
  rw [hl, ← e, hc] at hc'
  rw [← hl, Fin.ext hc']

/-- Ahead in the order of a stable sort, greater first: by value, then by position. -/
def ahead (v : Fin n → EReal) (a b : Fin n) : Prop := v b < v a ∨ (v a = v b ∧ a < b)

noncomputable instance (v : Fin n → EReal) : DecidableRel (ahead v) := fun _ _ => Classical.dec _

theorem ahead_asymm (v : Fin n → EReal) (a b : Fin n) (h : ahead v a b) : ¬ ahead v b a := by
  rintro (h' | ⟨h', h''⟩) <;> rcases h with h | ⟨h, h2⟩
  · exact lt_asymm h h'
  · rw [h] at h'; exact lt_irrefl _ h'
  · rw [h'] at h; exact lt_irrefl _ h
  · exact lt_asymm h2 h''

theorem ahead_trans (v : Fin n → EReal) (a b c : Fin n) (h : ahead v a b) (h' : ahead v b c) : ahead v a c := by
  rcases h with h | ⟨h, h2⟩ <;> rcases h' with h' | ⟨h', h2'⟩
  · exact .inl (h'.trans h)
  · exact .inl (h' ▸ h)
  · exact .inl (h ▸ h')
  · exact .inr ⟨h.trans h', h2.trans h2'⟩

theorem ahead_total (v : Fin n → EReal) (a b : Fin n) (h : a ≠ b) : ahead v a b ∨ ahead v b a := by
  rcases lt_trichotomy (v a) (v b) with h' | h' | h'
  · exact .inr (.inl h')
  · rcases lt_or_gt_of_ne h with h2 | h2
    · exact .inl (.inr ⟨h', h2⟩)
    · exact .inr (.inr ⟨h'.symm, h2⟩)
  · exact .inl (.inl h')

/-- A stable sort of increasing positions compares a later one with an earlier one only. -/
theorem stableSort_later (R B : Fin n → Fin n → Bool) (h : ∀ a b, a < b → R b a = B b a) (l : List (Fin n))
    (hl : l.Pairwise (· < ·)) : stableSort R l = stableSort B l := by
  induction l with
  | nil => rfl
  | cons a l ih =>
    rw [List.pairwise_cons] at hl
    unfold stableSort
    rw [ih hl.2]
    exact insertBefore_congr _ _ _ _ fun b hb => h a b (hl.1 b ((perm_stableSort B l).mem_iff.mp hb))

/-- The stable sort of `v`, greater first, is sorted by value and then by position. -/
theorem sortedFrom_ahead (v : Fin n → EReal) (R : Fin n → Fin n → Bool) (hR : ∀ a b, R a b = true ↔ v b < v a)
    (i j : Fin n) (hij : i < j) : ahead v (sortedFrom R i) (sortedFrom R j) := by
  have e : sortedFrom R = sortedFrom (fun a b => decide (ahead v a b)) := by
    funext k
    unfold sortedFrom
    have hh : sortPositions n R = sortPositions n (fun a b => decide (ahead v a b)) := by
      refine stableSort_later R _ (fun a b hab => ?_) _ (List.pairwise_lt_finRange n)
      rw [Bool.eq_iff_iff, hR, decide_eq_true_iff]
      exact ⟨.inl, fun h => h.elim id fun h => absurd h.2 (lt_asymm hab)⟩
    rw [List.get_of_eq hh]; rfl
  have hn := sortedFrom_noInversion (fun a b => decide (ahead v a b)) (fun a b => decide (ahead v a b))
    (fun a b h => decide_eq_false (ahead_asymm v _ _ (of_decide_eq_true h))) (fun a b h => h)
    (fun a b c h h' => decide_eq_false fun hac => by
      have h := of_decide_eq_false h
      have h' := of_decide_eq_false h'
      by_cases hab : a = b
      · subst hab; exact h' hac
      · rcases ahead_total v a b hab with h2 | h2
        · exact h h2
        · exact h' (ahead_trans v _ _ _ h2 hac)) i j hij
  rw [e]
  have hne : sortedFrom (fun a b => decide (ahead v a b)) i ≠ sortedFrom (fun a b => decide (ahead v a b)) j :=
    fun h => hij.ne (sortedFrom_injective _ h)
  exact (ahead_total v _ _ hne).resolve_right (of_decide_eq_false hn)

/-- Two arrays that agree on the positions `P`, where `G` in `P` is ahead of everything else, have the same first places. -/
theorem sortedFrom_top (v w : Fin n → EReal) (R S : Fin n → Fin n → Bool) (hR : ∀ a b, R a b = true ↔ v b < v a)
    (hS : ∀ a b, S a b = true ↔ w b < w a) (P : Fin n → Prop) (hvw : ∀ a, P a → v a = w a) (G : Finset (Fin n))
    (hG : ∀ g ∈ G, P g) (hv : ∀ g ∈ G, ∀ j, ¬ P j → ahead v g j) (hw : ∀ g ∈ G, ∀ j, ¬ P j → ahead w g j)
    (k : Fin n) (hk : k.val < G.card) : sortedFrom R k = sortedFrom S k :=
  same_top (ahead v) (ahead w) (ahead_asymm v) (ahead_trans v) (ahead_asymm w) (ahead_trans w) _ _
    (sortedFrom_injective R) (sortedFrom_surjective R) (sortedFrom_ahead v R hR)
    (sortedFrom_injective S) (sortedFrom_surjective S) (sortedFrom_ahead w S hS) P
    (fun a b ha hb => by unfold ahead; rw [hvw a ha, hvw b hb]) G hG hv hw k hk

end Rank

section Greedy

/-- Box `j` is suppressed: an earlier box that is not suppressed hits it. -/
def sup (hit : ℕ → ℕ → Prop) (j : ℕ) : Prop := ∃ i : Fin j, ¬ sup hit i.val ∧ hit i.val j
termination_by j
decreasing_by exact i.isLt

theorem sup_iff (hit : ℕ → ℕ → Prop) (j : ℕ) : sup hit j ↔ ∃ i, i < j ∧ ¬ sup hit i ∧ hit i j := by
  rw [sup]
  exact ⟨fun ⟨i, h⟩ => ⟨i.val, i.isLt, h⟩, fun ⟨i, hi, h⟩ => ⟨⟨i, hi⟩, h⟩⟩

/-- Suppression reads the earlier boxes only. -/
theorem sup_congr (hit hit' : ℕ → ℕ → Prop) (N : ℕ) (h : ∀ i j, i < j → j < N → (hit i j ↔ hit' i j)) :
    ∀ j, j < N → (sup hit j ↔ sup hit' j) := by
  intro j
  induction j using Nat.strong_induction_on with
  | _ j ih =>
    intro hj
    rw [sup_iff, sup_iff]
    exact exists_congr fun i => and_congr_right fun hi => by rw [ih i hi (hi.trans hj), h i j hi hj]

/-- The suppression of the first `k` boxes' hits, box `j`: what a pass over the boxes holds after `k` of them. -/
def part (hit : ℕ → ℕ → Prop) (k j : ℕ) : Prop := ∃ i, i < k ∧ i < j ∧ ¬ sup hit i ∧ hit i j

theorem part_zero (hit : ℕ → ℕ → Prop) (j : ℕ) : ¬ part hit 0 j := fun ⟨i, hi, _⟩ => absurd hi (Nat.not_lt_zero i)

theorem part_all (hit : ℕ → ℕ → Prop) (k j : ℕ) (h : j ≤ k) : part hit k j ↔ sup hit j := by
  rw [sup_iff]
  exact exists_congr fun i => ⟨fun h => h.2, fun h' => ⟨lt_of_lt_of_le h'.1 h, h'⟩⟩

/-- One step of the pass. -/
theorem part_succ (hit : ℕ → ℕ → Prop) (k j : ℕ) :
    part hit (k + 1) j ↔ (part hit k j ∨ (¬ part hit k k ∧ hit k j ∧ k < j)) := by
  rw [part_all hit k k le_rfl]
  constructor
  · rintro ⟨i, hi, hij, hs, hh⟩
    rcases Nat.lt_succ_iff_lt_or_eq.mp hi with h | h
    · exact .inl ⟨i, h, hij, hs, hh⟩
    · subst h; exact .inr ⟨hs, hh, hij⟩
  · rintro (⟨i, hi, h⟩ | ⟨hk, hh, hkj⟩)
    · exact ⟨i, hi.trans (Nat.lt_succ_self k), h⟩
    · exact ⟨k, Nat.lt_succ_self k, hkj, hk, hh⟩

/-- A block's round: suppressed by an earlier block, or by an earlier box of the block that the round before left. -/
def round (hit : ℕ → ℕ → Prop) (b : ℕ) (s : Fin 128 → Prop) (j : Fin 128) : Prop :=
  part hit b (b + j.val) ∨ ∃ i : Fin 128, hit (b + i.val) (b + j.val) ∧ i.val < j.val ∧ ¬ s i

/-- Every round gets one more box of the block right. -/
theorem round_right (hit : ℕ → ℕ → Prop) (b : ℕ) (s : Fin 128 → Prop) (n : ℕ)
    (h : ∀ j : Fin 128, j.val < n → (s j ↔ sup hit (b + j.val))) :
    ∀ j : Fin 128, j.val < n + 1 → (round hit b s j ↔ sup hit (b + j.val)) := by
  intro j hj
  rw [sup_iff]
  constructor
  · rintro (⟨i, _, hij, hs, hh⟩ | ⟨i, hh, hij, hs⟩)
    · exact ⟨i, hij, hs, hh⟩
    · exact ⟨b + i.val, by omega, fun h' => hs ((h i (by omega)).mpr h'), hh⟩
  · rintro ⟨i, hij, hs, hh⟩
    by_cases hi : i < b
    · exact .inl ⟨i, hi, hij, hs, hh⟩
    · have hj' := j.isLt
      obtain ⟨d, rfl⟩ : ∃ d, i = b + d := ⟨i - b, by omega⟩
      have hd : d < 128 := by omega
      exact .inr ⟨⟨d, hd⟩, hh, by show d < j.val; omega, fun h' => hs ((h ⟨d, hd⟩ (by show d < n; omega)).mp h')⟩

/-- A round that changes nothing is right throughout. -/
theorem round_fixed (hit : ℕ → ℕ → Prop) (b : ℕ) (s : Fin 128 → Prop) (hs : ∀ j, round hit b s j ↔ s j) (j : Fin 128) :
    s j ↔ sup hit (b + j.val) := by
  have : ∀ n, ∀ j : Fin 128, j.val < n → (s j ↔ sup hit (b + j.val)) := by
    intro n
    induction n with
    | zero => intro j hj; exact absurd hj (Nat.not_lt_zero _)
    | succ n ih => intro j hj; rw [← hs j]; exact round_right hit b s n ih j hj
  exact this 128 j j.isLt

end Greedy

end Cert.Proof.Nms
-- ==== Proof.Nms.Pick.lean ====
/-
  The greatest entries of a vector, as the programs pick them: `order v` sorts the positions, greater first and equal
  entries in position order; a top-k's values and indices follow it, and so do the tables taken at those indices.
-/
module

public import proofs.«01_k».proof.Proof.Nms.Order
public import Idealize.ShloMosaic.Lib.Routing.Ops
public import Idealize.ShloMosaic.Lib.Routing.OpsSearch
public import Idealize.ShloMosaic.Lib.DynamicIndex
public import Idealize.ShloMosaic.Lib.Pointwise

@[expose] public section

noncomputable section

namespace Cert.Proof.Nms

open Idealize.ShloMosaic Idealize.ShloMosaic.Routing

/-- The comparison of the sort: position `a` has the greater entry. -/
def greater {N : ℕ} (v : (shape1 N).Idx → EReal) (a b : Fin N) : Bool :=
  FloatOps.cmpfTotal (F := Ideal) (φ := .f32) .gt (v (ix1 a)) (v (ix1 b)) == 1#1

theorem greater_iff {N : ℕ} (v : (shape1 N).Idx → EReal) (a b : Fin N) : greater v a b = true ↔ v (ix1 b) < v (ix1 a) := by
  unfold greater
  show (BitVec.ofBool (decide (v (ix1 b) < v (ix1 a))) == 1#1) = true ↔ _
  by_cases h : v (ix1 b) < v (ix1 a) <;> simp [h]

/-- The positions of a vector, greater entries first, equal entries in position order. -/
def order {N : ℕ} (v : (shape1 N).Idx → EReal) : Fin N → Fin N := sortedFrom (greater v)

variable {N M n : ℕ}

theorem along_at (j : (shape1 N).Idx) (k : Fin N) : j.along (0 : Fin 1) k = ix1 k := by
  funext a
  match a with
  | ⟨0, _⟩ => rfl

/-- Where entry `i` of a top-k's sorted pair comes from. -/
theorem sort_at {β : Type} (v : (shape1 N).Idx → EReal) (y : (shape1 N).Idx → β) (j : Fin N) :
    (Host.sort2 (shape1 N) 0 (fun l r => FloatOps.cmpfTotal (F := Ideal) (φ := .f32) .gt l.1 r.1) v y).1 (ix1 j) = v (ix1 (order v j))
      ∧ (Host.sort2 (shape1 N) 0 (fun l r => FloatOps.cmpfTotal (F := Ideal) (φ := .f32) .gt l.1 r.1) v y).2 (ix1 j) = y (ix1 (order v j)) := by
  have e : (sortedFrom (fun k k' : Fin N => FloatOps.cmpfTotal (F := Ideal) (φ := .f32) .gt (v ((ix1 j : (shape1 N).Idx).along (0 : Fin 1) k))
      (v ((ix1 j : (shape1 N).Idx).along (0 : Fin 1) k')) == 1#1)) = order v := by
    unfold order greater
    simp only [along_at]
  unfold Host.sort2
  rw [dif_pos (show 0 < (shape1 N).rank from Nat.one_pos)]
  constructor
  · exact congrArg v ((along_at _ _).trans (congrArg (fun q : Fin N => (ix1 q : (shape1 N).Idx)) (congrFun e j)))
  · exact congrArg y ((along_at _ _).trans (congrArg (fun q : Fin N => (ix1 q : (shape1 N).Idx)) (congrFun e j)))

theorem slice_at {β : Type} (y : (shape1 N).Idx → β) (h : (shape1 N).Slices (fun _ => 0) (shape1 n)) (i : Fin n) (hi : i.val < N) :
    extractStridedSlice (shape1 n) (fun _ => 0) y h (ix1 i) = y (ix1 ⟨i.val, hi⟩) := by
  refine congrArg y (funext fun a => ?_)
  match a with
  | ⟨0, _⟩ => exact Fin.ext (Nat.zero_add _)

theorem top_indices (v : (shape1 N).Idx → EReal) (h : (shape1 N).Slices (fun _ => 0) (shape1 n)) (i : Fin n) (hi : i.val < N) :
    (Host.topK (shape1 n) 0 (FloatOps.cmpfTotal (F := Ideal) (φ := .f32) .gt) v h).2 (ix1 i)
      = BitVec.ofNat 32 (order v ⟨i.val, hi⟩).val := by
  unfold Host.topK
  dsimp only
  rw [slice_at _ h i hi, (sort_at v _ _).2]
  rfl

theorem top_values (v : (shape1 N).Idx → EReal) (h : (shape1 N).Slices (fun _ => 0) (shape1 n)) (i : Fin n) (hi : i.val < N) :
    (Host.topK (shape1 n) 0 (FloatOps.cmpfTotal (F := Ideal) (φ := .f32) .gt) v h).1 (ix1 i) = v (ix1 (order v ⟨i.val, hi⟩)) := by
  unfold Host.topK
  dsimp only
  rw [slice_at _ h i hi, (sort_at v _ _).1]

/-- An index that is not negative is left alone. -/
theorem fixed_at (t z w : IVec (shape1 n) 32) (hz : ∀ i, z i = 0#32) (hb : (shape1 n).BroadcastsInDim (shape2 n 1) (![0] : Fin 1 → Fin (shape2 n 1).rank))
    (p : Fin n) {k : ℕ} (h31 : k < 2 ^ 31) (ht : t (ix1 p) = BitVec.ofNat 32 k) :
    broadcastInDim (shape2 n 1) ![0] hb (select (cmpi .slt t z) (addi t w) t) (ix2 p (0 : Fin 1)) = BitVec.ofNat 32 k := by
  have e : broadcastInDim (shape2 n 1) ![0] hb (select (cmpi .slt t z) (addi t w) t) (ix2 p (0 : Fin 1))
      = select (cmpi .slt t z) (addi t w) t (ix1 p) := by
    refine broadcastInDim_apply _ hb _ _ _ fun e => ?_
    match e with
    | ⟨0, _⟩ =>
      show p.val = if n = 1 then 0 else p.val
      have := p.isLt
      split <;> omega
  rw [e]
  have ez : z = constantI (shape1 n) 32 0#32 := funext hz
  rw [ez, select_slt_zero_of_nonneg t _ _ (ix1 p) (by rw [ht, toInt_ofNat_of_lt h31]; exact Int.natCast_nonneg k), ht]

/-- A table taken at the picked positions. -/
theorem taken {α : Type} (d : GatherDims (shape1 M) (shape2 n 1) (shape1 n)) (hcoll : d.collapsedSliceDims = [0]) (hob : d.operandBatchingDims = [])
    (hsim : d.startIndexMap = [0]) (hivd : d.indexVectorDim = 1) (x : (shape1 M).Idx → α) (t : IVec (shape2 n 1) 32)
    (p : Fin n) (k : Fin M) (h31 : k.val < 2 ^ 31) (ht : t (ix2 p (0 : Fin 1)) = BitVec.ofNat 32 k.val) :
    Host.gather d x t (ix1 p) = x (ix1 k) :=
  take_ap d hcoll hob hsim hivd x t p k.isLt h31 ht

/-- The rows of a table taken at the picked positions. -/
theorem taken_row {α : Type} {B : ℕ} (d : GatherDims (shape2 M B) (shape2 n 1) (shape2 n B)) (hoff : d.offsetDims = [1])
    (hcoll : d.collapsedSliceDims = [0]) (hob : d.operandBatchingDims = [])
    (hsim : d.startIndexMap = [0]) (hivd : d.indexVectorDim = 1) (x : (shape2 M B).Idx → α) (t : IVec (shape2 n 1) 32)
    (p : Fin n) (q : Fin B) (k : Fin M) (h31 : M < 2 ^ 31) (ht : t (ix2 p (0 : Fin 1)) = BitVec.ofNat 32 k.val) :
    Host.gather d x t (ix2 p q) = x (ix2 k q) :=
  gather_row d hoff hcoll hob hsim hivd x t p q k ht h31

end Cert.Proof.Nms

end

end
-- ==== Proof.Nms.Model.lean ====
/-
  What the suppression's body does to its buffers, as functions of their contents, at any float values: one trip of the
  loop over the earlier blocks, the fixed point inside a block, one block, and the blocks one after the other until the
  count of kept boxes stops them.
-/
module

public import proofs.«01_k».proof.Proof.Gen.SelectIdeal.Skeleton
public import proofs.«01_k».proof.Proof.Gen.SelectIdeal.Launch

@[expose] public section

noncomputable section

namespace Cert.Proof.Nms

open Cert.SelectIdeal Cert.SelectIdeal.Gen
open Idealize.ShloMosaic Idealize.ShloMosaic.TcCoe

variable {F : FTy → Type} [FloatOps F]

/-- The rectangle of row `k`, as the body spells it for block `k`, -/
abbrev rK (k : BitVec 32) (h : k0_chk1 k) : Rect S48x128 := Rect.unit (s := S48x128) (k0_off1 k) S1x128.size (k0_off1_inb k h)
/-- and for trip `t` of the loop over the blocks before `k`. -/
abbrev rT (k : BitVec 32) (h : k0_chk1 k) (t : Fin (k0_t1_loop k).trips) : Rect S48x128 :=
  Rect.unit (s := S48x128) (k0_off2 k t) S1x128.size (k0_off2_inb k h t)

/-- The seven buffers: the boxes' coordinates, the result, the areas and the rows of boxes alive. -/
abbrev b0 : Memref sig .tc .vmem S48x128 .f32 := Memref.whole cc0_stg0_0
abbrev b1 : Memref sig .tc .vmem S48x128 .f32 := Memref.whole cc0_stg1_0
abbrev b2 : Memref sig .tc .vmem S48x128 .f32 := Memref.whole cc0_stg2_0
abbrev b3 : Memref sig .tc .vmem S48x128 .f32 := Memref.whole cc0_stg3_0
abbrev bs : Memref sig .tc .vmem S48x128 .f32 := Memref.whole cc0_stg4_0
abbrev ba : Memref sig .tc .vmem S48x128 .f32 := Memref.whole cc0_scratch0
abbrev bl : Memref sig .tc .vmem S48x128 .f32 := Memref.whole cc0_scratch1

/-- The row of `m`'s contents `x` at the rectangle `r`. -/
abbrev row (m : Memref sig .tc .vmem S48x128 .f32) (r : Rect S48x128) (x : m.view.ty.Contents (Elt F)) :
    r.toLoadRect.shape.Idx → Elt F .f32 := m.view.readAt (Elt F) r.toLoadRect x

/-- The boxes and their areas, all blocks of them. -/
structure Boxes (F : FTy → Type) where
  x1 : Vec F S48x128 .f32
  y1 : Vec F S48x128 .f32
  x2 : Vec F S48x128 .f32
  y2 : Vec F S48x128 .f32
  ar : Vec F S48x128 .f32

/-- Trip `t` of block `k`: which boxes of the block overlap a box alive in block `t`, joined to `acc`. -/
def trip (B : Boxes F) (al : Vec F S48x128 .f32) (k : BitVec 32) (h : k0_chk1 k) (t : Fin (k0_t1_loop k).trips)
    (acc : FVec F S128x1 .f32) : FVec F S128x1 .f32 :=
  k0_pay15 acc (k0_pay7 (k0_pay9 (row b0 (rK k h) B.x1)) (k0_pay10 (row b1 (rK k h) B.y1)) (k0_pay11 (row b2 (rK k h) B.x2))
    (k0_pay12 (row b3 (rK k h) B.y2)) (k0_pay13 (row ba (rK k h) B.ar))
    (row b0 (rT k h t) B.x1) (row b1 (rT k h t) B.y1) (row b2 (rT k h t) B.x2) (row b3 (rT k h t) B.y2)
    (row ba (rT k h t) B.ar) (row bl (rT k h t) al))

/-- The first `n` trips of block `k`. -/
def cross (B : Boxes F) (al : Vec F S48x128 .f32) (k : BitVec 32) (h : k0_chk1 k) : ℕ → FVec F S128x1 .f32
  | 0 => k0_pay14
  | n + 1 => if hn : n < (k0_t1_loop k).trips then trip B al k h ⟨n, hn⟩ (cross B al k h n) else cross B al k h n

/-- The block's own overlaps, later box against earlier box. -/
def own (B : Boxes F) (k : BitVec 32) (h : k0_chk1 k) : FVec F S128x128 .f32 :=
  k0_pay21 (iota .tc S128x128 32 [0] iota_S128x128_d0_w32) (iota .tc S128x128 32 [1] iota_S128x128_d1_w32)
    (k0_pay9 (row b0 (rK k h) B.x1)) (k0_pay10 (row b1 (rK k h) B.y1)) (k0_pay11 (row b2 (rK k h) B.x2))
    (k0_pay12 (row b3 (rK k h) B.y2)) (k0_pay13 (row ba (rK k h) B.ar))
    (k0_pay17 (row b0 (rK k h) B.x1)) (k0_pay18 (row b1 (rK k h) B.y1)) (k0_pay19 (row b2 (rK k h) B.x2))
    (row b3 (rK k h) B.y2) (row ba (rK k h) B.ar)

/-- At most `n` rounds of the fixed point from the column `s`, going on while the last change `d` is above a half. -/
def fix (m : FVec F S128x128 .f32) (c : FVec F S128x1 .f32) : ℕ → F .f32 → FVec F S128x1 .f32 → FVec F S128x1 .f32
  | 0, _, s => s
  | n + 1, d, s => if Scalar.cmpf .ogt d (Scalar.ofBits .f32 0x3F000000#32) = 1#1 then fix m c n (k0_pay6 m c s) (k0_pay5 m c s) else s

/-- Block `k`'s column: which of its boxes are suppressed. -/
def col (B : Boxes F) (al : Vec F S48x128 .f32) (k : BitVec 32) (h : k0_chk1 k) : FVec F S128x1 .f32 :=
  fix (own B k h) (cross B al k h (k0_t1_loop k).trips) 130 (Scalar.ofBits .f32 0x3F800000#32) (cross B al k h (k0_t1_loop k).trips)

/-- The result with row `k` set. -/
abbrev setS (k : BitVec 32) (h : k0_chk1 k) (su : Vec F S48x128 .f32) (w : Vec F S1x128 .f32) : Vec F S48x128 .f32 :=
  (bs.access (rK k h)).write (Elt F) su w Finset.univ
/-- The rows alive with row `k` set. -/
abbrev setL (k : BitVec 32) (h : k0_chk1 k) (al : Vec F S48x128 .f32) (w : Vec F S1x128 .f32) : Vec F S48x128 .f32 :=
  (bl.access (rK k h)).write (Elt F) al w Finset.univ

/-- The count after block `k`, whose column is `s`. -/
def count (B : Boxes F) (k : BitVec 32) (h : k0_chk1 k) (kept : F .f32) (s : FVec F S128x1 .f32) : F .f32 :=
  k0_pay4 kept (k0_pay17 (row b0 (rK k h) B.x1)) (k0_pay18 (row b1 (rK k h) B.y1)) (k0_pay19 (row b2 (rK k h) B.x2))
    (k0_pay20 (row b3 (rK k h) B.y2)) (k0_pay22 s)

/-- A block's index is inside the buffers: what the body assumes of it. -/
theorem chk_of_lt : ∀ k < 48, k0_chk1 (BitVec.ofNat 32 k) := by decide +kernel

/-- The result after at most `n` more blocks from block `k`, stopping when 300 are kept. -/
def blocks (B : Boxes F) : ℕ → ℕ → F .f32 → Vec F S48x128 .f32 → Vec F S48x128 .f32 → Vec F S48x128 .f32
  | 0, _, _, su, _ => su
  | n + 1, k, kept, su, al =>
    if hk : k < 48 then
      if Scalar.cmpf .olt kept (Scalar.ofBits .f32 0x43960000#32) = 1#1 then
        blocks B n (k + 1) (count B (BitVec.ofNat 32 k) (chk_of_lt k hk) kept (col B al (BitVec.ofNat 32 k) (chk_of_lt k hk)))
          (setS (BitVec.ofNat 32 k) (chk_of_lt k hk) su (k0_pay22 (col B al (BitVec.ofNat 32 k) (chk_of_lt k hk))))
          (setL (BitVec.ofNat 32 k) (chk_of_lt k hk) al (k0_pay3 (k0_pay23 (col B al (BitVec.ofNat 32 k) (chk_of_lt k hk)))))
      else su
    else su

/-- The boxes with the areas that the body computes. -/
def boxes (x1 y1 x2 y2 : Vec F S48x128 .f32) : Boxes F := ⟨x1, y1, x2, y2, k0_pay1 x2 x1 y2 y1⟩

/-- What the body leaves in the result's buffer: ones, then the blocks' rows (`al` is what the rows alive held before). -/
def result (x1 y1 x2 y2 al : Vec F S48x128 .f32) : Vec F S48x128 .f32 :=
  blocks (boxes x1 y1 x2 y2) 48 0 (Scalar.ofBits .f32 0x00000000#32) (k0_pay2 (F := F)) al

end Cert.Proof.Nms

end
-- ==== Proof.Nms.Rows.lean ====
/-
  The suppression's row accesses, entry by entry: block `k` reads and writes row `k`, trip `t` reads row `t`, and so what
  the rows alive held before the body does not matter.
-/
module

public import proofs.«01_k».proof.Proof.Nms.Model

@[expose] public section

noncomputable section

namespace Cert.Proof.Nms

open Cert.SelectIdeal Cert.SelectIdeal.Gen
open Idealize.ShloMosaic Idealize.ShloMosaic.TcCoe

variable {F : FTy → Type} [FloatOps F]

/-- The entry of row `r` and lane `j`. -/
abbrev at48 (r : ℕ) (hr : r < 48) (j : Fin 128) : S48x128.Idx :=
  fun a => match a with | ⟨0, _⟩ => ⟨r, hr⟩ | ⟨1, _⟩ => j

theorem off1_eq : ∀ k < 48, k0_off1 (BitVec.ofNat 32 k) 0 = k ∧ k0_off1 (BitVec.ofNat 32 k) 1 = 0 := by decide +kernel
theorem trips_eq : ∀ k < 48, (k0_t1_loop (BitVec.ofNat 32 k)).trips = k := by decide +kernel
theorem off2_eq : ∀ k < 48, ∀ t : Fin (k0_t1_loop (BitVec.ofNat 32 k)).trips,
    k0_off2 (BitVec.ofNat 32 k) t 0 = t.val ∧ k0_off2 (BitVec.ofNat 32 k) t 1 = 0 := by decide +kernel

/-- The place of an entry of a row in its buffer. -/
theorem idx_row (off : Fin 2 → ℕ) (inb) (n : ℕ) (hn : n < 48) (h0 : off 0 = n) (h1 : off 1 = 0) (x : S1x128.Idx) :
    (Rect.unit (s := S48x128) off S1x128.size inb).toLoadRect.idx x = at48 n hn (x 1) := by
  funext a
  apply Fin.ext
  match a with
  | ⟨0, _⟩ =>
    have h := (x 0).isLt
    change (x 0).val < 1 at h
    show off 0 + 1 * (x 0).val = n
    omega
  | ⟨1, _⟩ =>
    show off 1 + 1 * (x 1).val = (x 1).val
    omega

theorem emb_row (off : Fin 2 → ℕ) (inb) (n : ℕ) (hn : n < 48) (h0 : off 0 = n) (h1 : off 1 = 0) (x : S1x128.Idx) :
    (Rect.unit (s := S48x128) off S1x128.size inb).emb x = at48 n hn (x 1) := idx_row off inb n hn h0 h1 x

section
variable (x : Vec F S48x128 .f32) (k : ℕ) (hk : k < 48) (i : S1x128.Idx)

theorem row_b0 : row b0 (rK _ (chk_of_lt k hk)) x i = x (at48 k hk (i 1)) :=
  congrArg x (idx_row _ _ k hk (off1_eq k hk).1 (off1_eq k hk).2 i)
theorem row_b1 : row b1 (rK _ (chk_of_lt k hk)) x i = x (at48 k hk (i 1)) :=
  congrArg x (idx_row _ _ k hk (off1_eq k hk).1 (off1_eq k hk).2 i)
theorem row_b2 : row b2 (rK _ (chk_of_lt k hk)) x i = x (at48 k hk (i 1)) :=
  congrArg x (idx_row _ _ k hk (off1_eq k hk).1 (off1_eq k hk).2 i)
theorem row_b3 : row b3 (rK _ (chk_of_lt k hk)) x i = x (at48 k hk (i 1)) :=
  congrArg x (idx_row _ _ k hk (off1_eq k hk).1 (off1_eq k hk).2 i)
theorem row_ba : row ba (rK _ (chk_of_lt k hk)) x i = x (at48 k hk (i 1)) :=
  congrArg x (idx_row _ _ k hk (off1_eq k hk).1 (off1_eq k hk).2 i)

variable (t : Fin (k0_t1_loop (BitVec.ofNat 32 k)).trips) (ht : t.val < 48)

theorem trow_b0 : row b0 (rT _ (chk_of_lt k hk) t) x i = x (at48 t.val ht (i 1)) :=
  congrArg x (idx_row _ _ t.val ht (off2_eq k hk t).1 (off2_eq k hk t).2 i)
theorem trow_b1 : row b1 (rT _ (chk_of_lt k hk) t) x i = x (at48 t.val ht (i 1)) :=
  congrArg x (idx_row _ _ t.val ht (off2_eq k hk t).1 (off2_eq k hk t).2 i)
theorem trow_b2 : row b2 (rT _ (chk_of_lt k hk) t) x i = x (at48 t.val ht (i 1)) :=
  congrArg x (idx_row _ _ t.val ht (off2_eq k hk t).1 (off2_eq k hk t).2 i)
theorem trow_b3 : row b3 (rT _ (chk_of_lt k hk) t) x i = x (at48 t.val ht (i 1)) :=
  congrArg x (idx_row _ _ t.val ht (off2_eq k hk t).1 (off2_eq k hk t).2 i)
theorem trow_ba : row ba (rT _ (chk_of_lt k hk) t) x i = x (at48 t.val ht (i 1)) :=
  congrArg x (idx_row _ _ t.val ht (off2_eq k hk t).1 (off2_eq k hk t).2 i)
theorem trow_bl : row bl (rT _ (chk_of_lt k hk) t) x i = x (at48 t.val ht (i 1)) :=
  congrArg x (idx_row _ _ t.val ht (off2_eq k hk t).1 (off2_eq k hk t).2 i)
end

theorem at48_inj {r r' : ℕ} {hr : r < 48} {hr' : r' < 48} {j j' : Fin 128} (h : at48 r hr j = at48 r' hr' j') : r = r' ∧ j = j' :=
  ⟨congrArg (fun f : S48x128.Idx => (f 0).val) h, congrArg (fun f : S48x128.Idx => (f 1 : Fin 128)) h⟩

section
variable (k : ℕ) (hk : k < 48) (x : Vec F S48x128 .f32) (w : Vec F S1x128 .f32)

theorem setS_same (j : Fin 128) (i : S1x128.Idx) (hi : i 1 = j) :
    setS _ (chk_of_lt k hk) x w (at48 k hk j) = w i := by
  have h := View.write_emb_of_mem (v := bs.access (rK _ (chk_of_lt k hk))) (Val := Elt F) x w (M := Finset.univ) (x := i) (Finset.mem_univ _)
  have he : (bs.access (rK _ (chk_of_lt k hk))).emb i = at48 k hk j := by
    rw [← hi]; exact emb_row _ _ k hk (off1_eq k hk).1 (off1_eq k hk).2 i
  rw [he] at h
  exact h

theorem setS_other (r : ℕ) (hr : r < 48) (hne : r ≠ k) (j : Fin 128) :
    setS _ (chk_of_lt k hk) x w (at48 r hr j) = x (at48 r hr j) := by
  refine View.write_of_not_mem (v := bs.access (rK _ (chk_of_lt k hk))) (Val := Elt F) x w Finset.univ ?_
  intro hm
  obtain ⟨i, -, hi⟩ := Finset.mem_map.mp hm
  have he : (bs.access (rK _ (chk_of_lt k hk))).emb i = at48 k hk (i 1) := emb_row _ _ k hk (off1_eq k hk).1 (off1_eq k hk).2 i
  exact hne (at48_inj (he.symm.trans hi)).1.symm

theorem setL_same (j : Fin 128) (i : S1x128.Idx) (hi : i 1 = j) :
    setL _ (chk_of_lt k hk) x w (at48 k hk j) = w i := by
  have h := View.write_emb_of_mem (v := bl.access (rK _ (chk_of_lt k hk))) (Val := Elt F) x w (M := Finset.univ) (x := i) (Finset.mem_univ _)
  have he : (bl.access (rK _ (chk_of_lt k hk))).emb i = at48 k hk j := by
    rw [← hi]; exact emb_row _ _ k hk (off1_eq k hk).1 (off1_eq k hk).2 i
  rw [he] at h
  exact h

theorem setL_other (r : ℕ) (hr : r < 48) (hne : r ≠ k) (j : Fin 128) :
    setL _ (chk_of_lt k hk) x w (at48 r hr j) = x (at48 r hr j) := by
  refine View.write_of_not_mem (v := bl.access (rK _ (chk_of_lt k hk))) (Val := Elt F) x w Finset.univ ?_
  intro hm
  obtain ⟨i, -, hi⟩ := Finset.mem_map.mp hm
  have he : (bl.access (rK _ (chk_of_lt k hk))).emb i = at48 k hk (i 1) := emb_row _ _ k hk (off1_eq k hk).1 (off1_eq k hk).2 i
  exact hne (at48_inj (he.symm.trans hi)).1.symm
end

/-- The trips read only the rows alive of the earlier blocks. -/
theorem cross_congr (B : Boxes F) (al al' : Vec F S48x128 .f32) (k : ℕ) (hk : k < 48)
    (h : ∀ r (hr : r < 48), r < k → ∀ j, al (at48 r hr j) = al' (at48 r hr j)) (n : ℕ) :
    cross B al _ (chk_of_lt k hk) n = cross B al' _ (chk_of_lt k hk) n := by
  induction n with
  | zero => rfl
  | succ n ih =>
    simp only [cross]
    by_cases hn : n < (k0_t1_loop (BitVec.ofNat 32 k)).trips
    · rw [dif_pos hn, dif_pos hn, ih]
      have hnk : n < k := by rw [trips_eq k hk] at hn; exact hn
      have hr : row bl (rT _ (chk_of_lt k hk) ⟨n, hn⟩) al = row bl (rT _ (chk_of_lt k hk) ⟨n, hn⟩) al' := by
        funext i
        have h48 : n < 48 := by omega
        rw [trow_bl al k hk i ⟨n, hn⟩ h48, trow_bl al' k hk i ⟨n, hn⟩ h48]
        exact h n h48 hnk (i 1)
      unfold trip
      rw [hr]
    · rw [dif_neg hn, dif_neg hn, ih]

theorem blocks_congr (B : Boxes F) (n : ℕ) : ∀ (k : ℕ) (kept : F .f32) (su al al' : Vec F S48x128 .f32),
    (∀ r (hr : r < 48), r < k → ∀ j, al (at48 r hr j) = al' (at48 r hr j)) → blocks B n k kept su al = blocks B n k kept su al' := by
  induction n with
  | zero => intros; rfl
  | succ n ih =>
    intro k kept su al al' h
    simp only [blocks]
    by_cases hk : k < 48
    · rw [dif_pos hk, dif_pos hk]
      have hc : col B al _ (chk_of_lt k hk) = col B al' _ (chk_of_lt k hk) := by
        unfold col; rw [cross_congr B al al' k hk h]
      rw [hc]
      split
      · refine ih _ _ _ _ _ fun r hr hrk j => ?_
        by_cases hrk' : r = k
        · subst hrk'
          rw [setL_same r hr al _ j (fun a => match a with | ⟨0, _⟩ => ⟨0, Nat.one_pos⟩ | ⟨1, _⟩ => j) rfl,
            setL_same r hr al' _ j (fun a => match a with | ⟨0, _⟩ => ⟨0, Nat.one_pos⟩ | ⟨1, _⟩ => j) rfl]
        · rw [setL_other k hk al _ r hr hrk' j, setL_other k hk al' _ r hr hrk' j, h r hr (by omega)]
      · rfl
    · rw [dif_neg hk, dif_neg hk]

/-- What the rows alive held before does not matter. -/
theorem result_congr (x1 y1 x2 y2 al al' : Vec F S48x128 .f32) : result x1 y1 x2 y2 al = result x1 y1 x2 y2 al' :=
  blocks_congr _ _ _ _ _ _ _ fun _ _ h => absurd h (Nat.not_lt_zero _)

end Cert.Proof.Nms

end
-- ==== Proof.Nms.Value.lean ====
/-
  The suppression's body over the extended reals: its columns of zeros and ones say which boxes are suppressed, and its
  count how many valid boxes are kept.
-/
module

public import proofs.«01_k».proof.Proof.Nms.Rows
public import proofs.«01_k».proof.Proof.Nms.Order
public import Idealize.ShloMosaic.Lib.Pointwise
public import Idealize.ShloMosaic.Lib.Claim

@[expose] public section

set_option maxRecDepth 16384

noncomputable section

namespace Cert.Proof.Nms

open Cert.SelectIdeal Cert.SelectIdeal.Gen
open Idealize.ShloMosaic Idealize.ShloMosaic.TcCoe

/-! ### Numbers that stand for a proposition -/

/-- One where `P` holds, zero where not. -/
def ind (P : Prop) : EReal := open Classical in if P then 1 else 0

theorem ind_true {P : Prop} (h : P) : ind P = 1 := if_pos h
theorem ind_false {P : Prop} (h : ¬ P) : ind P = 0 := if_neg h
theorem ind_congr {P Q : Prop} (h : P ↔ Q) : ind P = ind Q := by rw [propext h]
theorem ind_if (P : Prop) [Decidable P] : (if P then (1 : EReal) else 0) = ind P := by
  by_cases h : P
  · rw [if_pos h, ind_true h]
  · rw [if_neg h, ind_false h]
theorem ind_mul (P Q : Prop) : ind P * ind Q = ind (P ∧ Q) := by
  by_cases h : P <;> by_cases h' : Q <;> simp [ind, h, h']
theorem ind_not (P : Prop) : 1 - ind P = ind (¬ P) := by
  by_cases h : P
  · rw [ind_true h, ind_false (not_not.mpr h), show (1 : EReal) = ((1 : ℝ) : EReal) from rfl, ← EReal.coe_sub, sub_self]; rfl
  · rw [ind_false h, ind_true h, sub_zero]
theorem ind_nonneg (P : Prop) : 0 ≤ ind P := by
  by_cases h : P
  · rw [ind_true h]; exact zero_le_one
  · rw [ind_false h]
theorem ind_le (P : Prop) : ind P ≤ 1 := by
  by_cases h : P
  · rw [ind_true h]
  · rw [ind_false h]; exact zero_le_one
theorem ind_max (P Q : Prop) : max (ind P) (ind Q) = ind (P ∨ Q) := by
  by_cases h : P
  · rw [ind_true h, ind_true (Or.inl h)]; exact max_eq_left (ind_le Q)
  · rw [ind_false h, max_eq_right (ind_nonneg Q)]; exact ind_congr (by simp [h])

theorem bits_bot : Ideal.ofBits FTy.f32 4286578688#32 = ⊥ := by simp [Ideal.ofBits, Ideal.ieee]
theorem bits_half : Ideal.ofBits FTy.f32 0x3F000000#32 = ((1 / 2 : ℝ) : EReal) := by
  simp [Ideal.ofBits, Ideal.ieee, -EReal.coe_mul]; norm_num
theorem bits_300 : Ideal.ofBits FTy.f32 0x43960000#32 = ((300 : ℝ) : EReal) := by
  simp [Ideal.ofBits, Ideal.ieee, -EReal.coe_mul]; norm_num
theorem bits_one : Ideal.ofBits FTy.f32 0x3F800000#32 = 1 := by
  simp [Ideal.ofBits, Ideal.ieee, -EReal.coe_mul]; norm_num
theorem bits_zero : Ideal.ofBits FTy.f32 0x00000000#32 = 0 := by simp [Ideal.ofBits, Ideal.ieee]

/-- The maximum of such numbers over a row. -/
theorem fold_ind (p : Fin 128 → Prop) :
    Finset.fold max (Ideal.ofBits FTy.f32 4286578688#32) (fun x => ind (p x)) Finset.univ = ind (∃ x, p x) := by
  rw [bits_bot]
  apply le_antisymm
  · rw [Finset.fold_max_le]
    refine ⟨bot_le, fun x _ => ?_⟩
    by_cases h : p x
    · rw [ind_true h, ind_true ⟨x, h⟩]
    · rw [ind_false h]; exact ind_nonneg _
  · rw [Finset.le_fold_max]
    right
    by_cases h : ∃ x, p x
    · obtain ⟨x, hx⟩ := h
      exact ⟨x, Finset.mem_univ x, by rw [ind_true hx]; exact ind_le _⟩
    · exact ⟨0, Finset.mem_univ _, by rw [ind_false h]; exact ind_nonneg _⟩

theorem bit_and (P Q : Prop) [Decidable P] [Decidable Q] :
    Scalar.select (IntOp.andi (BitVec.ofBool (decide P)) (BitVec.ofBool (decide Q))) (1 : EReal) 0 = ind (P ∧ Q) := by
  by_cases h : P <;> by_cases h' : Q <;> simp [ind, h, h', Scalar.select, IntOp.andi]

theorem bit_sel (P Q : Prop) [Decidable P] [Decidable Q] (R : Prop) :
    Scalar.select (IntOp.andi (BitVec.ofBool (decide P)) (BitVec.ofBool (decide Q))) (ind R) 0 = ind ((P ∧ Q) ∧ R) := by
  by_cases h : P <;> by_cases h' : Q <;> by_cases h'' : R <;> simp [ind, h, h', h'', Scalar.select, IntOp.andi]

theorem later_bit (i j : Fin 128) :
    IntOp.cmpi CmpIPredicate.sgt (BitVec.ofNat 32 j.val) (BitVec.ofNat 32 i.val) = BitVec.ofBool (decide (i.val < j.val)) := by
  revert i j; decide +kernel

theorem neg_one_le : (-1 : EReal) ≤ 1 := by
  rw [show (1 : EReal) = ((1 : ℝ) : EReal) from rfl, ← EReal.coe_neg, EReal.coe_le_coe_iff]; norm_num

theorem abs_ind (P Q : Prop) : FloatOps.absf (F := Ideal) (φ := .f32) (ind P - ind Q) = ind (¬ (P ↔ Q)) := by
  show max (ind P - ind Q) (-(ind P - ind Q)) = _
  by_cases h : P <;> by_cases h' : Q <;> simp [ind, h, h', neg_one_le, show (1 : EReal) - 1 = 0 from by
    rw [show (1 : EReal) = ((1 : ℝ) : EReal) from rfl, ← EReal.coe_sub, sub_self]; rfl]

/-! ### Boxes -/

/-- A box by its corners. -/
structure Box where
  x1 : EReal
  y1 : EReal
  x2 : EReal
  y2 : EReal

namespace Box
def area (p : Box) : EReal := (p.x2 - p.x1 + 1) * (p.y2 - p.y1 + 1)
def inter (p q : Box) : EReal := max 0 (min p.x2 q.x2 - max p.x1 q.x1 + 1) * max 0 (min p.y2 q.y2 - max p.y1 q.y1 + 1)
/-- Their intersection over their union is above the threshold. -/
def over (p q : Box) : Prop := Ideal.ofBits FTy.f32 1060320051#32 < Ideal.div (p.inter q) (p.area + q.area - p.inter q)
/-- Wide and high enough to keep. -/
def valid (p : Box) : Prop :=
  Ideal.ofBits FTy.f32 1098907648#32 ≤ p.x2 - p.x1 + 1 ∧ Ideal.ofBits FTy.f32 1098907648#32 ≤ p.y2 - p.y1 + 1

theorem inter_comm (p q : Box) : p.inter q = q.inter p := by
  unfold inter; rw [min_comm p.x2, max_comm p.x1, min_comm p.y2, max_comm p.y1]
theorem over_comm (p q : Box) : p.over q ↔ q.over p := by
  unfold over; rw [inter_comm p q, add_comm p.area]
end Box

/-- Box `i` overlaps box `j`. -/
def hit (b : ℕ → Box) (i j : ℕ) : Prop := (b j).over (b i)

/-- The box at a place of the buffers. -/
abbrev boxAt (x1 y1 x2 y2 : Vec Ideal S48x128 .f32) (r : ℕ) (hr : r < 48) (j : Fin 128) : Box :=
  ⟨x1 (at48 r hr j), y1 (at48 r hr j), x2 (at48 r hr j), y2 (at48 r hr j)⟩

/-! ### Rows, by lane -/

section
variable (x : Vec Ideal S48x128 .f32) (k : ℕ) (hk : k < 48)
theorem rk0 (j : Fin 128) : row b0 (rK _ (chk_of_lt k hk)) x (ix2 0 j) = x (at48 k hk j) := row_b0 x k hk (ix2 0 j)
theorem rk1 (j : Fin 128) : row b1 (rK _ (chk_of_lt k hk)) x (ix2 0 j) = x (at48 k hk j) := row_b1 x k hk (ix2 0 j)
theorem rk2 (j : Fin 128) : row b2 (rK _ (chk_of_lt k hk)) x (ix2 0 j) = x (at48 k hk j) := row_b2 x k hk (ix2 0 j)
theorem rk3 (j : Fin 128) : row b3 (rK _ (chk_of_lt k hk)) x (ix2 0 j) = x (at48 k hk j) := row_b3 x k hk (ix2 0 j)
theorem rka (j : Fin 128) : row ba (rK _ (chk_of_lt k hk)) x (ix2 0 j) = x (at48 k hk j) := row_ba x k hk (ix2 0 j)
variable (t : Fin (k0_t1_loop (BitVec.ofNat 32 k)).trips) (ht : t.val < 48)
theorem rt0 (i : Fin 128) : row b0 (rT _ (chk_of_lt k hk) t) x (ix2 0 i) = x (at48 t.val ht i) := trow_b0 x k hk (ix2 0 i) t ht
theorem rt1 (i : Fin 128) : row b1 (rT _ (chk_of_lt k hk) t) x (ix2 0 i) = x (at48 t.val ht i) := trow_b1 x k hk (ix2 0 i) t ht
theorem rt2 (i : Fin 128) : row b2 (rT _ (chk_of_lt k hk) t) x (ix2 0 i) = x (at48 t.val ht i) := trow_b2 x k hk (ix2 0 i) t ht
theorem rt3 (i : Fin 128) : row b3 (rT _ (chk_of_lt k hk) t) x (ix2 0 i) = x (at48 t.val ht i) := trow_b3 x k hk (ix2 0 i) t ht
theorem rta (i : Fin 128) : row ba (rT _ (chk_of_lt k hk) t) x (ix2 0 i) = x (at48 t.val ht i) := trow_ba x k hk (ix2 0 i) t ht
theorem rtl (i : Fin 128) : row bl (rT _ (chk_of_lt k hk) t) x (ix2 0 i) = x (at48 t.val ht i) := trow_bl x k hk (ix2 0 i) t ht
end

section
variable (x1 y1 x2 y2 : Vec Ideal S48x128 .f32) (b : ℕ → Box)
  (hb : ∀ r (hr : r < 48) (j : Fin 128), b (128 * r + j.val) = boxAt x1 y1 x2 y2 r hr j)
include hb

theorem area_at (r : ℕ) (hr : r < 48) (j : Fin 128) : (boxes x1 y1 x2 y2).ar (at48 r hr j) = (b (128 * r + j.val)).area := by
  rw [hb]
  show k0_pay1 (F := Ideal) x2 x1 y2 y1 (at48 r hr j) = _
  pointwise [k0_pay1]
  rfl

/-! ### A trip, and the trips together -/

theorem trip_at (al : Vec Ideal S48x128 .f32) (k : ℕ) (hk : k < 48) (t : Fin (k0_t1_loop (BitVec.ofNat 32 k)).trips)
    (ht : t.val < 48) (hal : ∀ i : Fin 128, al (at48 t.val ht i) = ind (¬ sup (hit b) (128 * t.val + i.val)))
    (acc : FVec Ideal S128x1 .f32) (j : Fin 128) (P : Prop) (hP : acc (ix2 j 0) = ind P) :
    trip (boxes x1 y1 x2 y2) al _ (chk_of_lt k hk) t acc (ix2 j 0)
      = ind (P ∨ ∃ i : Fin 128, hit b (128 * t.val + i.val) (128 * k + j.val) ∧ ¬ sup (hit b) (128 * t.val + i.val)) := by
  unfold trip
  pointwise [k0_pay15]
  rw [hP]
  have e : (fun i : Fin 128 => k0_pay7 (F := Ideal) (k0_pay9 (row b0 (rK _ (chk_of_lt k hk)) x1))
      (k0_pay10 (row b1 (rK _ (chk_of_lt k hk)) y1)) (k0_pay11 (row b2 (rK _ (chk_of_lt k hk)) x2))
      (k0_pay12 (row b3 (rK _ (chk_of_lt k hk)) y2)) (k0_pay13 (row ba (rK _ (chk_of_lt k hk)) (boxes x1 y1 x2 y2).ar))
      (row b0 (rT _ (chk_of_lt k hk) t) x1) (row b1 (rT _ (chk_of_lt k hk) t) y1) (row b2 (rT _ (chk_of_lt k hk) t) x2)
      (row b3 (rT _ (chk_of_lt k hk) t) y2) (row ba (rT _ (chk_of_lt k hk) t) (boxes x1 y1 x2 y2).ar)
      (row bl (rT _ (chk_of_lt k hk) t) al) (ix2 j i))
      = fun i : Fin 128 => ind (hit b (128 * t.val + i.val) (128 * k + j.val) ∧ ¬ sup (hit b) (128 * t.val + i.val)) := by
    funext i
    pointwise [k0_pay7, k0_pay9, k0_pay10, k0_pay11, k0_pay12, k0_pay13]
    rw [rk0 x1 k hk j, rk1 y1 k hk j, rk2 x2 k hk j, rk3 y2 k hk j, rka (boxes x1 y1 x2 y2).ar k hk j,
      rt0 x1 k hk t ht i, rt1 y1 k hk t ht i, rt2 x2 k hk t ht i, rt3 y2 k hk t ht i, rta (boxes x1 y1 x2 y2).ar k hk t ht i,
      rtl al k hk t ht i, hal i, area_at x1 y1 x2 y2 b hb k hk j, area_at x1 y1 x2 y2 b hb t.val ht i, ind_if, ind_mul]
    refine ind_congr (and_congr_left' ?_)
    unfold hit Box.over Box.inter
    rw [hb k hk j, hb t.val ht i]
  show max (ind P) (Finset.fold max _ (fun i : Fin 128 => _) Finset.univ) = _
  refine (congrArg (fun f => max (ind P) (Finset.fold max (Ideal.ofBits FTy.f32 4286578688#32) f Finset.univ)) e).trans ?_
  rw [fold_ind, ind_max]

theorem cross_at (al : Vec Ideal S48x128 .f32) (k : ℕ) (hk : k < 48)
    (hal : ∀ t (ht : t < 48), t < k → ∀ i : Fin 128, al (at48 t ht i) = ind (¬ sup (hit b) (128 * t + i.val))) (j : Fin 128) :
    ∀ n, n ≤ k → cross (boxes x1 y1 x2 y2) al _ (chk_of_lt k hk) n (ix2 j 0) = ind (part (hit b) (128 * n) (128 * k + j.val)) := by
  intro n
  induction n with
  | zero =>
    intro _
    show k0_pay14 (F := Ideal) (ix2 j 0) = _
    rw [ind_false (part_zero _ _)]
    pointwise [k0_pay14]
  | succ n ih =>
    intro hn
    have ht : n < (k0_t1_loop (BitVec.ofNat 32 k)).trips := by rw [trips_eq k hk]; omega
    rw [cross, dif_pos ht, trip_at x1 y1 x2 y2 b hb al k hk ⟨n, ht⟩ (by show n < 48; omega) (hal n (by omega) (by omega)) _ j _
      (ih (by omega))]
    refine ind_congr ?_
    unfold part
    constructor
    · rintro (⟨i, h1, h2, h3, h4⟩ | ⟨i, h1, h2⟩)
      · exact ⟨i, by omega, h2, h3, h4⟩
      · exact ⟨128 * n + i.val, by omega, by omega, h2, h1⟩
    · rintro ⟨i, h1, h2, h3, h4⟩
      by_cases h : i < 128 * n
      · exact .inl ⟨i, h, h2, h3, h4⟩
      · refine .inr ⟨⟨i - 128 * n, by omega⟩, ?_⟩
        have e : 128 * n + (i - 128 * n) = i := by omega
        show hit b (128 * n + (i - 128 * n)) _ ∧ ¬ sup (hit b) (128 * n + (i - 128 * n))
        rw [e]; exact ⟨h4, h3⟩

/-! ### A block on its own -/

theorem own_at (k : ℕ) (hk : k < 48) (j i : Fin 128) :
    own (boxes x1 y1 x2 y2) _ (chk_of_lt k hk) (ix2 j i) = ind (hit b (128 * k + i.val) (128 * k + j.val) ∧ i.val < j.val) := by
  unfold own
  pointwise [k0_pay21, k0_pay9, k0_pay10, k0_pay11, k0_pay12, k0_pay13, k0_pay17, k0_pay18, k0_pay19, k0_pay20]
  rw [rk0 (boxes x1 y1 x2 y2).x1 k hk j, rk1 (boxes x1 y1 x2 y2).y1 k hk j, rk2 (boxes x1 y1 x2 y2).x2 k hk j,
    rk3 (boxes x1 y1 x2 y2).y2 k hk j, rka (boxes x1 y1 x2 y2).ar k hk j,
    rk0 (boxes x1 y1 x2 y2).x1 k hk i, rk1 (boxes x1 y1 x2 y2).y1 k hk i, rk2 (boxes x1 y1 x2 y2).x2 k hk i,
    rk3 (boxes x1 y1 x2 y2).y2 k hk i, rka (boxes x1 y1 x2 y2).ar k hk i,
    area_at x1 y1 x2 y2 b hb k hk j, area_at x1 y1 x2 y2 b hb k hk i, later_bit i j, bit_and]
  refine ind_congr (and_congr_left' ?_)
  unfold hit Box.over Box.inter
  rw [hb k hk j, hb k hk i]
  exact Iff.rfl

end

section
variable (m : FVec Ideal S128x128 .f32) (c s : FVec Ideal S128x1 .f32) (S : Fin 128 → Prop) (hit : ℕ → ℕ → Prop) (o : ℕ)
  (hm : ∀ j i : Fin 128, m (ix2 j i) = ind (hit (o + i.val) (o + j.val) ∧ i.val < j.val))
  (hc : ∀ j : Fin 128, c (ix2 j 0) = ind (part hit o (o + j.val)))
include hm hc

theorem round_at (hs : ∀ j : Fin 128, s (ix2 j 0) = ind (S j)) (j : Fin 128) :
    k0_pay5 (F := Ideal) m c s (ix2 j 0) = ind (round hit o S j) := by
  pointwise [k0_pay5]
  have e : (fun i : Fin 128 => m (ix2 j i) * (1 - s (ix2 i 0)))
      = fun i : Fin 128 => ind ((hit (o + i.val) (o + j.val) ∧ i.val < j.val) ∧ ¬ S i) := by
    funext i; rw [hm, hs, ind_not, ind_mul]
  rw [hc]
  refine (congrArg (fun f => max (ind (part hit o (o + j.val))) (Finset.fold max (Ideal.ofBits FTy.f32 4286578688#32) f Finset.univ)) e).trans ?_
  rw [fold_ind, ind_max]
  exact ind_congr (or_congr_right (exists_congr fun i => and_assoc))

theorem change_at (hs : ∀ j : Fin 128, s (ix2 j 0) = ind (S j)) :
    ((1 / 2 : ℝ) : EReal) < k0_pay6 (F := Ideal) m c s ∨ ∀ j, round hit o S j ↔ S j := by
  by_cases h : ∀ j, round hit o S j ↔ S j
  · exact .inr h
  left
  obtain ⟨j, hj⟩ := not_forall.mp h
  have e : k0_pay6 (F := Ideal) m c s = ∑ x : Fin 128, ∑ y : Fin 1, ind (¬ (round hit o S x ↔ S x)) := by
    unfold k0_pay6
    pointwise []
    refine Finset.sum_congr rfl fun x _ => Finset.sum_congr rfl fun y _ => ?_
    rw [round_at m c s S hit o hm hc hs x, hs x, abs_ind]
  rw [e]
  have hle : ind (¬ (round hit o S j ↔ S j)) ≤ ∑ x : Fin 128, ∑ y : Fin 1, ind (¬ (round hit o S x ↔ S x)) := by
    simp only [Finset.univ_unique, Finset.sum_singleton]
    exact Finset.single_le_sum (f := fun x => ind (¬ (round hit o S x ↔ S x))) (fun x _ => ind_nonneg _) (Finset.mem_univ j)
  refine lt_of_lt_of_le ?_ hle
  rw [ind_true hj, show (1 : EReal) = ((1 : ℝ) : EReal) from rfl, EReal.coe_lt_coe_iff]
  norm_num

omit hm hc in
theorem go_on (d : EReal) : (Scalar.cmpf (F := Ideal) (φ := .f32) .ogt d (Scalar.ofBits .f32 0x3F000000#32) = 1#1) ↔ ((1 / 2 : ℝ) : EReal) < d := by
  show BitVec.ofBool (decide (Ideal.ofBits FTy.f32 0x3F000000#32 < d)) = 1#1 ↔ _
  rw [bits_half]
  by_cases h : ((1 / 2 : ℝ) : EReal) < d
  · rw [decide_eq_true h]; exact iff_of_true rfl h
  · rw [decide_eq_false h]; exact iff_of_false (by decide) h

theorem fix_at : ∀ (n : ℕ) (r : ℕ) (d : EReal) (s : FVec Ideal S128x1 .f32) (S : Fin 128 → Prop),
    (∀ j : Fin 128, s (ix2 j 0) = ind (S j)) → (∀ j : Fin 128, j.val < r → (S j ↔ sup hit (o + j.val))) → 128 ≤ r + n →
    (((1 / 2 : ℝ) : EReal) < d ∨ ∀ j : Fin 128, S j ↔ sup hit (o + j.val)) →
    ∀ j : Fin 128, fix m c n d s (ix2 j 0) = ind (sup hit (o + j.val)) := by
  intro n
  induction n with
  | zero =>
    intro r d s S hs hr hn _ j
    exact (hs j).trans (ind_congr (hr j (by omega)))
  | succ n ih =>
    intro r d s S hs hr hn hd j
    unfold fix
    by_cases h : ((1 / 2 : ℝ) : EReal) < d
    · rw [if_pos ((go_on d).mpr h)]
      refine ih (r + 1) _ _ (round hit o S) (round_at m c s S hit o hm hc hs) (round_right hit o S r hr) (by omega) ?_ j
      rcases change_at m c s S hit o hm hc hs with h' | h'
      · exact .inl h'
      · exact .inr fun i => (h' i).trans (round_fixed hit o S h' i)
    · rw [if_neg (fun h' => h ((go_on d).mp h'))]
      rcases hd with hd | hd
      · exact absurd hd h
      · exact (hs j).trans (ind_congr (hd j))

end

/-! ### The blocks one after the other -/

section
variable (x1 y1 x2 y2 : Vec Ideal S48x128 .f32) (b : ℕ → Box)
  (hb : ∀ r (hr : r < 48) (j : Fin 128), b (128 * r + j.val) = boxAt x1 y1 x2 y2 r hr j)
include hb

theorem col_at (al : Vec Ideal S48x128 .f32) (k : ℕ) (hk : k < 48)
    (hal : ∀ t (ht : t < 48), t < k → ∀ i : Fin 128, al (at48 t ht i) = ind (¬ sup (hit b) (128 * t + i.val))) (j : Fin 128) :
    col (boxes x1 y1 x2 y2) al _ (chk_of_lt k hk) (ix2 j 0) = ind (sup (hit b) (128 * k + j.val)) := by
  have hc : ∀ j : Fin 128, cross (boxes x1 y1 x2 y2) al _ (chk_of_lt k hk) (k0_t1_loop (BitVec.ofNat 32 k)).trips (ix2 j 0)
      = ind (part (hit b) (128 * k) (128 * k + j.val)) := by
    intro j
    have h := cross_at x1 y1 x2 y2 b hb al k hk hal j k le_rfl
    have e := congrArg (fun n => cross (boxes x1 y1 x2 y2) al _ (chk_of_lt k hk) n (ix2 j 0)) (trips_eq k hk)
    exact e.trans h
  unfold col
  refine fix_at _ _ (hit b) (128 * k) (own_at x1 y1 x2 y2 b hb k hk) hc 130 0 _ _ _ hc
    (fun j h => absurd h (Nat.not_lt_zero _)) (by omega) (.inl ?_) j
  show ((1 / 2 : ℝ) : EReal) < Ideal.ofBits FTy.f32 0x3F800000#32
  rw [bits_one, show (1 : EReal) = ((1 : ℝ) : EReal) from rfl, EReal.coe_lt_coe_iff]
  norm_num

/-- The count of the valid boxes kept among the first `n`. -/
def kept (b : ℕ → Box) (n : ℕ) : EReal := ∑ i ∈ Finset.range n, ind ((b i).valid ∧ ¬ sup (hit b) i)

theorem count_at (k : ℕ) (hk : k < 48) (s : FVec Ideal S128x1 .f32)
    (hs : ∀ j : Fin 128, s (ix2 j 0) = ind (sup (hit b) (128 * k + j.val))) :
    count (boxes x1 y1 x2 y2) _ (chk_of_lt k hk) (kept b (128 * k)) s = kept b (128 * (k + 1)) := by
  have e : kept b (128 * (k + 1)) = kept b (128 * k)
      + ∑ j : Fin 128, ind ((b (128 * k + j.val)).valid ∧ ¬ sup (hit b) (128 * k + j.val)) := by
    unfold kept
    rw [show 128 * (k + 1) = 128 * k + 128 from by omega, Finset.sum_range_add, Finset.sum_range (n := 128)]
  rw [e]
  unfold count k0_pay4
  pointwise [k0_pay17, k0_pay18, k0_pay19, k0_pay20, k0_pay22]
  rw [Finset.univ_unique, Finset.sum_singleton]
  refine congrArg (kept b (128 * k) + ·) (Finset.sum_congr rfl fun j _ => ?_)
  rw [rk0 (boxes x1 y1 x2 y2).x1 k hk j, rk1 (boxes x1 y1 x2 y2).y1 k hk j, rk2 (boxes x1 y1 x2 y2).x2 k hk j,
    rk3 (boxes x1 y1 x2 y2).y2 k hk j, hs j, ind_not, bit_sel]
  refine ind_congr (and_congr_left' ?_)
  unfold Box.valid
  rw [hb k hk j]
  exact Iff.rfl

omit hb in
theorem below (d : EReal) : (Scalar.cmpf (F := Ideal) (φ := .f32) .olt d (Scalar.ofBits .f32 0x43960000#32) = 1#1) ↔ d < ((300 : ℝ) : EReal) := by
  show BitVec.ofBool (decide (d < Ideal.ofBits FTy.f32 0x43960000#32)) = 1#1 ↔ _
  rw [bits_300]
  by_cases h : d < ((300 : ℝ) : EReal)
  · rw [decide_eq_true h]; exact iff_of_true rfl h
  · rw [decide_eq_false h]; exact iff_of_false (by decide) h

omit hb in
theorem pay22_at (s : FVec Ideal S128x1 .f32) (j : Fin 128) : k0_pay22 (F := Ideal) s (ix2 0 j) = s (ix2 j 0) := by pointwise [k0_pay22]
omit hb in
theorem pay23_at (s : FVec Ideal S128x1 .f32) (j : Fin 128) : k0_pay3 (k0_pay23 (F := Ideal) s) (ix2 0 j) = 1 - s (ix2 j 0) := by
  pointwise [k0_pay3, k0_pay23, k0_pay22]

/-- What the blocks leave: the first `K` rows say which boxes are suppressed, the others are ones; and `K` is all of them
unless 300 valid boxes are kept by then. -/
def Left (su : Vec Ideal S48x128 .f32) (b : ℕ → Box) : Prop :=
  ∃ K ≤ 48, (∀ r (hr : r < 48), r < K → ∀ j, su (at48 r hr j) = ind (sup (hit b) (128 * r + j.val)))
    ∧ (∀ r (hr : r < 48), K ≤ r → ∀ j, su (at48 r hr j) = 1) ∧ (K = 48 ∨ ((300 : ℝ) : EReal) ≤ kept b (128 * K))

theorem blocks_at : ∀ (n k : ℕ) (su al : Vec Ideal S48x128 .f32), k + n = 48 →
    (∀ r (hr : r < 48), r < k → ∀ j, su (at48 r hr j) = ind (sup (hit b) (128 * r + j.val))) →
    (∀ r (hr : r < 48), k ≤ r → ∀ j, su (at48 r hr j) = 1) →
    (∀ r (hr : r < 48), r < k → ∀ j, al (at48 r hr j) = ind (¬ sup (hit b) (128 * r + j.val))) →
    Left (blocks (boxes x1 y1 x2 y2) n k (kept b (128 * k)) su al) b := by
  intro n
  induction n with
  | zero => intro k su al hk h1 h2 _; exact ⟨k, by omega, h1, h2, .inl (by omega)⟩
  | succ n ih =>
    intro k su al hk h1 h2 h3
    have hk' : k < 48 := by omega
    unfold blocks
    rw [dif_pos hk']
    by_cases h : kept b (128 * k) < ((300 : ℝ) : EReal)
    · rw [if_pos ((below _).mpr h)]
      have hs := col_at x1 y1 x2 y2 b hb al k hk' h3
      rw [count_at x1 y1 x2 y2 b hb k hk' _ hs]
      refine ih (k + 1) _ _ (by omega) (fun r hr hrk j => ?_) (fun r hr hrk j => ?_) (fun r hr hrk j => ?_)
      · by_cases e : r = k
        · subst e
          rw [setS_same r hr su _ j (ix2 0 j) rfl, pay22_at, hs]
        · rw [setS_other k hk' su _ r hr e j]; exact h1 r hr (by omega) j
      · rw [setS_other k hk' su _ r hr (by omega) j]; exact h2 r hr (by omega) j
      · by_cases e : r = k
        · subst e
          rw [setL_same r hr al _ j (ix2 0 j) rfl, pay23_at, hs, ind_not]
        · rw [setL_other k hk' al _ r hr e j]; exact h3 r hr (by omega) j
    · rw [if_neg (fun h' => h ((below _).mp h'))]
      exact ⟨k, by omega, h1, h2, .inr (not_lt.mp h)⟩

/-- The suppression's result. -/
theorem result_at (al : Vec Ideal S48x128 .f32) : Left (result x1 y1 x2 y2 al) b := by
  unfold result
  have e : (Scalar.ofBits (F := Ideal) .f32 0x00000000#32 : EReal) = kept b (128 * 0) := by
    show Ideal.ofBits FTy.f32 0x00000000#32 = _
    rw [bits_zero]; rfl
  rw [e]
  refine blocks_at x1 y1 x2 y2 b hb 48 0 _ _ rfl (fun r _ h => absurd h (Nat.not_lt_zero _)) (fun r hr _ j => ?_)
    (fun r _ h => absurd h (Nat.not_lt_zero _))
  pointwise [k0_pay2]

end

end Cert.Proof.Nms
-- ==== Proof.Nms.Body.lean ====
/-
  The suppression's body, run: the loop over the earlier blocks, the fixed point inside a block, the loop over the blocks
  and the whole body, each by a specification that hands back the buffers at the contents `Model.lean` names.
-/
module

public import proofs.«01_k».proof.Proof.Nms.Model
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.LoopRemainder

@[expose] public section

noncomputable section

namespace Cert.Proof.Nms

open Cert.SelectIdeal Cert.SelectIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The kernel's variants: the rounds still to run. -/
abbrev 𝒱₀ : Variants := Variants.nat

variable (c : Dev nD)

/-- The six buffers that the loops read and that stay as they are while a block is worked at. -/
def heldIn (B : Boxes F) (al : Vec F S48x128 .f32) : sProp 𝕄 :=
  iprop((((c : Thread nD τ).loc cc0_stg0_0) ↦{fullShare} (B.x1 : Buf (Elt F) ((c : Thread nD τ).loc cc0_stg0_0)))
    ∗ (((c : Thread nD τ).loc cc0_stg1_0) ↦{fullShare} (B.y1 : Buf (Elt F) ((c : Thread nD τ).loc cc0_stg1_0)))
    ∗ (((c : Thread nD τ).loc cc0_stg2_0) ↦{fullShare} (B.x2 : Buf (Elt F) ((c : Thread nD τ).loc cc0_stg2_0)))
    ∗ (((c : Thread nD τ).loc cc0_stg3_0) ↦{fullShare} (B.y2 : Buf (Elt F) ((c : Thread nD τ).loc cc0_stg3_0)))
    ∗ (((c : Thread nD τ).loc cc0_scratch0) ↦{fullShare} (B.ar : Buf (Elt F) ((c : Thread nD τ).loc cc0_scratch0)))
    ∗ (((c : Thread nD τ).loc cc0_scratch1) ↦{fullShare} (al : Buf (Elt F) ((c : Thread nD τ).loc cc0_scratch1))))

/-- The result's buffer. -/
def heldS (su : Vec F S48x128 .f32) : sProp 𝕄 :=
  iprop(((c : Thread nD τ).loc cc0_stg4_0) ↦{fullShare} (su : Buf (Elt F) ((c : Thread nD τ).loc cc0_stg4_0)))

section Trip

variable (B : Boxes F) (al : Vec F S48x128 .f32) (k : BitVec 32) (h : k0_chk1 k) (kept : F .f32) (bd : Option ℕ)
  (v21 v20 : IVec S128x128 32)

/-- One trip of the loop over the earlier blocks reads six rows and joins the overlaps. -/
theorem wp_trip (t : Fin (k0_t1_loop k).trips) (acc : FVec F S128x1 .f32) (K : FVec F S128x1 .f32 → sProp 𝕄) :
    iprop(heldIn c B al ∗ (heldIn c B al -∗ K (trip B al k h t acc)))
      ⊢ wp frame (wpE (defs₀ (F := F)) 𝒱₀ (c : Thread nD τ) bd) Set.univ
          (k0_t1_body b0 (Memref.isWhole_whole _) b1 (Memref.isWhole_whole _) b2 (Memref.isWhole_whole _) b3 (Memref.isWhole_whole _)
            ba (Memref.isWhole_whole _) bl (Memref.isWhole_whole _) v21 v20 bs (Memref.isWhole_whole _) k kept h
            (row b0 (rK k h) B.x1) (row b1 (rK k h) B.y1) (row b2 (rK k h) B.x2) (row b3 (rK k h) B.y2) (row ba (rK k h) B.ar) t acc) K := by
  unfold k0_t1_body
  simp only [k0_part1_eq_skeleton]; unfold k0_part1_skel
  simp only [Prog.lift, Prog.bind_op, Prog.bind_ret, Prog.pure_eq_ret]
  unfold heldIn
  iintro ⟨⟨H0, H1, H2, H3, Ha, Hl⟩, Hk⟩
  iapply (wp_load 𝒱₀ (c : Thread nD τ) bd Set.univ (m := b0) (Finset.subset_univ _)) $$ H0; iintro H0
  iapply (wp_load 𝒱₀ (c : Thread nD τ) bd Set.univ (m := b1) (Finset.subset_univ _)) $$ H1; iintro H1
  iapply (wp_load 𝒱₀ (c : Thread nD τ) bd Set.univ (m := b2) (Finset.subset_univ _)) $$ H2; iintro H2
  iapply (wp_load 𝒱₀ (c : Thread nD τ) bd Set.univ (m := b3) (Finset.subset_univ _)) $$ H3; iintro H3
  iapply (wp_load 𝒱₀ (c : Thread nD τ) bd Set.univ (m := ba) (Finset.subset_univ _)) $$ Ha; iintro Ha
  iapply (wp_load 𝒱₀ (c : Thread nD τ) bd Set.univ (m := bl) (Finset.subset_univ _)) $$ Hl; iintro Hl
  rw [wp_ret]; imodintro
  unfold trip row
  iapply Hk
  isplitl [H0]; · iexact H0
  isplitl [H1]; · iexact H1
  isplitl [H2]; · iexact H2
  isplitl [H3]; · iexact H3
  isplitl [Ha]; · iexact Ha
  iexact Hl

end Trip

section Fix

/-- The fixed point's specification: it returns some counter and change, and the column of `n` rounds. -/
def fixSpec (m : FVec F S128x128 .f32) (cr : FVec F S128x1 .f32) (n : ℕ) (d : F .f32) (s : FVec F S128x1 .f32) :
    sWPT 𝕄 (BitVec 32 × F .f32 × FVec F S128x1 .f32) := do
  let r ← sWPT.arbitrary
  sWPT.assume (r.2.2 = fix m cr n d s)
  pure r

theorem fixSpec_apply (m : FVec F S128x128 .f32) (cr : FVec F S128x1 .f32) (n : ℕ) (d : F .f32) (s : FVec F S128x1 .f32)
    (K : BitVec 32 × F .f32 × FVec F S128x1 .f32 → sProp 𝕄) :
    fixSpec m cr n d s K = iprop(∀ r : BitVec 32 × F .f32 × FVec F S128x1 .f32, ⌜r.2.2 = fix m cr n d s⌝ -∗ K r) := rfl

theorem t_lt : ∀ t < 130, Scalar.cmpi .slt (BitVec.ofNat 32 t) 130#32 = 1#1 := by decide +kernel
theorem t_self : Scalar.cmpi .slt (BitVec.ofNat 32 130) 130#32 = 0#1 := by decide
theorem t_succ : ∀ t < 130, Scalar.addi (BitVec.ofNat 32 t) 1#32 = BitVec.ofNat 32 (t + 1) := by decide +kernel
theorem and_one (x : BitVec 1) : Scalar.andi x 1#1 = x := by revert x; decide
theorem and_zero (x : BitVec 1) : Scalar.andi x 0#1 = 0#1 := by revert x; decide
theorem one_and (x : BitVec 1) : Scalar.andi 1#1 x = x := by revert x; decide
theorem zero_and (x : BitVec 1) : Scalar.andi 0#1 x = 0#1 := by revert x; decide

/-- The specification with `n` rounds left is met by the loop entered at round `130 - n`. -/
theorem fixSpec_le (m : FVec F S128x128 .f32) (cr : FVec F S128x1 .f32) (k : BitVec 32) (h : k0_chk1 k) :
    ∀ n t, t + n = 130 → ∀ (d : F .f32) (s : FVec F S128x1 .f32) (K : BitVec 32 × F .f32 × FVec F S128x1 .f32 → sProp 𝕄),
      fixSpec m cr n d s K
        ⊢ wp frame (wpE (defs₀ (F := F)) 𝒱₀ (c : Thread nD τ) (some n)) Set.univ
            (defs₀ (F := F) .tc 2 ⟨k, h, m, cr, BitVec.ofNat 32 t, d, s⟩) K := by
  intro n
  induction n with
  | zero =>
    intro t ht d s K
    obtain rfl : t = 130 := by omega
    rw [fixSpec_apply]
    show _ ⊢ wp frame (wpE (defs₀ (F := F)) 𝒱₀ (c : Thread nD τ) (some 0)) Set.univ (cc0_while2 k h m cr (BitVec.ofNat 32 130) d s) K
    simp only [cc0_while2_eq_skeleton]; unfold cc0_while2_skel
    simp only [t_self, and_zero, show ¬ (0#1 : BitVec 1) = 1#1 from by decide, ↓reduceIte, Prog.pure_eq_ret]
    iintro Hk
    rw [wp_ret]; imodintro
    iapply Hk; ipureintro; rfl
  | succ n ih =>
    intro t ht d s K
    rw [fixSpec_apply]
    show _ ⊢ wp frame (wpE (defs₀ (F := F)) 𝒱₀ (c : Thread nD τ) (some (n + 1))) Set.univ (cc0_while2 k h m cr (BitVec.ofNat 32 t) d s) K
    simp only [cc0_while2_eq_skeleton]; unfold cc0_while2_skel
    simp only [t_lt t (by omega), and_one]
    by_cases hd : Scalar.cmpf .ogt d (Scalar.ofBits .f32 0x3F000000#32) = 1#1
    · simp only [hd, ↓reduceIte, Prog.lift, Prog.bind_op, Prog.bind_ret, Prog.pure_eq_ret, t_succ t (by omega)]
      iintro Hk
      iapply (wp_call_spec 𝒱₀ (c : Thread nD τ) (some (n + 1)) Set.univ (fixSpec m cr n (k0_pay6 m cr s) (k0_pay5 m cr s)) n
        (fun u hu => by cases hu; exact Nat.lt_succ_self n) (ih (t + 1) (by omega) _ _))
      rw [fixSpec_apply]
      iintro %r %hr
      rw [wp_ret]; imodintro
      iapply Hk; ipureintro
      rw [hr, fix, if_pos hd]
    · simp only [hd, ↓reduceIte, Prog.pure_eq_ret]
      iintro Hk
      rw [wp_ret]; imodintro
      iapply Hk; ipureintro
      rw [fix, if_neg hd]

end Fix

section Block

variable (B : Boxes F) (al : Vec F S48x128 .f32) (k : BitVec 32) (h : k0_chk1 k) (kept : F .f32) (bd : Option ℕ)

/-- The loop over the earlier blocks, its carry described by `cross`. -/
@[instance_reducible] def crossLoop (v21 v20 : IVec S128x128 32) :
    LoopInv (frame : Set ℕ → sProp 𝕄) (wpE (defs₀ (F := F)) 𝒱₀ (c : Thread nD τ) bd) Set.univ (k0_t1_loop k).lb (k0_t1_loop k).ub (k0_t1_loop k).st
      (k0_t1_ok k h) (k0_pay14 (F := F))
      (k0_t1_body b0 (Memref.isWhole_whole _) b1 (Memref.isWhole_whole _) b2 (Memref.isWhole_whole _) b3 (Memref.isWhole_whole _)
        ba (Memref.isWhole_whole _) bl (Memref.isWhole_whole _) v21 v20 bs (Memref.isWhole_whole _) k kept h
        (row b0 (rK k h) B.x1) (row b1 (rK k h) B.y1) (row b2 (rK k h) B.x2) (row b3 (rK k h) B.y2) (row ba (rK k h) B.ar)) where
  inv n acc := iprop(heldIn c B al ∗ ⌜acc = cross B al k h n⌝)
  step t acc := by
    iintro ⟨H, %ha⟩
    subst ha
    iapply (wp_trip c B al k h kept bd v21 v20 t (cross B al k h t.val))
    isplitl [H]; · iexact H
    iintro H
    isplitl [H]; · iexact H
    ipureintro
    rw [cross, dif_pos t.isLt]

theorem crossLoop_start (v21 v20 : IVec S128x128 32) :
    heldIn c B al ⊢ (crossLoop c B al k h kept bd v21 v20).inv 0 (k0_pay14 (F := F)) := by
  show _ ⊢ iprop(heldIn c B al ∗ ⌜_⌝)
  iintro H
  isplitl [H]; · iexact H
  ipureintro; rfl

theorem crossLoop_inv (v21 v20 : IVec S128x128 32) (n : ℕ) (acc : FVec F S128x1 .f32) :
    (crossLoop c B al k h kept bd v21 v20).inv n acc ⊢ iprop(heldIn c B al ∗ ⌜acc = cross B al k h n⌝) := .rfl

/-- The first half of a block: its rows as they are read, and the overlaps with the earlier blocks. -/
theorem wp_part3 (v21 v20 : IVec S128x128 32)
    (K : (Σ' (k0_hw1 : k0_chk1 k) (v28 : FVec F S128x128 .f32) (v34 : FVec F S128x128 .f32) (v40 : FVec F S128x128 .f32) (v46 : FVec F S128x128 .f32) (v51 : FVec F S128x128 .f32) (v59 : FVec F S128x1 .f32) (v62 : FVec F S1x128 .f32) (v65 : FVec F S1x128 .f32), FVec F S1x128 .f32) → sProp 𝕄) :
    iprop(heldIn c B al ∗ (heldIn c B al -∗ K ⟨h, k0_pay9 (row b0 (rK k h) B.x1), k0_pay10 (row b1 (rK k h) B.y1), k0_pay11 (row b2 (rK k h) B.x2),
        k0_pay12 (row b3 (rK k h) B.y2), k0_pay13 (row ba (rK k h) B.ar), cross B al k h (k0_t1_loop k).trips,
        k0_pay17 (row b0 (rK k h) B.x1), k0_pay18 (row b1 (rK k h) B.y1), k0_pay19 (row b2 (rK k h) B.x2)⟩))
      ⊢ wp frame (wpE (defs₀ (F := F)) 𝒱₀ (c : Thread nD τ) bd) Set.univ
          (k0_part3 b0 (Memref.isWhole_whole _) b1 (Memref.isWhole_whole _) b2 (Memref.isWhole_whole _) b3 (Memref.isWhole_whole _)
            ba (Memref.isWhole_whole _) bl (Memref.isWhole_whole _) v21 v20 bs (Memref.isWhole_whole _) k kept) K := by
  simp only [k0_part3_eq_skeleton]; unfold k0_part3_skel
  have hrem : ∀ (ok) (s : FVec F S128x1 .f32) (f), Scf.Loop.for (E := TpuEff nD τ sig (Elt F) (Λ₀ F) .tc) (k0_t2_loop k) ok s f = .ret s :=
    fun ok s f => Scf.for_rem_eq _ _ _ _ _
  simp only [hrem, Prog.lift, Prog.bind_op, Prog.bind_ret, Prog.pure_eq_ret]
  iintro ⟨H, Hk⟩
  iapply (wp_assume 𝒱₀ (c : Thread nD τ) bd Set.univ h)
  unfold heldIn
  icases H with ⟨H0, H1, H2, H3, Ha, Hl⟩
  iapply (wp_load 𝒱₀ (c : Thread nD τ) bd Set.univ (m := b0) (Finset.subset_univ _)) $$ H0; iintro H0
  iapply (wp_load 𝒱₀ (c : Thread nD τ) bd Set.univ (m := b1) (Finset.subset_univ _)) $$ H1; iintro H1
  iapply (wp_load 𝒱₀ (c : Thread nD τ) bd Set.univ (m := b2) (Finset.subset_univ _)) $$ H2; iintro H2
  iapply (wp_load 𝒱₀ (c : Thread nD τ) bd Set.univ (m := b3) (Finset.subset_univ _)) $$ H3; iintro H3
  iapply (wp_load 𝒱₀ (c : Thread nD τ) bd Set.univ (m := ba) (Finset.subset_univ _)) $$ Ha; iintro Ha
  ihave H : heldIn c B al $$ [H0 H1 H2 H3 Ha Hl]
  · unfold heldIn
    isplitl [H0]; · iexact H0
    isplitl [H1]; · iexact H1
    isplitl [H2]; · iexact H2
    isplitl [H3]; · iexact H3
    isplitl [Ha]; · iexact Ha
    iexact Hl
  iapply ((crossLoop_start c B al k h kept bd v21 v20).trans
    (exec_loop frame (wpE (defs₀ (F := F)) 𝒱₀ (c : Thread nD τ) bd) Set.univ _ _ _ _ _ _ (crossLoop c B al k h kept bd v21 v20))) $$ H
  iintro %acc HI
  ihave HI := (crossLoop_inv c B al k h kept bd v21 v20 _ acc) $$ HI
  icases HI with ⟨H, %ha⟩
  unfold heldIn
  icases H with ⟨H0, H1, H2, H3, Ha, Hl⟩
  subst ha
  iapply (wp_load 𝒱₀ (c : Thread nD τ) bd Set.univ (m := b0) (Finset.subset_univ _)) $$ H0; iintro H0
  iapply (wp_load 𝒱₀ (c : Thread nD τ) bd Set.univ (m := b1) (Finset.subset_univ _)) $$ H1; iintro H1
  iapply (wp_load 𝒱₀ (c : Thread nD τ) bd Set.univ (m := b2) (Finset.subset_univ _)) $$ H2; iintro H2
  rw [wp_ret]; imodintro
  iapply Hk
  isplitl [H0]; · iexact H0
  isplitl [H1]; · iexact H1
  isplitl [H2]; · iexact H2
  isplitl [H3]; · iexact H3
  isplitl [Ha]; · iexact Ha
  iexact Hl

/-- The second half of a block: its column, written as the result's row. -/
theorem wp_part4 (u : ℕ) (hu : 130 < u) (su : Vec F S48x128 .f32)
    (K : (Σ' (v71 : FVec F S1x128 .f32) (v108 : FVec F S1x128 .f32), FVec F S1x128 .f32) → sProp 𝕄) :
    iprop(heldIn c B al ∗ heldS c su ∗ (heldIn c B al -∗ heldS c (setS k h su (k0_pay22 (col B al k h)))
        -∗ K ⟨k0_pay20 (row b3 (rK k h) B.y2), k0_pay22 (col B al k h), k0_pay23 (col B al k h)⟩))
      ⊢ wp frame (wpE (defs₀ (F := F)) 𝒱₀ (c : Thread nD τ) (some u)) Set.univ
          (k0_part4 b0 (Memref.isWhole_whole _) b1 (Memref.isWhole_whole _) b2 (Memref.isWhole_whole _) b3 (Memref.isWhole_whole _)
            ba (Memref.isWhole_whole _) bl (Memref.isWhole_whole _)
            (iota .tc S128x128 32 [0] iota_S128x128_d0_w32) (iota .tc S128x128 32 [1] iota_S128x128_d1_w32)
            bs (Memref.isWhole_whole _) k kept h
            (k0_pay9 (row b0 (rK k h) B.x1)) (k0_pay10 (row b1 (rK k h) B.y1)) (k0_pay11 (row b2 (rK k h) B.x2))
            (k0_pay12 (row b3 (rK k h) B.y2)) (k0_pay13 (row ba (rK k h) B.ar)) (cross B al k h (k0_t1_loop k).trips)
            (k0_pay17 (row b0 (rK k h) B.x1)) (k0_pay18 (row b1 (rK k h) B.y1)) (k0_pay19 (row b2 (rK k h) B.x2))) K := by
  simp only [k0_part4_eq_skeleton]; unfold k0_part4_skel
  simp only [Prog.lift, Prog.bind_op, Prog.bind_ret, Prog.pure_eq_ret]
  unfold heldIn heldS
  iintro ⟨⟨H0, H1, H2, H3, Ha, Hl⟩, Hs, Hk⟩
  iapply (wp_load 𝒱₀ (c : Thread nD τ) (some u) Set.univ (m := b3) (Finset.subset_univ _)) $$ H3; iintro H3
  iapply (wp_load 𝒱₀ (c : Thread nD τ) (some u) Set.univ (m := ba) (Finset.subset_univ _)) $$ Ha; iintro Ha
  iapply (wp_call_spec 𝒱₀ (c : Thread nD τ) (some u) Set.univ
    (fixSpec (own B k h) (cross B al k h (k0_t1_loop k).trips) 130 (Scalar.ofBits .f32 0x3F800000#32) (cross B al k h (k0_t1_loop k).trips)) 130
    (fun w hw => by cases hw; exact hu) (fixSpec_le c (own B k h) _ k h 130 0 rfl _ _))
  rw [fixSpec_apply]
  iintro %r %hr
  have hr' : r.2.2 = col B al k h := hr
  rw [hr']
  iapply (wp_load 𝒱₀ (c : Thread nD τ) (some u) Set.univ (m := bs) (Finset.subset_univ _)) $$ Hs; iintro Hs
  iapply (wp_store 𝒱₀ (c : Thread nD τ) (some u) Set.univ (m := bs) (r := rK k h) (Mk := Finset.univ) (Finset.subset_univ _)) $$ Hs; iintro Hs
  rw [wp_ret]; imodintro
  iapply Hk $$ [H0 H1 H2 H3 Ha Hl] [Hs]
  · isplitl [H0]; · iexact H0
    isplitl [H1]; · iexact H1
    isplitl [H2]; · iexact H2
    isplitl [H3]; · iexact H3
    isplitl [Ha]; · iexact Ha
    iexact Hl
  · iexact Hs

end Block

section Blocks

/-- The specification of the loop over the blocks: the result's buffer comes back at `blocks`, the rows alive at something. -/
def blocksSpec (B : Boxes F) (n k : ℕ) (kept : F .f32) (su al : Vec F S48x128 .f32) : sWPT 𝕄 (BitVec 32 × F .f32) := do
  sWPT.consume iprop(heldIn c B al ∗ heldS c su)
  let r ← sWPT.arbitrary
  let al' ← sWPT.arbitrary
  sWPT.produce iprop(heldIn c B al' ∗ heldS c (blocks B n k kept su al))
  pure r

theorem blocksSpec_apply (B : Boxes F) (n k : ℕ) (kept : F .f32) (su al : Vec F S48x128 .f32) (K : BitVec 32 × F .f32 → sProp 𝕄) :
    blocksSpec c B n k kept su al K = iprop((heldIn c B al ∗ heldS c su) ∗
      (∀ r : BitVec 32 × F .f32, ∀ al' : Vec F S48x128 .f32, (heldIn c B al' ∗ heldS c (blocks B n k kept su al)) -∗ K r)) := rfl

theorem k_lt : ∀ k < 48, Scalar.cmpi .slt (BitVec.ofNat 32 k) 48#32 = 1#1 := by decide +kernel
theorem k_self : Scalar.cmpi .slt (BitVec.ofNat 32 48) 48#32 = 0#1 := by decide
theorem k_succ : ∀ k < 48, Scalar.addi (BitVec.ofNat 32 k) 1#32 = BitVec.ofNat 32 (k + 1) := by decide +kernel

/-- The record that the loop over the blocks is called with. -/
abbrev blocksArg (k : BitVec 32) (kept : F .f32) : Cc0While1 F :=
  ⟨b0, Memref.isWhole_whole _, b1, Memref.isWhole_whole _, b2, Memref.isWhole_whole _, b3, Memref.isWhole_whole _,
    ba, Memref.isWhole_whole _, bl, Memref.isWhole_whole _,
    iota .tc S128x128 32 [0] iota_S128x128_d0_w32, iota .tc S128x128 32 [1] iota_S128x128_d1_w32, bs, Memref.isWhole_whole _, k, kept⟩

theorem blocksSpec_le (B : Boxes F) :
    ∀ n k, k + n = 48 → ∀ (kept : F .f32) (su al : Vec F S48x128 .f32) (K : BitVec 32 × F .f32 → sProp 𝕄),
      blocksSpec c B n k kept su al K
        ⊢ wp frame (wpE (defs₀ (F := F)) 𝒱₀ (c : Thread nD τ) (some (200 + n))) Set.univ
            (defs₀ (F := F) .tc 1 (blocksArg (BitVec.ofNat 32 k) kept)) K := by
  intro n
  induction n with
  | zero =>
    intro k hk kept su al K
    obtain rfl : k = 48 := by omega
    rw [blocksSpec_apply]
    show _ ⊢ wp frame (wpE (defs₀ (F := F)) 𝒱₀ (c : Thread nD τ) (some 200)) Set.univ (cc0_while1 b0 (Memref.isWhole_whole _) b1 (Memref.isWhole_whole _)
      b2 (Memref.isWhole_whole _) b3 (Memref.isWhole_whole _) ba (Memref.isWhole_whole _) bl (Memref.isWhole_whole _)
      (iota .tc S128x128 32 [0] iota_S128x128_d0_w32) (iota .tc S128x128 32 [1] iota_S128x128_d1_w32) bs (Memref.isWhole_whole _)
      (BitVec.ofNat 32 48) kept) K
    simp only [cc0_while1_eq_skeleton]; unfold cc0_while1_skel
    simp only [k_self, zero_and, show ¬ (0#1 : BitVec 1) = 1#1 from by decide, ↓reduceIte, Prog.pure_eq_ret]
    rw [show blocks B 0 48 kept su al = su from rfl]
    iintro ⟨H, Hk⟩
    rw [wp_ret]; imodintro
    iapply Hk $$ %(BitVec.ofNat 32 48, kept) %al H
  | succ n ih =>
    intro k hk kept su al K
    have hk48 : k < 48 := by omega
    rw [blocksSpec_apply]
    show _ ⊢ wp frame (wpE (defs₀ (F := F)) 𝒱₀ (c : Thread nD τ) (some (200 + (n + 1)))) Set.univ (cc0_while1 b0 (Memref.isWhole_whole _) b1 (Memref.isWhole_whole _)
      b2 (Memref.isWhole_whole _) b3 (Memref.isWhole_whole _) ba (Memref.isWhole_whole _) bl (Memref.isWhole_whole _)
      (iota .tc S128x128 32 [0] iota_S128x128_d0_w32) (iota .tc S128x128 32 [1] iota_S128x128_d1_w32) bs (Memref.isWhole_whole _)
      (BitVec.ofNat 32 k) kept) K
    simp only [cc0_while1_eq_skeleton]; unfold cc0_while1_skel
    simp only [k_lt k hk48, one_and]
    by_cases hd : Scalar.cmpf .olt kept (Scalar.ofBits .f32 0x43960000#32) = 1#1
    · simp only [hd, ↓reduceIte, Prog.lift, Prog.bind_op, Prog.bind_ret, Prog.pure_eq_ret, k_succ k hk48, wp_bind]
      have hb : blocks B (n + 1) k kept su al = blocks B n (k + 1)
          (count B (BitVec.ofNat 32 k) (chk_of_lt k hk48) kept (col B al (BitVec.ofNat 32 k) (chk_of_lt k hk48)))
          (setS (BitVec.ofNat 32 k) (chk_of_lt k hk48) su (k0_pay22 (col B al (BitVec.ofNat 32 k) (chk_of_lt k hk48))))
          (setL (BitVec.ofNat 32 k) (chk_of_lt k hk48) al (k0_pay3 (k0_pay23 (col B al (BitVec.ofNat 32 k) (chk_of_lt k hk48))))) := by
        rw [blocks, dif_pos hk48, if_pos hd]
      rw [hb]
      iintro ⟨⟨H, Hs⟩, Hk⟩
      iapply (wp_part3 c B al (BitVec.ofNat 32 k) (chk_of_lt k hk48) kept (some (200 + (n + 1))) _ _ _)
      isplitl [H]; · iexact H
      iintro H
      iapply (wp_part4 c B al (BitVec.ofNat 32 k) (chk_of_lt k hk48) kept (200 + (n + 1)) (by omega) su _)
      isplitl [H]; · iexact H
      isplitl [Hs]; · iexact Hs
      iintro H
      iintro Hs
      unfold heldIn
      icases H with ⟨H0, H1, H2, H3, Ha, Hl⟩
      iapply (wp_load 𝒱₀ (c : Thread nD τ) (some (200 + (n + 1))) Set.univ (m := bl) (Finset.subset_univ _)) $$ Hl; iintro Hl
      iapply (wp_store 𝒱₀ (c : Thread nD τ) (some (200 + (n + 1))) Set.univ (m := bl) (r := rK (BitVec.ofNat 32 k) (chk_of_lt k hk48))
        (Mk := Finset.univ) (Finset.subset_univ _)) $$ Hl; iintro Hl
      iapply (wp_call_spec 𝒱₀ (c : Thread nD τ) (some (200 + (n + 1))) Set.univ (blocksSpec c B n (k + 1)
          (count B (BitVec.ofNat 32 k) (chk_of_lt k hk48) kept (col B al (BitVec.ofNat 32 k) (chk_of_lt k hk48)))
          (setS (BitVec.ofNat 32 k) (chk_of_lt k hk48) su (k0_pay22 (col B al (BitVec.ofNat 32 k) (chk_of_lt k hk48))))
          (setL (BitVec.ofNat 32 k) (chk_of_lt k hk48) al (k0_pay3 (k0_pay23 (col B al (BitVec.ofNat 32 k) (chk_of_lt k hk48)))))) (200 + n)
        (fun w hw => by cases hw; exact Nat.lt_succ_self (200 + n)) (ih (k + 1) (by omega) _ _ _))
      rw [blocksSpec_apply]
      unfold heldIn
      isplitl [H0 H1 H2 H3 Ha Hl Hs]
      · isplitl [H0 H1 H2 H3 Ha Hl]
        · isplitl [H0]; · iexact H0
          isplitl [H1]; · iexact H1
          isplitl [H2]; · iexact H2
          isplitl [H3]; · iexact H3
          isplitl [Ha]; · iexact Ha
          iexact Hl
        · iexact Hs
      iintro %r %al'
      iintro H
      rw [wp_ret]; imodintro
      iapply Hk $$ %r %al' H
    · simp only [hd, ↓reduceIte, Prog.pure_eq_ret]
      have hb : blocks B (n + 1) k kept su al = su := by rw [blocks, dif_pos hk48, if_neg hd]
      rw [hb]
      iintro ⟨H, Hk⟩
      rw [wp_ret]; imodintro
      iapply Hk $$ %(BitVec.ofNat 32 k, kept) %al H

end Blocks

section Whole

theorem off_zero : (![0, 0] : Fin 2 → ℕ) = fun _ => 0 := by funext a; fin_cases a <;> rfl

theorem load_b0 (x : Vec F S48x128 .f32) (inb) :
    b0.view.readAt (Elt F) (Rect.unit (s := S48x128) ![0, 0] S48x128.size inb).toLoadRect x = x := Memref.readAt_unit_zero _ _ off_zero _ _
theorem load_b1 (x : Vec F S48x128 .f32) (inb) :
    b1.view.readAt (Elt F) (Rect.unit (s := S48x128) ![0, 0] S48x128.size inb).toLoadRect x = x := Memref.readAt_unit_zero _ _ off_zero _ _
theorem load_b2 (x : Vec F S48x128 .f32) (inb) :
    b2.view.readAt (Elt F) (Rect.unit (s := S48x128) ![0, 0] S48x128.size inb).toLoadRect x = x := Memref.readAt_unit_zero _ _ off_zero _ _
theorem load_b3 (x : Vec F S48x128 .f32) (inb) :
    b3.view.readAt (Elt F) (Rect.unit (s := S48x128) ![0, 0] S48x128.size inb).toLoadRect x = x := Memref.readAt_unit_zero _ _ off_zero _ _
theorem store_ba (x w : Vec F S48x128 .f32) (inb) :
    (ba.access (Rect.unit (s := S48x128) ![0, 0] S48x128.size inb)).write (Elt F) x w Finset.univ = w :=
  Memref.write_access_unit_zero_univ _ _ off_zero _ _ _
theorem store_bs (x w : Vec F S48x128 .f32) (inb) :
    (bs.access (Rect.unit (s := S48x128) ![0, 0] S48x128.size inb)).write (Elt F) x w Finset.univ = w :=
  Memref.write_access_unit_zero_univ _ _ off_zero _ _ _

/-- The whole body, from any contents of the areas, the result and the rows alive. -/
theorem wp_body (x1 y1 x2 y2 ar su al : Vec F S48x128 .f32) (K : PUnit → sProp 𝕄) :
    iprop(heldIn c ⟨x1, y1, x2, y2, ar⟩ al ∗ heldS c su
        ∗ (∀ al', (heldIn c (boxes x1 y1 x2 y2) al' ∗ heldS c (result x1 y1 x2 y2 al)) -∗ K ⟨⟩))
      ⊢ wp frame (wpE (defs₀ (F := F)) 𝒱₀ (c : Thread nD τ) none) Set.univ
          (cc0__nms_body b0 (Memref.isWhole_whole _) b1 (Memref.isWhole_whole _) b2 (Memref.isWhole_whole _) b3 (Memref.isWhole_whole _)
            bs (Memref.isWhole_whole _) ba (Memref.isWhole_whole _) bl (Memref.isWhole_whole _)) K := by
  simp only [cc0__nms_body_eq_skeleton]; unfold cc0__nms_body_skel
  simp only [Prog.lift, Prog.bind_op, Prog.bind_ret, Prog.pure_eq_ret]
  unfold heldIn heldS
  iintro ⟨⟨H0, H1, H2, H3, Ha, Hl⟩, Hs, Hk⟩
  iapply (wp_load 𝒱₀ (c : Thread nD τ) none Set.univ (m := b2) (Finset.subset_univ _)) $$ H2; iintro H2
  iapply (wp_load 𝒱₀ (c : Thread nD τ) none Set.univ (m := b0) (Finset.subset_univ _)) $$ H0; iintro H0
  iapply (wp_load 𝒱₀ (c : Thread nD τ) none Set.univ (m := b3) (Finset.subset_univ _)) $$ H3; iintro H3
  iapply (wp_load 𝒱₀ (c : Thread nD τ) none Set.univ (m := b1) (Finset.subset_univ _)) $$ H1; iintro H1
  iapply (wp_load 𝒱₀ (c : Thread nD τ) none Set.univ (m := ba) (Finset.subset_univ _)) $$ Ha; iintro Ha
  iapply (wp_store 𝒱₀ (c : Thread nD τ) none Set.univ (m := ba) (r := Rect.unit (s := S48x128) ![0, 0] S48x128.size inb_S48x128_S48x128_0_0)
    (Mk := Finset.univ) (Finset.subset_univ _)) $$ Ha; iintro Ha
  iapply (wp_load 𝒱₀ (c : Thread nD τ) none Set.univ (m := bs) (Finset.subset_univ _)) $$ Hs; iintro Hs
  iapply (wp_store 𝒱₀ (c : Thread nD τ) none Set.univ (m := bs) (r := Rect.unit (s := S48x128) ![0, 0] S48x128.size inb_S48x128_S48x128_0_0)
    (Mk := Finset.univ) (Finset.subset_univ _)) $$ Hs; iintro Hs
  rw [load_b0, load_b1, load_b2, load_b3, store_ba, store_bs]
  iapply (wp_call_spec 𝒱₀ (c : Thread nD τ) none Set.univ
    (blocksSpec c (boxes x1 y1 x2 y2) 48 0 (Scalar.ofBits .f32 0x00000000#32) (k0_pay2 (F := F)) al) 248
    (fun w hw => by cases hw) (blocksSpec_le c (boxes x1 y1 x2 y2) 48 0 rfl _ _ _))
  rw [blocksSpec_apply]
  unfold heldIn heldS
  isplitl [H0 H1 H2 H3 Ha Hl Hs]
  · isplitl [H0 H1 H2 H3 Ha Hl]
    · isplitl [H0]; · iexact H0
      isplitl [H1]; · iexact H1
      isplitl [H2]; · iexact H2
      isplitl [H3]; · iexact H3
      isplitl [Ha]; · iexact Ha
      iexact Hl
    · iexact Hs
  iintro %r %al'
  iintro H
  rw [wp_ret]; imodintro
  ihave Hk := Hk $$ %al'
  rw [show blocks (boxes x1 y1 x2 y2) 48 0 (Scalar.ofBits .f32 0x00000000#32) (k0_pay2 (F := F)) al = result x1 y1 x2 y2 al from rfl]
  iapply Hk $$ H

end Whole

end Cert.Proof.Nms

end
-- ==== Proof.Nms.Run.lean ====
/-
  The suppression's call, launched: the host's lines before it, the body's triple at the grid's one point, the host's lines
  after it. It ends with every semaphore at zero, the argument arrays as they were, and the result's array at what
  `Model.lean` computes.
-/
module

public import proofs.«01_k».proof.Proof.Nms.Body
public import proofs.«01_k».proof.Proof.Nms.Rows
public import proofs.«01_k».proof.Proof.Gen.SelectIdeal.Points
public import Idealize.ShloMosaic.Lib.Claim
public import Idealize.ShloMosaic.Lib.Pipeline.ValueKit

@[expose] public section

set_option maxRecDepth 16384

noncomputable section

namespace Cert.Proof.Nms

open Cert.SelectIdeal Cert.SelectIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the buffers hold when the call is entered, -/
abbrev V0 (c : Dev nD) : Valuation τ sig (Elt F) := StableHlo.after (List.flatten [hostOps0]) (fun b => m (c, b))
/-- read at a buffer's name. -/
abbrev V (c : Dev nD) (b : Ref sig .tc) : Buf (Elt F) ((c : Thread nD τ).loc b) := V0 m c (Proc.devRef .tc b)

theorem ops0_fresh : (hostOps0 : List (HloOp τ sig (Elt F))).Forall fun op => op.fresh = ∅ := by
  simp only [List.Forall]; repeat' constructor
theorem ops1_fresh : (hostOps1 : List (HloOp τ sig (Elt F))).Forall fun op => op.fresh = ∅ := by
  simp only [List.Forall]; repeat' constructor
theorem ops1_1_fresh : (hostOps1_1 : List (HloOp τ sig (Elt F))).Forall fun op => op.fresh = ∅ := by
  simp only [List.Forall]; repeat' constructor
theorem ops1_2_fresh : (hostOps1_2 : List (HloOp τ sig (Elt F))).Forall fun op => op.fresh = ∅ := by
  simp only [List.Forall]; repeat' constructor

/-- The lines after the call. -/
abbrev tail : List (List (HloOp τ sig (Elt F))) := [hostOps1, hostOps1_1, hostOps1_2]

set_option maxHeartbeats 800000 in
theorem hmain (𝒱 : Variants) : Pipeline.HMainK (Ix := Unit) (Name := ℕ) (U := UR sig nD τ) (Lvl := ℕ) (cfgs (F := F)) (0 : Fin 1) defs₀ 𝒱 m (main (F := F)) (V m)
      (fun _ => Pipeline.chain (tail.map StableHlo.seq)) :=
  Pipeline.hmain_around (cfgs (F := F)) (0 : Fin 1) defs₀ 𝒱 m main [hostOps0] tail (by simp only [List.Forall]; exact hostOps0_sub)
    (by simp only [List.Forall]; exact ops0_fresh) main_chain

theorem tail_sub : ∀ ops ∈ (tail : List (List (HloOp τ sig (Elt F)))), ∀ op ∈ ops,
    op.bufs ⊆ Pipeline.tailRefs sig Pipeline.Prefetch.none spec0 := by
  rw [Pipeline.tailRefs_none spec0 (launch0 (F := F)).win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

theorem tail_fresh : ∀ ops ∈ (tail : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp ops1_fresh) op hop
  · exact (List.forall_iff_forall_mem.mp ops1_1_fresh) op hop
  · exact (List.forall_iff_forall_mem.mp ops1_2_fresh) op hop

/-- The buffers that no line after the call writes: the call's five arrays and the five arguments. -/
abbrev stays : List (Ref sig .tc) := [main_v30, main_v33, main_v36, main_v39, main_v40, main_arg0, main_arg1, main_arg2, main_arg3, main_arg4]

set_option maxHeartbeats 1600000 in
theorem tail_keeps (b : Ref sig .tc) (hb : b ∈ stays) :
    (List.flatten (tail : List (List (HloOp τ sig (Elt F))))).Forall fun op => Proc.devRef .tc b ∉ op.writes := by
  simp only [tail, hostOps1, hostOps1_1, hostOps1_2, List.flatten_cons, List.flatten_nil, List.append_nil, List.cons_append,
    List.nil_append, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by revert b; decide)

theorem pre_keeps (b : Ref sig .tc) (hb : b ∈ [main_arg0, main_arg1, main_arg2, main_arg3, main_arg4]) :
    (List.flatten [(hostOps0 : List (HloOp τ sig (Elt F)))]).Forall fun op => Proc.devRef .tc b ∉ op.writes := by
  simp only [hostOps0, List.flatten_cons, List.flatten_nil, List.append_nil, List.cons_append,
    List.nil_append, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by revert b; decide)

theorem arr_kept : ∀ w, Pipeline.arrRef spec0 w ∈ stays := by decide

/-- No array of the call is an argument. -/
theorem arg_ne : ∀ b ∈ ([main_arg0, main_arg1, main_arg2, main_arg3, main_arg4] : List (Ref sig .tc)), ∀ w : Fin 5,
    Pipeline.arrRef spec0 w ≠ b := by decide

theorem tail_keeps_arr : ∀ ops ∈ (tail : List (List (HloOp τ sig (Elt F)))), ∀ op ∈ ops,
    ∀ w, Proc.devRef .tc (Pipeline.arrRef spec0 w) ∉ op.writes := by
  intro ops hops op hop w
  exact (List.forall_iff_forall_mem.mp (tail_keeps _ (arr_kept w))) op (List.mem_flatten.mpr ⟨ops, hops, hop⟩)

/-- An argument array ends as it was. -/
theorem W_arg (dats : (p : Fin _) → (c : Dev nD) → Dat τ (Elt F) Unit ℕ (UR sig nD τ) ℕ (cfgs (F := F) p) c) (c : Dev nD)
    (b : Ref sig .tc) (hb : b ∈ [main_arg0, main_arg1, main_arg2, main_arg3, main_arg4]) (hk : b ∈ stays)
    (hne : ∀ w, Pipeline.arrRef spec0 w ≠ b) :
    Pipeline.afterTail₀ (cfgs (F := F)) dats 0 (V0 m) tail c b = m ((c : Thread nD τ).loc b) := by
  unfold Pipeline.afterTail₀
  rw [StableHlo.after_of_forall_not_mem (b := Proc.devRef .tc b) _ _ (List.forall_iff_forall_mem.mp (tail_keeps b hk)),
    Pipeline.withArrays_of_ne _ c (V0 m c) _ b hne]
  exact StableHlo.after_of_forall_not_mem (b := Proc.devRef .tc b) _ _ (List.forall_iff_forall_mem.mp (pre_keeps b hb))

/-- The coordinates as the call finds them. -/
abbrev inX1 (c : Dev nD) : Vec F S48x128 .f32 := V m c main_v30
abbrev inY1 (c : Dev nD) : Vec F S48x128 .f32 := V m c main_v33
abbrev inX2 (c : Dev nD) : Vec F S48x128 .f32 := V m c main_v36
abbrev inY2 (c : Dev nD) : Vec F S48x128 .f32 := V m c main_v39

/-- What the call computes. -/
def out (c : Dev nD) : Vec F S48x128 .f32 := result (inX1 m c) (inY1 m c) (inX2 m c) (inY2 m c) (k0_pay2 (F := F))

/-- Window `w`'s block, read off its array as the call finds it. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The call's proof data: inputs stay at their blocks, the result's buffer ends at `out`. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out m c
  Φ _ := Pipeline.ΦA spec0 c
  q _ := fullShare
  owed _ := 0

theorem A_eq (c : Dev nD) (w : Fin (cfg0 (F := F)).W) : (dats m 0 c).A w = V m c (Pipeline.arrRef spec0 w) := by
  dsimp only [dats]

theorem after_0 (c : Dev nD) (t : Fin (cfg0 (F := F)).N) : (dats m 0 c).after 0 t = iblk m c 0 t := rfl
theorem after_1 (c : Dev nD) (t : Fin (cfg0 (F := F)).N) : (dats m 0 c).after 1 t = iblk m c 1 t := rfl
theorem after_2 (c : Dev nD) (t : Fin (cfg0 (F := F)).N) : (dats m 0 c).after 2 t = iblk m c 2 t := rfl
theorem after_3 (c : Dev nD) (t : Fin (cfg0 (F := F)).N) : (dats m 0 c).after 3 t = iblk m c 3 t := rfl
theorem after_4 (c : Dev nD) (t : Fin (cfg0 (F := F)).N) : (dats m 0 c).after 4 t = out m c := rfl

theorem before_0 (c : Dev nD) (t : Fin (cfg0 (F := F)).N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (cfg0 (F := F)).N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin (cfg0 (F := F)).N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin (cfg0 (F := F)).N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-- The call has one block, the whole array. -/
theorem index_whole : ∀ t : Fin grid0.N, (win0 0).index t = ![0, 0] ∧ (win0 1).index t = ![0, 0] ∧ (win0 2).index t = ![0, 0]
    ∧ (win0 3).index t = ![0, 0] ∧ (win0 4).index t = ![0, 0] := by decide +kernel

theorem iblk_0 (c : Dev nD) : (iblk m c 0 t0_0 : Vec F S48x128 .f32) = inX1 m c := by
  have e := (index_whole t0_0).1
  funext i
  blk_simp [iblk]
  blk_ext [e]
  · exact (congrArg (fun n => n * 48 + _) (congrFun e 0)).trans (by simp)
  · exact (congrArg (fun n => n * 128 + _) (congrFun e 1)).trans (by simp)
theorem iblk_1 (c : Dev nD) : (iblk m c 1 t0_0 : Vec F S48x128 .f32) = inY1 m c := by
  have e := (index_whole t0_0).2.1
  funext i
  blk_simp [iblk]
  blk_ext [e]
  · exact (congrArg (fun n => n * 48 + _) (congrFun e 0)).trans (by simp)
  · exact (congrArg (fun n => n * 128 + _) (congrFun e 1)).trans (by simp)
theorem iblk_2 (c : Dev nD) : (iblk m c 2 t0_0 : Vec F S48x128 .f32) = inX2 m c := by
  have e := (index_whole t0_0).2.2.1
  funext i
  blk_simp [iblk]
  blk_ext [e]
  · exact (congrArg (fun n => n * 48 + _) (congrFun e 0)).trans (by simp)
  · exact (congrArg (fun n => n * 128 + _) (congrFun e 1)).trans (by simp)
theorem iblk_3 (c : Dev nD) : (iblk m c 3 t0_0 : Vec F S48x128 .f32) = inY2 m c := by
  have e := (index_whole t0_0).2.2.2.1
  funext i
  blk_simp [iblk]
  blk_ext [e]
  · exact (congrArg (fun n => n * 48 + _) (congrFun e 0)).trans (by simp)
  · exact (congrArg (fun n => n * 128 + _) (congrFun e 1)).trans (by simp)

/-- A staging buffer held at contents `x`, as the pipeline says it and as the body's triple does. -/
theorem own0 (c : Dev nD) (x : Vec F S48x128 .f32) :
    (owns (c : Thread nD τ) b0 fullShare x : sProp 𝕄) = iprop(((c : Thread nD τ).loc cc0_stg0_0) ↦{fullShare} (x : Buf (Elt F) ((c : Thread nD τ).loc cc0_stg0_0))) :=
  owns_whole _ _ _ _
theorem own1 (c : Dev nD) (x : Vec F S48x128 .f32) :
    (owns (c : Thread nD τ) b1 fullShare x : sProp 𝕄) = iprop(((c : Thread nD τ).loc cc0_stg1_0) ↦{fullShare} (x : Buf (Elt F) ((c : Thread nD τ).loc cc0_stg1_0))) :=
  owns_whole _ _ _ _
theorem own2 (c : Dev nD) (x : Vec F S48x128 .f32) :
    (owns (c : Thread nD τ) b2 fullShare x : sProp 𝕄) = iprop(((c : Thread nD τ).loc cc0_stg2_0) ↦{fullShare} (x : Buf (Elt F) ((c : Thread nD τ).loc cc0_stg2_0))) :=
  owns_whole _ _ _ _
theorem own3 (c : Dev nD) (x : Vec F S48x128 .f32) :
    (owns (c : Thread nD τ) b3 fullShare x : sProp 𝕄) = iprop(((c : Thread nD τ).loc cc0_stg3_0) ↦{fullShare} (x : Buf (Elt F) ((c : Thread nD τ).loc cc0_stg3_0))) :=
  owns_whole _ _ _ _
theorem own4 (c : Dev nD) (x : Vec F S48x128 .f32) :
    (owns (c : Thread nD τ) bs fullShare x : sProp 𝕄) = iprop(((c : Thread nD τ).loc cc0_stg4_0) ↦{fullShare} (x : Buf (Elt F) ((c : Thread nD τ).loc cc0_stg4_0))) :=
  owns_whole _ _ _ _

theorem own4_out (c : Dev nD) (x : Vec F S48x128 .f32) : (owns (c : Thread nD τ) bs fullShare x : sProp 𝕄) ⊢ heldS c x := by
  rw [own4]; exact .rfl
theorem own4_in (c : Dev nD) (x : Vec F S48x128 .f32) : (heldS c x : sProp 𝕄) ⊢ owns (c : Thread nD τ) bs fullShare x := by
  rw [own4]; exact .rfl

/-- What the pipeline hands the body, -/
def bodyPre (c : Dev nD) : sProp 𝕄 :=
  iprop((dats m 0 c).Φ (t0_0 : Fin (cfg0 (F := F)).N).castSucc ∗ (dats m 0 c).owesAt () (t0_0 : Fin (cfg0 (F := F)).N).castSucc
    ∗ (∃ d, owns (c : Thread nD τ) b0 fullShare ((dats m 0 c).before 0 t0_0 d))
    ∗ (∃ d, owns (c : Thread nD τ) b1 fullShare ((dats m 0 c).before 1 t0_0 d))
    ∗ (∃ d, owns (c : Thread nD τ) b2 fullShare ((dats m 0 c).before 2 t0_0 d))
    ∗ (∃ d, owns (c : Thread nD τ) b3 fullShare ((dats m 0 c).before 3 t0_0 d))
    ∗ (∃ d, owns (c : Thread nD τ) bs fullShare ((dats m 0 c).before 4 t0_0 d)))

/-- and what it takes back. -/
def bodyPost (c : Dev nD) : sProp 𝕄 :=
  iprop((dats m 0 c).Φ (t0_0 : Fin (cfg0 (F := F)).N).succ ∗ (dats m 0 c).owesAt () (t0_0 : Fin (cfg0 (F := F)).N).succ
    ∗ owns (c : Thread nD τ) b0 fullShare ((dats m 0 c).after 0 t0_0)
    ∗ owns (c : Thread nD τ) b1 fullShare ((dats m 0 c).after 1 t0_0)
    ∗ owns (c : Thread nD τ) b2 fullShare ((dats m 0 c).after 2 t0_0)
    ∗ owns (c : Thread nD τ) b3 fullShare ((dats m 0 c).after 3 t0_0)
    ∗ owns (c : Thread nD τ) bs fullShare ((dats m 0 c).after 4 t0_0))

set_option maxHeartbeats 1600000 in
theorem sound_body (c : Dev nD) :
    bodyPre m c ⊢ wp frame (wpE (defs₀ (F := F)) 𝒱₀ (c : Thread nD τ) none) Set.univ (bodyAt0 t0_0) (fun _ => bodyPost m c) := by
  unfold bodyPre bodyPost
  simp only [before_0, before_1, before_2, before_3]
  rw [show (dats m 0 c).Φ (t0_0 : Fin (cfg0 (F := F)).N).castSucc = iprop(Pipeline.scopedRest spec0 c ∗ ∃ r, prngReg c r) from rfl,
    show (dats m 0 c).Φ (t0_0 : Fin (cfg0 (F := F)).N).succ = iprop(Pipeline.scopedRest spec0 c ∗ ∃ r, prngReg c r) from rfl,
    show (dats m 0 c).owesAt () (t0_0 : Fin (cfg0 (F := F)).N).succ = (dats m 0 c).owesAt () (t0_0 : Fin (cfg0 (F := F)).N).castSucc from rfl,
    after_0, after_1, after_2, after_3, after_4, scopedRest0_eq, iblk_0, iblk_1, iblk_2, iblk_3,
    show (bodyAt0 t0_0 : Prog (TpuEff nD τ sig (Elt F) (Λ₀ F) .tc) PUnit) = cc0__nms_body b0 (Memref.isWhole_whole _) b1 (Memref.isWhole_whole _) b2 (Memref.isWhole_whole _)
      b3 (Memref.isWhole_whole _) bs (Memref.isWhole_whole _) ba (Memref.isWhole_whole _) bl (Memref.isWhole_whole _) from rfl]
  iintro ⟨⟨⟨⟨%ar, Ha⟩, ⟨%al, Hl⟩⟩, Hr⟩, Ho, ⟨%d0, H0⟩, ⟨%d1, H1⟩, ⟨%d2, H2⟩, ⟨%d3, H3⟩, ⟨%d4, H4⟩⟩
  iapply (wp_body c (inX1 m c) (inY1 m c) (inX2 m c) (inY2 m c) ar ((dats m 0 c).before 4 t0_0 d4) al _)
  unfold heldIn
  simp only [own0, own1, own2, own3]
  isplitl [H0 H1 H2 H3 Ha Hl]
  · isplitl [H0]; · iexact H0
    isplitl [H1]; · iexact H1
    isplitl [H2]; · iexact H2
    isplitl [H3]; · iexact H3
    isplitl [Ha]; · iexact Ha
    iexact Hl
  isplitl [H4]; · iapply (own4_out c _); iexact H4
  iintro %al' ⟨⟨H0, H1, H2, H3, Ha, Hl⟩, H4⟩
  isplitl [Ha Hl Hr]
  · isplitl [Ha Hl]
    · isplitl [Ha]
      · iexists _; iexact Ha
      · iexists _; iexact Hl
    · iexact Hr
  isplitl [Ho]; · iexact Ho
  isplitl [H0]; · iexact H0
  isplitl [H1]; · iexact H1
  isplitl [H2]; · iexact H2
  isplitl [H3]; · iexact H3
  rw [show out m c = result (inX1 m c) (inY1 m c) (inX2 m c) (inY2 m c) al from result_congr _ _ _ _ _ _]
  iapply (own4_in c _); iexact H4

/-- The body table's row is the body. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) 𝒱₀ () Set.univ := fun t => by
  obtain rfl : t = t0_0 := fin_N0 t
  rw [bigSep_W0, bigSep_W0, defs₀_row]
  exact triple_restated (sound_body m c) rfl .rfl fun _ => .rfl

set_option backward.isDefEq.respectTransparency.types false in
set_option maxHeartbeats 1600000 in
/-- The launch: every array of the call ends at what the proof data say, every other buffer as the lines after the call leave
    it, and every counter at zero. -/
theorem run_quiescent : θ_run defs (onTc (τ := τ) (main (F := F))) (s₀ m ρ)
    (fun r => (Pipeline.FramePost (cfgs (F := F)) (dats m) 0 (Pipeline.afterTail₀ (cfgs (F := F)) (dats m) 0 (V0 m) tail)) r ∧ r.2.sem = fun _ => 0) :=
  Pipeline.θ_run_frame_around (Q' := _) (cfgs (F := F)) (dats m) (0 : Fin 1) launch0 defs₀ 𝒱₀ m ρ main
    (hbody := fun c => (body_obligation m c).loose) (hshare := fun c => (dats m 0 c).share_full fun _ => rfl)
    (howed := fun _ _ => rfl) (V₀ := V0 m) (opss := tail) (hsub := tail_sub) (hfresh := tail_fresh) (hkeep := tail_keeps_arr)
    (hmain := hmain m 𝒱₀) (hA := A_eq m) (hΦ := fun _ _ => rfl)

/-- The arguments end as they were. -/
theorem unchanged : θ_run defs (onTc (τ := τ) (main (F := F))) ⟨m, fun _ => 0, ρ⟩ (fun r => ∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (run_quiescent m ρ)
  have key : ∀ b : Ref sig .tc, b ∈ [main_arg0, main_arg1, main_arg2, main_arg3, main_arg4] →
      r.2.mem ((c.tc : Thread nD τ).loc b) = m ((c.tc : Thread nD τ).loc b) := fun b hb =>
    ((h.1 c).2 b (Pipeline.mem_restRefs_of b (by revert b; decide) (arg_ne b hb))).trans
      (W_arg m (dats m) c b hb (by revert b; decide) (arg_ne b hb))
  exact ⟨key _ (by decide), key _ (by decide), key _ (by decide), key _ (by decide), key _ (by decide)⟩

/-- The frame of the second call's program. -/
theorem frame : θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_quiescent m ρ))

end Cert.Proof.Nms

end
-- ==== Proof.Nms.Feed.lean ====
/-
  What the second call of the kernel finds in its four arrays: the corners of the 6000 boxes with the greatest scores, greatest
  first, and empty boxes after them.
-/
module

public import proofs.«01_k».proof.Proof.Nms.Pick
public import proofs.«01_k».proof.Proof.Nms.Value
public import proofs.«01_k».proof.Proof.Nms.Run
public import Idealize.ShloMosaic.Lib.StableHlo.ReadAt

@[expose] public section

set_option maxRecDepth 16384

noncomputable section

namespace Cert.Proof.Nms

open Cert.SelectIdeal Idealize.ShloMosaic Idealize.ShloMosaic.TcCoe Idealize.ShloMosaic.StableHlo

variable (m : (ℓ : Loc nD τ sig) → Buf (Elt Ideal) ℓ) (c : Dev nD)

/-- The scores and the boxes' corners, as the program is given them. -/
abbrev sc : S63504.Idx → EReal := m ((c.tc : Thread nD τ).loc main_arg0)
abbrev gx1 : S63504.Idx → EReal := m ((c.tc : Thread nD τ).loc main_arg1)
abbrev gy1 : S63504.Idx → EReal := m ((c.tc : Thread nD τ).loc main_arg2)
abbrev gx2 : S63504.Idx → EReal := m ((c.tc : Thread nD τ).loc main_arg3)
abbrev gy2 : S63504.Idx → EReal := m ((c.tc : Thread nD τ).loc main_arg4)

/-- Which box has the `i`-th greatest score. -/
def best (v : S63504.Idx → EReal) (i : ℕ) (h : i < 6000) : Fin 63504 := order v ⟨i, by omega⟩

theorem best_lt (v : S63504.Idx → EReal) (i : ℕ) (h : i < 6000) : (best v i h).val < 2 ^ 31 := by
  have := (best v i h).isLt
  omega

/-- The index column of the boxes with the greatest scores. -/
abbrev column (v : S63504.Idx → EReal) : IVec S6000x1 32 :=
  broadcastInDim S6000x1 ![0] Gen.bcast_S6000_S6000x1_0
    (select
      (cmpi CmpIPredicate.slt (Host.topK S6000 0 (FloatOps.cmpfTotal (F := Ideal) (φ := .f32) CmpDirection.gt) v Gen.sliceFits_S63504_S6000).2
        (broadcastInDim S6000 ![] Gen.bcast_S_S6000 (constantI S_ 32 0#32)))
      (addi (Host.topK S6000 0 (FloatOps.cmpfTotal (F := Ideal) (φ := .f32) CmpDirection.gt) v Gen.sliceFits_S63504_S6000).2
        (broadcastInDim S6000 ![] Gen.bcast_S_S6000 (constantI S_ 32 63504#32)))
      (Host.topK S6000 0 (FloatOps.cmpfTotal (F := Ideal) (φ := .f32) CmpDirection.gt) v Gen.sliceFits_S63504_S6000).2)

theorem column_at (v : S63504.Idx → EReal) (i : Fin 6000) : column v (ix2 i 0) = BitVec.ofNat 32 (best v i.val i.isLt).val := by
  have h := top_indices v Gen.sliceFits_S63504_S6000 i (by omega)
  exact (fixed_at _ _ _ (fun _ => rfl) Gen.bcast_S6000_S6000x1_0 i (best_lt v i.val i.isLt) h)

theorem took (x v : S63504.Idx → EReal) (i : Fin 6000) :
    Host.gather gather_S63504_S6000x1_S6000_n_0_n_n_0_1_1 x (column v) (ix1 i) = x (ix1 (best v i.val i.isLt)) :=
  taken _ rfl rfl rfl rfl x _ i (best v i.val i.isLt) (best_lt v i.val i.isLt) (column_at v i)

section
variable (i : Fin 6000)

theorem vals_at : (V m c main_values : S6000.Idx → EReal) (ix1 i) = sc m c (ix1 (best (sc m c) i.val i.isLt)) := by
  unfold V V0
  simp only [Gen.hostOps0, List.flatten_cons, List.flatten_nil, List.append_nil, List.cons_append, List.nil_append]
  after_reads_simp
  exact top_values (sc m c) Gen.sliceFits_S63504_S6000 i _

theorem v6_at : (V m c main_v6 : S6000.Idx → EReal) (ix1 i) = gx1 m c (ix1 (best (sc m c) i.val i.isLt)) := by
  unfold V V0
  simp only [Gen.hostOps0, List.flatten_cons, List.flatten_nil, List.append_nil, List.cons_append, List.nil_append]
  after_reads_simp
  exact took (gx1 m c) (sc m c) i

theorem v13_at : (V m c main_v13 : S6000.Idx → EReal) (ix1 i) = gy1 m c (ix1 (best (sc m c) i.val i.isLt)) := by
  unfold V V0
  simp only [Gen.hostOps0, List.flatten_cons, List.flatten_nil, List.append_nil, List.cons_append, List.nil_append]
  after_reads_simp
  exact took (gy1 m c) (sc m c) i

theorem v20_at : (V m c main_v20 : S6000.Idx → EReal) (ix1 i) = gx2 m c (ix1 (best (sc m c) i.val i.isLt)) := by
  unfold V V0
  simp only [Gen.hostOps0, List.flatten_cons, List.flatten_nil, List.append_nil, List.cons_append, List.nil_append]
  after_reads_simp
  exact took (gx2 m c) (sc m c) i

theorem v27_at : (V m c main_v27 : S6000.Idx → EReal) (ix1 i) = gy2 m c (ix1 (best (sc m c) i.val i.isLt)) := by
  unfold V V0
  simp only [Gen.hostOps0, List.flatten_cons, List.flatten_nil, List.append_nil, List.cons_append, List.nil_append]
  after_reads_simp
  exact took (gy2 m c) (sc m c) i
end

/-- 144 entries put after 6000 and laid out in rows of 128. -/
theorem padded (x : S6000.Idx → EReal) (w : S144.Idx → EReal) (p : EReal) (hw : ∀ k, w k = p) (r : ℕ) (hr : r < 48) (j : Fin 128) :
    shapeCast S48x128 (concatenate S6144 0 [⟨S6000, x⟩, ⟨S144, w⟩] Gen.concatenates_S6000_S144_S6144_d0) Gen.shapeCasts_S6144_S48x128
      (at48 r hr j) = if h : 128 * r + j.val < 6000 then x (ix1 ⟨128 * r + j.val, h⟩) else p := by
  pointwise []
  simp only [hw, show (at48 r hr j 1 : Fin 128) = j from rfl, Nat.mul_comm 128 r]

theorem inX1_at (r : ℕ) (hr : r < 48) (j : Fin 128) : (inX1 m c : S48x128.Idx → EReal) (at48 r hr j)
    = if h : 128 * r + j.val < 6000 then (V m c main_v6 : S6000.Idx → EReal) (ix1 ⟨128 * r + j.val, h⟩) else Ideal.ofBits .f32 0x00000000#32 := by
  rw [← padded (V m c main_v6) (fun _ => Ideal.ofBits .f32 0x00000000#32) _ (fun _ => rfl)]
  unfold inX1 V V0
  simp only [Gen.hostOps0, List.flatten_cons, List.flatten_nil, List.append_nil, List.cons_append, List.nil_append]
  after_reads_simp
  rfl

theorem inY1_at (r : ℕ) (hr : r < 48) (j : Fin 128) : (inY1 m c : S48x128.Idx → EReal) (at48 r hr j)
    = if h : 128 * r + j.val < 6000 then (V m c main_v13 : S6000.Idx → EReal) (ix1 ⟨128 * r + j.val, h⟩) else Ideal.ofBits .f32 0x00000000#32 := by
  rw [← padded (V m c main_v13) (fun _ => Ideal.ofBits .f32 0x00000000#32) _ (fun _ => rfl)]
  unfold inY1 V V0
  simp only [Gen.hostOps0, List.flatten_cons, List.flatten_nil, List.append_nil, List.cons_append, List.nil_append]
  after_reads_simp
  rfl

theorem inX2_at (r : ℕ) (hr : r < 48) (j : Fin 128) : (inX2 m c : S48x128.Idx → EReal) (at48 r hr j)
    = if h : 128 * r + j.val < 6000 then (V m c main_v20 : S6000.Idx → EReal) (ix1 ⟨128 * r + j.val, h⟩) else Ideal.ofBits .f32 0xBF800000#32 := by
  rw [← padded (V m c main_v20) (fun _ => Ideal.ofBits .f32 0xBF800000#32) _ (fun _ => rfl)]
  unfold inX2 V V0
  simp only [Gen.hostOps0, List.flatten_cons, List.flatten_nil, List.append_nil, List.cons_append, List.nil_append]
  after_reads_simp
  rfl

theorem inY2_at (r : ℕ) (hr : r < 48) (j : Fin 128) : (inY2 m c : S48x128.Idx → EReal) (at48 r hr j)
    = if h : 128 * r + j.val < 6000 then (V m c main_v27 : S6000.Idx → EReal) (ix1 ⟨128 * r + j.val, h⟩) else Ideal.ofBits .f32 0xBF800000#32 := by
  rw [← padded (V m c main_v27) (fun _ => Ideal.ofBits .f32 0xBF800000#32) _ (fun _ => rfl)]
  unfold inY2 V V0
  simp only [Gen.hostOps0, List.flatten_cons, List.flatten_nil, List.append_nil, List.cons_append, List.nil_append]
  after_reads_simp
  rfl

/-- The boxes in the order of their scores: the 6000 best, then empty ones. -/
def sorted (v x1 y1 x2 y2 : S63504.Idx → EReal) (n : ℕ) : Box :=
  if h : n < 6000 then ⟨x1 (ix1 (best v n h)), y1 (ix1 (best v n h)), x2 (ix1 (best v n h)), y2 (ix1 (best v n h))⟩
  else ⟨Ideal.ofBits .f32 0x00000000#32, Ideal.ofBits .f32 0x00000000#32, Ideal.ofBits .f32 0xBF800000#32, Ideal.ofBits .f32 0xBF800000#32⟩

/-- They are what the call reads. -/
theorem feed (r : ℕ) (hr : r < 48) (j : Fin 128) : sorted (sc m c) (gx1 m c) (gy1 m c) (gx2 m c) (gy2 m c) (128 * r + j.val)
    = boxAt (inX1 m c) (inY1 m c) (inX2 m c) (inY2 m c) r hr j := by
  unfold sorted boxAt
  rw [inX1_at, inY1_at, inX2_at, inY2_at]
  by_cases h : 128 * r + j.val < 6000
  · simp only [dif_pos h, Box.mk.injEq]
    exact ⟨(v6_at m c ⟨_, h⟩).symm, (v13_at m c ⟨_, h⟩).symm, (v20_at m c ⟨_, h⟩).symm, (v27_at m c ⟨_, h⟩).symm⟩
  · simp only [dif_neg h]

end Cert.Proof.Nms

end

end
-- ==== Proof.Nms.Read.lean ====
/-
  What the program of the second call ends with: the boxes at the 300 greatest of the scores it has masked.
-/
module

public import proofs.«01_k».proof.Proof.Nms.Feed

@[expose] public section

set_option maxRecDepth 16384

noncomputable section

namespace Cert.Proof.Nms

open Cert.SelectIdeal Idealize.ShloMosaic Idealize.ShloMosaic.TcCoe Idealize.ShloMosaic.StableHlo

/-- The scores with those under a mark above one half lowered. -/
abbrev lowered (marks : FVec Ideal S48x128 .f32) (vals : FVec Ideal S6000 .f32) : FVec Ideal S6000 .f32 :=
  select (cmpf .ogt (extractStridedSlice S6000 ![0] (shapeCast S6144 marks Gen.shapeCasts_S48x128_S6144) Gen.slices_S6144_S6000_0)
      (broadcastInDim S6000 ![] Gen.bcast_S_S6000 (constant (F := Ideal) S_ .f32 0x3F000000#32)))
    (broadcastInDim S6000 ![] Gen.bcast_S_S6000 (constant (F := Ideal) S_ .f32 0xCE6E6B28#32)) vals

theorem lowered_at (marks : FVec Ideal S48x128 .f32) (vals : FVec Ideal S6000 .f32) (i : Fin 6000) (r : ℕ) (hr : r < 48) (j : Fin 128)
    (h : i.val = 128 * r + j.val) :
    (lowered marks vals : S6000.Idx → EReal) (ix1 i) = if Ideal.ofBits .f32 0x3F000000#32 < (marks : S48x128.Idx → EReal) (at48 r hr j)
      then Ideal.ofBits .f32 0xCE6E6B28#32 else (vals : S6000.Idx → EReal) (ix1 i) := by
  have e : (ix2 (⟨i.val / 128, by omega⟩ : Fin 48) (⟨i.val % 128, by omega⟩ : Fin 128) : S48x128.Idx) = at48 r hr j := by
    have h1 : i.val / 128 = r := by omega
    have h2 : i.val % 128 = j.val := by omega
    funext a
    match a with
    | ⟨0, _⟩ => exact Fin.ext h1
    | ⟨1, _⟩ => exact Fin.ext h2
  rw [← e]
  unfold lowered
  pointwise []

/-- The index column of the 300 greatest of `v`. -/
abbrev column2 (v : FVec Ideal S6000 .f32) : IVec S300x1 32 :=
  broadcastInDim S300x1 ![0] Gen.bcast_S300_S300x1_0
    (select
      (cmpi CmpIPredicate.slt (Host.topK S300 0 (FloatOps.cmpfTotal (F := Ideal) (φ := .f32) CmpDirection.gt) v Gen.sliceFits_S6000_S300).2
        (broadcastInDim S300 ![] Gen.bcast_S_S300 (constantI S_ 32 0#32)))
      (addi (Host.topK S300 0 (FloatOps.cmpfTotal (F := Ideal) (φ := .f32) CmpDirection.gt) v Gen.sliceFits_S6000_S300).2
        (broadcastInDim S300 ![] Gen.bcast_S_S300 (constantI S_ 32 6000#32)))
      (Host.topK S300 0 (FloatOps.cmpfTotal (F := Ideal) (φ := .f32) CmpDirection.gt) v Gen.sliceFits_S6000_S300).2)

/-- Which of the sorted boxes comes `i`-th. -/
def nth (v : S6000.Idx → EReal) (i : Fin 300) : Fin 6000 := order v ⟨i.val, by omega⟩

theorem column2_at (v : S6000.Idx → EReal) (i : Fin 300) : column2 v (ix2 i 0) = BitVec.ofNat 32 (nth v i).val := by
  have h := top_indices v Gen.sliceFits_S6000_S300 i (by omega)
  exact (fixed_at _ _ _ (fun _ => rfl) Gen.bcast_S300_S300x1_0 i (by have := (nth v i).isLt; unfold nth at this; omega) h)

theorem took2 (x v : S6000.Idx → EReal) (i : Fin 300) :
    Host.gather gather_S6000_S300x1_S300_n_0_n_n_0_1_1 x (column2 v) (ix1 i) = x (ix1 (nth v i)) :=
  taken _ rfl rfl rfl rfl x _ i (nth v i) (by have := (nth v i).isLt; omega) (column2_at v i)

/-- Five columns side by side. -/
theorem columns_at2 (a b c d e : FVec Ideal S300 .f32) (i : Fin 300) (q : Fin 5) :
    (concatenate S300x5 1 [⟨S300x1, broadcastInDim S300x1 ![0] Gen.bcast_S300_S300x1_0 a⟩, ⟨S300x1, broadcastInDim S300x1 ![0] Gen.bcast_S300_S300x1_0 b⟩,
      ⟨S300x1, broadcastInDim S300x1 ![0] Gen.bcast_S300_S300x1_0 c⟩, ⟨S300x1, broadcastInDim S300x1 ![0] Gen.bcast_S300_S300x1_0 d⟩,
      ⟨S300x1, broadcastInDim S300x1 ![0] Gen.bcast_S300_S300x1_0 e⟩] Gen.concatenates_S300x1_S300x1_S300x1_S300x1_S300x1_S300x5_d1 : S300x5.Idx → EReal) (ix2 i q)
      = (![a (ix1 i), b (ix1 i), c (ix1 i), d (ix1 i), e (ix1 i)] : Fin 5 → EReal) q := by
  fin_cases q <;> pointwise [] <;> rfl

/-- The row of the result: a zero and a box. -/
def rowOf (x y z w : EReal) : Fin 5 → EReal := ![Ideal.ofBits .f32 0x00000000#32, x, y, z, w]

variable (X : Valuation τ sig (Elt Ideal))

/-- The lines after the call, but for the last, which puts the five columns together. -/
def front : List (HloOp τ sig (Elt Ideal)) := (List.flatten tail).dropLast

set_option maxHeartbeats 4000000 in
theorem col_v75 : (StableHlo.after front X (Proc.devRef .tc main_v75) : S300x1.Idx → EReal)
    = broadcastInDim S300x1 ![0] Gen.bcast_S300_S300x1_0 ((fun _ => Ideal.ofBits .f32 0x00000000#32) : FVec Ideal S300 .f32) := by
  simp only [front, tail, Gen.hostOps1, Gen.hostOps1_1, Gen.hostOps1_2, List.flatten_cons, List.flatten_nil, List.append_nil, List.cons_append,
    List.nil_append, List.dropLast]
  after_reads_simp
  rfl

set_option maxHeartbeats 4000000 in
theorem col_v76 : (StableHlo.after front X (Proc.devRef .tc main_v76) : S300x1.Idx → EReal)
    = broadcastInDim S300x1 ![0] Gen.bcast_S300_S300x1_0 (Host.gather gather_S6000_S300x1_S300_n_0_n_n_0_1_1 (X (Proc.devRef .tc main_v6)) (column2 (lowered (X (Proc.devRef .tc main_v40)) (X (Proc.devRef .tc main_values))))) := by
  simp only [front, tail, Gen.hostOps1, Gen.hostOps1_1, Gen.hostOps1_2, List.flatten_cons, List.flatten_nil, List.append_nil, List.cons_append,
    List.nil_append, List.dropLast]
  after_reads_simp
  rfl

set_option maxHeartbeats 4000000 in
theorem col_v77 : (StableHlo.after front X (Proc.devRef .tc main_v77) : S300x1.Idx → EReal)
    = broadcastInDim S300x1 ![0] Gen.bcast_S300_S300x1_0 (Host.gather gather_S6000_S300x1_S300_n_0_n_n_0_1_1 (X (Proc.devRef .tc main_v13)) (column2 (lowered (X (Proc.devRef .tc main_v40)) (X (Proc.devRef .tc main_values))))) := by
  simp only [front, tail, Gen.hostOps1, Gen.hostOps1_1, Gen.hostOps1_2, List.flatten_cons, List.flatten_nil, List.append_nil, List.cons_append,
    List.nil_append, List.dropLast]
  after_reads_simp
  rfl

set_option maxHeartbeats 4000000 in
theorem col_v78 : (StableHlo.after front X (Proc.devRef .tc main_v78) : S300x1.Idx → EReal)
    = broadcastInDim S300x1 ![0] Gen.bcast_S300_S300x1_0 (Host.gather gather_S6000_S300x1_S300_n_0_n_n_0_1_1 (X (Proc.devRef .tc main_v20)) (column2 (lowered (X (Proc.devRef .tc main_v40)) (X (Proc.devRef .tc main_values))))) := by
  simp only [front, tail, Gen.hostOps1, Gen.hostOps1_1, Gen.hostOps1_2, List.flatten_cons, List.flatten_nil, List.append_nil, List.cons_append,
    List.nil_append, List.dropLast]
  after_reads_simp
  rfl

set_option maxHeartbeats 4000000 in
theorem col_v79 : (StableHlo.after front X (Proc.devRef .tc main_v79) : S300x1.Idx → EReal)
    = broadcastInDim S300x1 ![0] Gen.bcast_S300_S300x1_0 (Host.gather gather_S6000_S300x1_S300_n_0_n_n_0_1_1 (X (Proc.devRef .tc main_v27)) (column2 (lowered (X (Proc.devRef .tc main_v40)) (X (Proc.devRef .tc main_values))))) := by
  simp only [front, tail, Gen.hostOps1, Gen.hostOps1_1, Gen.hostOps1_2, List.flatten_cons, List.flatten_nil, List.append_nil, List.cons_append,
    List.nil_append, List.dropLast]
  after_reads_simp
  rfl

/-- The last line's result. -/
theorem last_line : (StableHlo.after (List.flatten tail) X (Proc.devRef .tc main_v80) : S300x5.Idx → EReal)
    = concatenate S300x5 1 [⟨S300x1, (StableHlo.after front X (Proc.devRef .tc main_v75) : S300x1.Idx → EReal)⟩,
      ⟨S300x1, (StableHlo.after front X (Proc.devRef .tc main_v76) : S300x1.Idx → EReal)⟩,
      ⟨S300x1, (StableHlo.after front X (Proc.devRef .tc main_v77) : S300x1.Idx → EReal)⟩,
      ⟨S300x1, (StableHlo.after front X (Proc.devRef .tc main_v78) : S300x1.Idx → EReal)⟩,
      ⟨S300x1, (StableHlo.after front X (Proc.devRef .tc main_v79) : S300x1.Idx → EReal)⟩]
      Gen.concatenates_S300x1_S300x1_S300x1_S300x1_S300x1_S300x5_d1 := by
  rw [show (List.flatten tail : List (HloOp τ sig (Elt Ideal))) = front ++ [_] from rfl, StableHlo.after_append, StableHlo.after_cons, StableHlo.after_nil,
    StableHlo.nary_result]
  rfl

theorem tail_at (i : Fin 300) (q : Fin 5) :
    (StableHlo.after (List.flatten tail) X (Proc.devRef .tc main_v80) : S300x5.Idx → EReal) (ix2 i q)
      = rowOf ((X (Proc.devRef .tc main_v6) : S6000.Idx → EReal) (ix1 (nth (lowered (X (Proc.devRef .tc main_v40)) (X (Proc.devRef .tc main_values))) i)))
          ((X (Proc.devRef .tc main_v13) : S6000.Idx → EReal) (ix1 (nth (lowered (X (Proc.devRef .tc main_v40)) (X (Proc.devRef .tc main_values))) i)))
          ((X (Proc.devRef .tc main_v20) : S6000.Idx → EReal) (ix1 (nth (lowered (X (Proc.devRef .tc main_v40)) (X (Proc.devRef .tc main_values))) i)))
          ((X (Proc.devRef .tc main_v27) : S6000.Idx → EReal) (ix1 (nth (lowered (X (Proc.devRef .tc main_v40)) (X (Proc.devRef .tc main_values))) i))) q := by
  rw [last_line, col_v75, col_v76, col_v77, col_v78, col_v79]
  refine (columns_at2 _ _ _ _ _ i q).trans ?_
  rw [took2, took2, took2, took2]
  rfl

variable (m : (ℓ : Loc nD τ sig) → Buf (Elt Ideal) ℓ) (c : Dev nD)

/-- The call's result array. -/
theorem arr_out : (dats m 0 c).arrAt 4 (cfg0 (F := Ideal)).N = out m c :=
  (dats m 0 c).arrAt_eq_of_after_last 4 Gen.t0_0 (by decide +kernel) (out m c) fun j => rfl

/-- What the buffers hold when the call has ended. -/
abbrev W0 : Valuation τ sig (Elt Ideal) :=
  Pipeline.withArrays spec0 c (V0 m c) fun w => (dats m 0 c).arrAt w (cfg0 (F := Ideal)).N

theorem W0_out : W0 m c (Proc.devRef .tc main_v40) = out m c :=
  (Pipeline.withArrays_arr spec0 (Gen.launch0 (F := Ideal)).win.arr_inj c (V0 m c) _ 4).trans (arr_out m c)

theorem W0_other (b : Ref sig .tc) (hb : b ∈ [main_values, main_v6, main_v13, main_v20, main_v27]) : W0 m c (Proc.devRef .tc b) = V m c b :=
  Pipeline.withArrays_of_ne spec0 c (V0 m c) _ b (by revert b; decide)

/-- The masked scores. -/
abbrev lowK : S6000.Idx → EReal := lowered (out m c) (V m c main_values)

/-- The result, row by row. -/
theorem result_row (i : Fin 300) (q : Fin 5) :
    (Pipeline.afterTail₀ (cfgs (F := Ideal)) (dats m) 0 (V0 m) tail c main_v80 : S300x5.Idx → EReal) (ix2 i q)
      = rowOf ((sorted (sc m c) (gx1 m c) (gy1 m c) (gx2 m c) (gy2 m c) (nth (lowK m c) i)).x1)
          ((sorted (sc m c) (gx1 m c) (gy1 m c) (gx2 m c) (gy2 m c) (nth (lowK m c) i)).y1)
          ((sorted (sc m c) (gx1 m c) (gy1 m c) (gx2 m c) (gy2 m c) (nth (lowK m c) i)).x2)
          ((sorted (sc m c) (gx1 m c) (gy1 m c) (gx2 m c) (gy2 m c) (nth (lowK m c) i)).y2) q := by
  refine (tail_at (W0 m c) i q).trans ?_
  rw [W0_out, W0_other m c main_values (by decide), W0_other m c main_v6 (by decide), W0_other m c main_v13 (by decide),
    W0_other m c main_v20 (by decide), W0_other m c main_v27 (by decide)]
  unfold sorted
  rw [dif_pos (nth (lowK m c) i).isLt]
  exact congrFun (congr (congr (congrArg₂ rowOf (v6_at m c _) (v13_at m c _)) (v20_at m c _)) (v27_at m c _)) q

end Cert.Proof.Nms

end

end
-- ==== Proof.Nms.Loop.lean ====
/-
  The reference's loop over the extended reals: after `k` trips a box is marked exactly if one of the first `k` boxes,
  itself not suppressed and before it, overlaps it.
-/
module

public import proofs.«01_k».proof.Proof.Nms.Value
public import proofs.«01_k».proof.Proof.Gen.SelectReferenceIdeal.Run
public import Idealize.ShloMosaic.Lib.Tactic.CleanTypes
public import Idealize.ShloMosaic.Lib.DynamicIndex
public import Idealize.ShloMosaic.Lib.ValueIdxRank1

@[expose] public section

set_option maxRecDepth 16384

noncomputable section

namespace Cert.Proof.Nms

open Cert.SelectReferenceIdeal Cert.SelectReferenceIdeal.Facts₀ Cert.SelectReferenceIdeal.Facts Cert.SelectReferenceIdeal.Value
open Idealize.ShloMosaic Idealize.ShloMosaic.TcCoe

/-- The bit set where `P` holds. -/
def bit (P : Prop) : BitVec 1 := open Classical in BitVec.ofBool (decide P)

theorem bit_of (P : Prop) [h : Decidable P] : BitVec.ofBool (decide P) = bit P := by
  unfold bit; congr 1; exact decide_eq_decide.mpr Iff.rfl

theorem bit_congr {P Q : Prop} (h : P ↔ Q) : bit P = bit Q := by rw [propext h]
theorem bit_eq_one (P : Prop) : bit P = 1#1 ↔ P := by
  unfold bit; by_cases h : P <;> simp [h]

theorem bit_step (A B C D : Prop) :
    Scalar.select (bit A) (bit B) (IntOp.ori (bit B) (IntOp.andi (bit C) (bit D))) = bit (B ∨ (¬ A ∧ C ∧ D)) := by
  by_cases h : A <;> by_cases h' : B <;> by_cases h2 : C <;> by_cases h3 : D <;>
    simp [bit, h, h', h2, h3, Scalar.select, IntOp.andi, IntOp.ori]

theorem later_word (k j : ℕ) (hk : k < 6000) (hj : j < 6000) :
    IntOp.cmpi CmpIPredicate.sgt (BitVec.ofNat 32 j) (BitVec.ofNat 32 k) = bit (k < j) := by
  rw [← bit_of]
  show BitVec.ofBool ((BitVec.ofNat 32 k).slt (BitVec.ofNat 32 j)) = _
  rw [BitVec.slt, toInt_ofNat_of_lt (by omega), toInt_ofNat_of_lt (by omega)]
  exact congrArg BitVec.ofBool (decide_eq_decide.mpr Int.ofNat_lt)

/-- The place that trip `k` reads. -/
theorem place_at (k : ℕ) (hk : k < 6000) (d : BitVec 32) (hr : S1.rank = (⟨1, ![6000]⟩ : Shape).rank)
    (p : Host.clampedStart ⟨1, ![6000]⟩ S1 hr (fun _ => (Scalar.select (IntOp.cmpi CmpIPredicate.slt (BitVec.ofNat 32 k) 0#32)
      (IntOp.addi (BitVec.ofNat 32 k) d) (BitVec.ofNat 32 k)).toInt) 0 < 6000) :
    (ix1 ⟨Host.clampedStart ⟨1, ![6000]⟩ S1 hr (fun _ => (Scalar.select (IntOp.cmpi CmpIPredicate.slt (BitVec.ofNat 32 k) 0#32)
      (IntOp.addi (BitVec.ofNat 32 k) d) (BitVec.ofNat 32 k)).toInt) 0, p⟩ : S6000.Idx) = ix1 ⟨k, hk⟩ := by
  have h := toInt_wrap_ofNat (s := S_) k (by omega) (d := fun _ => d) (i := Shape.Idx.first h_S_)
  have e := Host.clampedStart_of_le (s := ⟨1, ![6000]⟩) (t := S1) hr (fun _ => (Scalar.select (IntOp.cmpi CmpIPredicate.slt (BitVec.ofNat 32 k) 0#32)
      (IntOp.addi (BitVec.ofNat 32 k) d) (BitVec.ofNat 32 k)).toInt) 0 k h (by show k + 1 ≤ 6000; omega)
  exact congrArg ix1 (Fin.ext e)

section
variable (V : Valuation τ sig (Elt Ideal)) (b : ℕ → Box) (k : ℕ) (hk : k < 6000)
  (h0 : ∀ j : Fin 6000, (V (Proc.devRef .tc main_v29_0) : S6000.Idx → EReal) (ix1 j) = (b j.val).x1)
  (h1 : ∀ j : Fin 6000, (V (Proc.devRef .tc main_v29_1) : S6000.Idx → EReal) (ix1 j) = (b j.val).y1)
  (h2 : ∀ j : Fin 6000, (V (Proc.devRef .tc main_v29_2) : S6000.Idx → EReal) (ix1 j) = (b j.val).x2)
  (h3 : ∀ j : Fin 6000, (V (Proc.devRef .tc main_v29_3) : S6000.Idx → EReal) (ix1 j) = (b j.val).y2)
  (h4 : ∀ j : Fin 6000, (V (Proc.devRef .tc main_v29_4) : S6000.Idx → EReal) (ix1 j) = (b j.val).area)
  (h5 : ∀ j : Fin 6000, (V (Proc.devRef .tc main_v29_5) : S6000.Idx → BitVec 32) (ix1 j) = BitVec.ofNat 32 j.val)
  (h7 : V (Proc.devRef .tc main_v29_7) = (fun _ => BitVec.ofNat 32 k : S_.Idx → BitVec 32))
  (h8 : ∀ j : Fin 6000, (V (Proc.devRef .tc main_v29_8) : S6000.Idx → BitVec 1) (ix1 j) = bit (part (hit b) k j.val))
include hk h0 h1 h2 h3 h7

theorem inter_at (j : Fin 6000) :
    (res_main_while0b_v83 V : S6000.Idx → EReal) (ix1 j) = (b k).inter (b j.val) := by
  unfold res_main_while0b_v83
  rw [h7]
  simp only [id_eq]
  clean_types
  pointwise []
  simp only [place_at k hk]
  simp only [h0, h1, h2, h3]
  rfl

include h4 h5 h8
theorem trip_mark (j : Fin 6000) :
    (step_main_v29_8 V : S6000.Idx → BitVec 1) (ix1 j) = bit (part (hit b) (k + 1) j.val) := by
  unfold step_main_v29_8
  have hi := inter_at V b k hk h0 h1 h2 h3 h7
  generalize res_main_while0b_v83 V = R at hi ⊢
  rw [h7]
  simp only [id_eq]
  clean_types
  pointwise []
  simp only [place_at k hk]
  simp only [h4, h5, h8, hi, later_word k j.val hk j.isLt, bit_of]
  rw [bit_step]
  refine bit_congr ?_
  rw [part_succ]
  exact or_congr_right (and_congr_right fun _ => and_congr_left' (Box.over_comm (b k) (b j.val)))

end

/-- What the loop starts from. -/
structure Start (E : Valuation τ sig (Elt Ideal)) (b : ℕ → Box) : Prop where
  x1 : ∀ j : Fin 6000, (E (Proc.devRef .tc main_v29_0) : S6000.Idx → EReal) (ix1 j) = (b j.val).x1
  y1 : ∀ j : Fin 6000, (E (Proc.devRef .tc main_v29_1) : S6000.Idx → EReal) (ix1 j) = (b j.val).y1
  x2 : ∀ j : Fin 6000, (E (Proc.devRef .tc main_v29_2) : S6000.Idx → EReal) (ix1 j) = (b j.val).x2
  y2 : ∀ j : Fin 6000, (E (Proc.devRef .tc main_v29_3) : S6000.Idx → EReal) (ix1 j) = (b j.val).y2
  area : ∀ j : Fin 6000, (E (Proc.devRef .tc main_v29_4) : S6000.Idx → EReal) (ix1 j) = (b j.val).area
  number : ∀ j : Fin 6000, (E (Proc.devRef .tc main_v29_5) : S6000.Idx → BitVec 32) (ix1 j) = BitVec.ofNat 32 j.val

theorem start_step (E : Valuation τ sig (Elt Ideal)) (b : ℕ → Box) (h : Start E b) : Start (STEP E) b :=
  ⟨by rw [STEP_main_v29_0]; exact h.x1, by rw [STEP_main_v29_1]; exact h.y1, by rw [STEP_main_v29_2]; exact h.x2,
   by rw [STEP_main_v29_3]; exact h.y2, by rw [STEP_main_v29_4]; exact h.area, by rw [STEP_main_v29_5]; exact h.number⟩

/-- The loop's trips. -/
theorem trips_mark (E : Valuation τ sig (Elt Ideal)) (b : ℕ → Box) (hE : Start E b)
    (h7 : E (Proc.devRef .tc main_v29_7) = (fun _ => 0#32 : S_.Idx → BitVec 32))
    (h8 : E (Proc.devRef .tc main_v29_8) = (fun _ => 0#1 : S6000.Idx → BitVec 1)) :
    ∀ k, k ≤ 6000 → Start (STEP^[k] E) b ∧ (STEP^[k] E) (Proc.devRef .tc main_v29_7) = (fun _ => BitVec.ofNat 32 k : S_.Idx → BitVec 32)
      ∧ ∀ j : Fin 6000, ((STEP^[k] E) (Proc.devRef .tc main_v29_8) : S6000.Idx → BitVec 1) (ix1 j) = bit (part (hit b) k j.val) := by
  intro k
  induction k with
  | zero =>
    intro _
    refine ⟨hE, h7, fun j => ?_⟩
    show (E (Proc.devRef .tc main_v29_8) : S6000.Idx → BitVec 1) (ix1 j) = _
    rw [h8]
    unfold bit
    simp [part_zero (hit b) j.val]
  | succ k ih =>
    intro hk
    obtain ⟨hs, h7', h8'⟩ := ih (by omega)
    rw [Function.iterate_succ_apply']
    refine ⟨start_step _ b hs, ?_, fun j => ?_⟩
    · rw [STEP_main_v29_7]
      unfold step_main_v29_7
      rw [h7']
      funext y
      show BitVec.ofNat 32 k + 1#32 = _
      exact (BitVec.ofNat_add k 1).symm
    · rw [STEP_main_v29_8]
      exact trip_mark _ b k (by omega) hs.x1 hs.y1 hs.x2 hs.y2 hs.area hs.number h7' h8' j

/-- After all trips, the marks are the suppressed boxes. -/
theorem marks (E : Valuation τ sig (Elt Ideal)) (b : ℕ → Box) (hE : Start E b)
    (h7 : E (Proc.devRef .tc main_v29_7) = (fun _ => 0#32 : S_.Idx → BitVec 32))
    (h8 : E (Proc.devRef .tc main_v29_8) = (fun _ => 0#1 : S6000.Idx → BitVec 1)) (j : Fin 6000) :
    ((STEP^[6000] E) (Proc.devRef .tc main_v29_8) : S6000.Idx → BitVec 1) (ix1 j) = bit (sup (hit b) j.val) :=
  ((trips_mark E b hE h7 h8 6000 le_rfl).2.2 j).trans (bit_congr (part_all (hit b) 6000 j.val (by omega)))

end Cert.Proof.Nms
-- ==== Proof.Nms.RefRead.lean ====
/-
  What the reference of the second call ends with: the boxes at the 300 greatest of the scores it has lowered.
-/
module

public import proofs.«01_k».proof.Proof.Nms.Read
public import proofs.«01_k».proof.Proof.Nms.Loop

@[expose] public section

set_option maxRecDepth 16384

noncomputable section

namespace Cert.Proof.Nms

open Cert.SelectReferenceIdeal Cert.SelectReferenceIdeal.Facts₀ Cert.SelectReferenceIdeal.Facts Cert.SelectReferenceIdeal.Value
open Idealize.ShloMosaic Idealize.ShloMosaic.TcCoe Idealize.ShloMosaic.StableHlo

section
variable {F : FTy → Type} [FloatOps F] (m : (ℓ : Loc nD τ sig) → Buf (Elt F) ℓ) (c : Dev nD)

/-- What the loop leaves alone. -/
abbrev still : List (Ref sig .tc) := [main_values, main_v11, main_arg0, main_arg1, main_arg2, main_arg3, main_arg4]

theorem off0 : ∀ b ∈ still, b ∉ while0Ops0_W := by decide +kernel
theorem off1 : ∀ b ∈ still, b ∉ while0Ops0_1_W := by decide +kernel
theorem off2 : ∀ b ∈ still, b ∉ while0Ops0_2_W := by decide +kernel
theorem offC : ∀ b ∈ still, b ∉ condOps_W := by decide +kernel

theorem loop_keeps (b : Ref sig .tc) (hb : b ∈ still) (k : ℕ) : atK m k c (Proc.devRef .tc b) = entryContents preI m c (Proc.devRef .tc b) := by
  induction k with
  | zero => rfl
  | succ k ih =>
    refine Eq.trans ?_ ih
    rw [show atK m (k + 1) c = after Gen.while0Ops0_2 (after Gen.while0Ops0_1 (after Gen.while0Ops0 (after condOps (atK m k c)))) from rfl]
    exact (after_of_writes_sub Gen.while0Ops0_2 _ while0Ops0_2_writes (off2 b hb)).trans
      ((after_of_writes_sub Gen.while0Ops0_1 _ while0Ops0_1_writes (off1 b hb)).trans
        ((after_of_writes_sub Gen.while0Ops0 _ while0Ops0_writes (off0 b hb)).trans
          (after_of_writes_sub condOps _ condOps_writes (offC b hb))))

/-- The contents the loop leaves behind, as the lines after it find them. -/
abbrev done : Valuation τ sig (Elt F) := after condOps (atK m 6000 c)

theorem done_keeps (b : Ref sig .tc) (hb : b ∈ still) : done m c (Proc.devRef .tc b) = entryContents preI m c (Proc.devRef .tc b) :=
  (after_of_writes_sub condOps _ condOps_writes (offC b hb)).trans (loop_keeps m c b hb 6000)

end

variable (X : Valuation τ sig (Elt Ideal))

/-- The scores with the marked ones lowered. -/
abbrev loweredR (marks : IVec S6000 1) (vals : FVec Ideal S6000 .f32) : FVec Ideal S6000 .f32 :=
  select marks (broadcastInDim S6000 ![] bcast_S_S6000 (constant (F := Ideal) S_ .f32 0xCE6E6B28#32)) vals

theorem loweredR_at (marks : IVec S6000 1) (vals : FVec Ideal S6000 .f32) (i : Fin 6000) :
    (loweredR marks vals : S6000.Idx → EReal) (ix1 i) = if marks (ix1 i) = 1#1 then Ideal.ofBits .f32 0xCE6E6B28#32 else (vals : S6000.Idx → EReal) (ix1 i) := by
  unfold loweredR
  pointwise []
  rfl

theorem took_rows (x : S6000x4.Idx → EReal) (v : S6000.Idx → EReal) (i : Fin 300) (q : Fin 4) :
    Host.gather gather_S6000x4_S300x1_S300x4_1_0_n_n_0_1_14 x (column2 v) (ix2 i q) = x (ix2 (nth v i) q) :=
  taken_row _ rfl rfl rfl rfl rfl x _ i q (nth v i) (by omega) (column2_at v i)

theorem took_rows0 (x : S63504x4.Idx → EReal) (v : S63504.Idx → EReal) (i : Fin 6000) (q : Fin 4) :
    Host.gather gather_S63504x4_S6000x1_S6000x4_1_0_n_n_0_1_14 x (column v) (ix2 i q) = x (ix2 (best v i.val i.isLt) q) :=
  taken_row _ rfl rfl rfl rfl rfl x _ i q (best v i.val i.isLt) (by omega) (column_at v i)

theorem beside (z : FVec Ideal S300x1 .f32) (x : FVec Ideal S300x4 .f32) (hz : ∀ k, (z : S300x1.Idx → EReal) k = Ideal.ofBits .f32 0x00000000#32) (i : Fin 300) (q : Fin 5) :
    (concatenate S300x5 1 [⟨S300x1, z⟩, ⟨S300x4, x⟩] concatenates_S300x1_S300x4_S300x5_d1 : S300x5.Idx → EReal) (ix2 i q)
      = rowOf ((x : S300x4.Idx → EReal) (ix2 i 0)) ((x : S300x4.Idx → EReal) (ix2 i 1)) ((x : S300x4.Idx → EReal) (ix2 i 2)) ((x : S300x4.Idx → EReal) (ix2 i 3)) q := by
  fin_cases q <;> pointwise []
  · exact hz _
  all_goals rfl

set_option maxHeartbeats 4000000 in
theorem post_at (i : Fin 300) (q : Fin 5) :
    (afterL postI X (Proc.devRef .tc main_v39) : S300x5.Idx → EReal) (ix2 i q)
      = rowOf ((X (Proc.devRef .tc main_v11) : S6000x4.Idx → EReal) (ix2 (nth (loweredR (X (Proc.devRef .tc main_v29_8)) (X (Proc.devRef .tc main_values))) i) 0))
          ((X (Proc.devRef .tc main_v11) : S6000x4.Idx → EReal) (ix2 (nth (loweredR (X (Proc.devRef .tc main_v29_8)) (X (Proc.devRef .tc main_values))) i) 1))
          ((X (Proc.devRef .tc main_v11) : S6000x4.Idx → EReal) (ix2 (nth (loweredR (X (Proc.devRef .tc main_v29_8)) (X (Proc.devRef .tc main_values))) i) 2))
          ((X (Proc.devRef .tc main_v11) : S6000x4.Idx → EReal) (ix2 (nth (loweredR (X (Proc.devRef .tc main_v29_8)) (X (Proc.devRef .tc main_values))) i) 3)) q := by
  refine Eq.trans ?_ ((beside (fun _ => Ideal.ofBits .f32 0x00000000#32)
    (Host.gather gather_S6000x4_S300x1_S300x4_1_0_n_n_0_1_14 (X (Proc.devRef .tc main_v11)) (column2 (loweredR (X (Proc.devRef .tc main_v29_8)) (X (Proc.devRef .tc main_values)))))
    (fun _ => rfl) i q).trans ?_)
  · simp only [afterL_cons, afterL_nil]
    after_reads_simp
    rfl
  · rw [took_rows, took_rows, took_rows, took_rows]

variable (m : (ℓ : Loc nD τ sig) → Buf (Elt Ideal) ℓ) (c : Dev nD)

/-- The scores and the boxes' corners, as the reference is given them. -/
abbrev scR : S63504.Idx → EReal := m ((c.tc : Thread nD τ).loc main_arg0)
abbrev gx1R : S63504.Idx → EReal := m ((c.tc : Thread nD τ).loc main_arg1)
abbrev gy1R : S63504.Idx → EReal := m ((c.tc : Thread nD τ).loc main_arg2)
abbrev gx2R : S63504.Idx → EReal := m ((c.tc : Thread nD τ).loc main_arg3)
abbrev gy2R : S63504.Idx → EReal := m ((c.tc : Thread nD τ).loc main_arg4)

theorem valsR_at (i : Fin 6000) :
    (entryContents preI m c (Proc.devRef .tc main_values) : S6000.Idx → EReal) (ix1 i) = scR m c (ix1 (best (scR m c) i.val i.isLt)) := by
  simp only [entryContents, afterL_cons, afterL_nil]
  after_reads_simp
  exact top_values (scR m c) sliceFits_S63504_S6000 i _

/-- The four corners of every box, side by side. -/
abbrev corners (a b c d : FVec Ideal S63504 .f32) : FVec Ideal S63504x4 .f32 :=
  concatenate S63504x4 1 [⟨S63504x1, broadcastInDim S63504x1 ![0] bcast_S63504_S63504x1_0 a⟩, ⟨S63504x1, broadcastInDim S63504x1 ![0] bcast_S63504_S63504x1_0 b⟩,
    ⟨S63504x1, broadcastInDim S63504x1 ![0] bcast_S63504_S63504x1_0 c⟩, ⟨S63504x1, broadcastInDim S63504x1 ![0] bcast_S63504_S63504x1_0 d⟩]
    concatenates_S63504x1_S63504x1_S63504x1_S63504x1_S63504x4_d1

theorem corners_at (a b c d : FVec Ideal S63504 .f32) (i : Fin 63504) (q : Fin 4) :
    (corners a b c d : S63504x4.Idx → EReal) (ix2 i q) = (![a (ix1 i), b (ix1 i), c (ix1 i), d (ix1 i)] : Fin 4 → EReal) q := by
  unfold corners
  fin_cases q <;> pointwise [] <;> rfl

theorem v11_eq : (entryContents preI m c (Proc.devRef .tc main_v11) : S6000x4.Idx → EReal)
    = Host.gather gather_S63504x4_S6000x1_S6000x4_1_0_n_n_0_1_14 (corners (gx1R m c) (gy1R m c) (gx2R m c) (gy2R m c)) (column (scR m c)) := by
  simp only [entryContents, afterL_cons, afterL_nil]
  after_reads_simp
  rfl

end Cert.Proof.Nms

end

end
-- ==== Proof.Nms.Entry.lean ====
/-
  The reference of the second call, from its entry to its result: the loop marks what the boxes in the order of their scores
  suppress, and the result's rows are the boxes at the 300 greatest of the scores then left.
-/
module

public import proofs.«01_k».proof.Proof.Nms.RefRead

@[expose] public section

set_option maxRecDepth 16384

noncomputable section

namespace Cert.Proof.Nms

open Cert.SelectReferenceIdeal Cert.SelectReferenceIdeal.Facts₀ Cert.SelectReferenceIdeal.Facts Cert.SelectReferenceIdeal.Value
open Idealize.ShloMosaic Idealize.ShloMosaic.TcCoe Idealize.ShloMosaic.StableHlo Idealize.SL.Sem

variable (m : (ℓ : Loc nD τ sig) → Buf (Elt Ideal) ℓ) (c : Dev nD)

/-- The corners of the 6000 best boxes. -/
abbrev bestOf : FVec Ideal S6000x4 .f32 :=
  Host.gather gather_S63504x4_S6000x1_S6000x4_1_0_n_n_0_1_14 (corners (gx1R m c) (gy1R m c) (gx2R m c) (gy2R m c)) (column (scR m c))

theorem bestOf_at (i : Fin 6000) (q : Fin 4) : (bestOf m c : S6000x4.Idx → EReal) (ix2 i q)
    = (![gx1R m c (ix1 (best (scR m c) i.val i.isLt)), gy1R m c (ix1 (best (scR m c) i.val i.isLt)),
        gx2R m c (ix1 (best (scR m c) i.val i.isLt)), gy2R m c (ix1 (best (scR m c) i.val i.isLt))] : Fin 4 → EReal) q :=
  (took_rows0 _ (scR m c) i q).trans (corners_at _ _ _ _ _ q)

/-- One column of a table of corners. -/
abbrev side (q : ℕ) (h : S6000x4.Slices ![0, q] S6000x1) (A : FVec Ideal S6000x4 .f32) : FVec Ideal S6000 .f32 :=
  shapeCast S6000 (extractStridedSlice S6000x1 ![0, q] A h) shapeCasts_S6000x1_S6000

theorem side_at (q : ℕ) (hq : q < 4) (h : S6000x4.Slices ![0, q] S6000x1) (A : FVec Ideal S6000x4 .f32) (i : Fin 6000) :
    (side q h A : S6000.Idx → EReal) (ix1 i) = (A : S6000x4.Idx → EReal) (ix2 i ⟨q, hq⟩) := by
  unfold side
  pointwise []

/-- The boxes in the order of their scores, of the reference's arguments. -/
abbrev boxesR : ℕ → Box := sorted (scR m c) (gx1R m c) (gy1R m c) (gx2R m c) (gy2R m c)

theorem boxesR_at (i : Fin 6000) : boxesR m c i.val = ⟨gx1R m c (ix1 (best (scR m c) i.val i.isLt)), gy1R m c (ix1 (best (scR m c) i.val i.isLt)),
    gx2R m c (ix1 (best (scR m c) i.val i.isLt)), gy2R m c (ix1 (best (scR m c) i.val i.isLt))⟩ := dif_pos i.isLt

theorem entry_x1 : (entryContents preI m c (Proc.devRef .tc main_v29_0) : S6000.Idx → EReal) = side 0 slices_S6000x4_S6000x1_0_0 (bestOf m c) := by
  simp only [entryContents, afterL_cons, afterL_nil]
  after_reads_simp
  rfl
theorem entry_y1 : (entryContents preI m c (Proc.devRef .tc main_v29_1) : S6000.Idx → EReal) = side 1 slices_S6000x4_S6000x1_0_1 (bestOf m c) := by
  simp only [entryContents, afterL_cons, afterL_nil]
  after_reads_simp
  rfl
theorem entry_x2 : (entryContents preI m c (Proc.devRef .tc main_v29_2) : S6000.Idx → EReal) = side 2 slices_S6000x4_S6000x1_0_2 (bestOf m c) := by
  simp only [entryContents, afterL_cons, afterL_nil]
  after_reads_simp
  rfl
theorem entry_y2 : (entryContents preI m c (Proc.devRef .tc main_v29_3) : S6000.Idx → EReal) = side 3 slices_S6000x4_S6000x1_0_3 (bestOf m c) := by
  simp only [entryContents, afterL_cons, afterL_nil]
  after_reads_simp
  rfl

/-- An area as the reference computes it. -/
abbrev areaOf (a b d e : FVec Ideal S6000 .f32) : FVec Ideal S6000 .f32 :=
  mulf (addf (subf d a) (broadcastInDim S6000 ![] bcast_S_S6000 (constant (F := Ideal) S_ .f32 0x3F800000#32)))
    (addf (subf e b) (broadcastInDim S6000 ![] bcast_S_S6000 (constant (F := Ideal) S_ .f32 0x3F800000#32)))

theorem areaOf_at (a b d e : FVec Ideal S6000 .f32) (i : Fin 6000) : (areaOf a b d e : S6000.Idx → EReal) (ix1 i)
    = Box.area ⟨(a : S6000.Idx → EReal) (ix1 i), (b : S6000.Idx → EReal) (ix1 i), (d : S6000.Idx → EReal) (ix1 i), (e : S6000.Idx → EReal) (ix1 i)⟩ := by
  unfold areaOf Box.area
  pointwise []

theorem entry_area : (entryContents preI m c (Proc.devRef .tc main_v29_4) : S6000.Idx → EReal)
    = areaOf (side 0 slices_S6000x4_S6000x1_0_0 (bestOf m c)) (side 1 slices_S6000x4_S6000x1_0_1 (bestOf m c))
      (side 2 slices_S6000x4_S6000x1_0_2 (bestOf m c)) (side 3 slices_S6000x4_S6000x1_0_3 (bestOf m c)) := by
  simp only [entryContents, afterL_cons, afterL_nil]
  after_reads_simp
  rfl
theorem entry_number (i : Fin 6000) : (entryContents preI m c (Proc.devRef .tc main_v29_5) : S6000.Idx → BitVec 32) (ix1 i) = BitVec.ofNat 32 i.val := by
  simp only [entryContents, afterL_cons, afterL_nil]
  after_reads_simp
  rfl
theorem entry_count : entryContents preI m c (Proc.devRef .tc main_v29_7) = (fun _ => 0#32 : S_.Idx → BitVec 32) := by
  simp only [entryContents, afterL_cons, afterL_nil]
  after_reads_simp
  rfl
theorem entry_marks : entryContents preI m c (Proc.devRef .tc main_v29_8) = (fun _ => 0#1 : S6000.Idx → BitVec 1) := by
  simp only [entryContents, afterL_cons, afterL_nil]
  after_reads_simp
  rfl

theorem start : Start (entryContents preI m c) (boxesR m c) where
  x1 j := by rw [boxesR_at, entry_x1]; exact (side_at 0 (by omega) _ _ j).trans (bestOf_at m c j 0)
  y1 j := by rw [boxesR_at, entry_y1]; exact (side_at 1 (by omega) _ _ j).trans (bestOf_at m c j 1)
  x2 j := by rw [boxesR_at, entry_x2]; exact (side_at 2 (by omega) _ _ j).trans (bestOf_at m c j 2)
  y2 j := by rw [boxesR_at, entry_y2]; exact (side_at 3 (by omega) _ _ j).trans (bestOf_at m c j 3)
  area j := by
    rw [boxesR_at, entry_area, areaOf_at, side_at 0 (by omega), side_at 1 (by omega), side_at 2 (by omega), side_at 3 (by omega),
      bestOf_at, bestOf_at, bestOf_at, bestOf_at]
    rfl
  number j := entry_number m c j

theorem done_marks (j : Fin 6000) :
    (done m c (Proc.devRef .tc main_v29_8) : S6000.Idx → BitVec 1) (ix1 j) = bit (sup (hit (boxesR m c)) j.val) := by
  rw [show done m c (Proc.devRef .tc main_v29_8) = _ from (cond_keeps (atK m 6000 c) main_v29_8 (by decide)).trans (atK_agree m c 6000 main_v29_8 (by decide))]
  exact marks _ _ (start m c) (entry_count m c) (entry_marks m c) j

/-- The lowered scores of the reference. -/
abbrev lowR : S6000.Idx → EReal := loweredR (done m c (Proc.devRef .tc main_v29_8)) (done m c (Proc.devRef .tc main_values))

theorem lowR_at (i : Fin 6000) : lowR m c (ix1 i)
    = open Classical in if sup (hit (boxesR m c)) i.val then Ideal.ofBits .f32 0xCE6E6B28#32 else scR m c (ix1 (best (scR m c) i.val i.isLt)) := by
  rw [lowR, loweredR_at, done_marks, done_keeps m c main_values (by decide), valsR_at]
  by_cases h : sup (hit (boxesR m c)) i.val
  · rw [if_pos h, if_pos ((bit_eq_one _).2 h)]
  · rw [if_neg h, if_neg (fun h' => h ((bit_eq_one _).1 h'))]

/-- A row of the reference's result. -/
theorem resultR_row (i : Fin 300) (q : Fin 5) :
    (finalContents condOps preI bodyI postI 6000 m c (Proc.devRef .tc main_v39) : S300x5.Idx → EReal) (ix2 i q)
      = rowOf (boxesR m c (nth (lowR m c) i).val).x1 (boxesR m c (nth (lowR m c) i).val).y1
          (boxesR m c (nth (lowR m c) i).val).x2 (boxesR m c (nth (lowR m c) i).val).y2 q := by
  refine (post_at (done m c) i q).trans ?_
  have h : ∀ (n : Fin 6000) (k : Fin 4), (done m c (Proc.devRef .tc main_v11) : S6000x4.Idx → EReal) (ix2 n k)
      = (![gx1R m c (ix1 (best (scR m c) n.val n.isLt)), gy1R m c (ix1 (best (scR m c) n.val n.isLt)),
        gx2R m c (ix1 (best (scR m c) n.val n.isLt)), gy2R m c (ix1 (best (scR m c) n.val n.isLt))] : Fin 4 → EReal) k := fun n k => by
    rw [done_keeps m c main_v11 (by decide), v11_eq]
    exact bestOf_at m c n k
  rw [h, h, h, h, boxesR_at]
  rfl

/-- The arguments. -/
abbrev argsR : List (Ref sig .tc) := [main_arg0, main_arg1, main_arg2, main_arg3, main_arg4]

theorem argsR_still : ∀ b ∈ argsR, b ∈ still := by decide
theorem argsR_off : ∀ b ∈ argsR, b ∉ hostOps0_W := by decide +kernel
theorem argsR_unscoped : ∀ b ∈ argsR, (Proc.devRef .tc b : DevRef τ sig).isScoped = false := by decide

/-- No line after the loop writes an argument. -/
theorem post_keeps (b : Ref sig .tc) (hb : b ∈ argsR) :
    (List.flatten (postI : List (List (HloOp τ sig (Elt Ideal))))).Forall fun op => Proc.devRef .tc b ∉ op.writes := by
  simp only [postI, Gen.hostOps0_1, Gen.hostOps0_2, Gen.hostOps0_3, List.flatten_cons, List.flatten_nil, List.append_nil, List.cons_append,
    List.nil_append, List.Forall, StableHlo.TRef.unary, StableHlo.TRef.ternary, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by revert b; decide)

/-- An argument ends as it was. -/
theorem argR_kept (b : Ref sig .tc) (hb : b ∈ argsR) :
    finalContents condOps preI bodyI postI 6000 m c (Proc.devRef .tc b) = m ((c.tc : Thread nD τ).loc b) := by
  have e : finalContents condOps preI bodyI postI 6000 m c = after (List.flatten postI) (done m c) := by
    simp only [List.flatten_cons, List.flatten_nil, List.append_nil, after_append]
    rfl
  rw [e, after_of_forall_not_mem (b := Proc.devRef .tc b) _ _ (List.forall_iff_forall_mem.mp (post_keeps b hb)), done_keeps m c b (argsR_still b hb)]
  exact after_of_writes_sub Gen.hostOps0 _ hostOps0_writes (argsR_off b hb)

variable (g : Dev nD → PrngReg)

/-- The reference's run: the result's rows, the arguments as they were. -/
theorem runR : θ_run (defs (F := Ideal)) (onTc (τ := τ) (main (F := Ideal))) ⟨m, fun _ => 0, g⟩ (fun r => ∀ c : Dev nD,
    r.2.mem ((c.tc : Thread nD τ).loc main_v39) = finalContents condOps preI bodyI postI 6000 m c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (run_fold m g)
  have key : ∀ b : Ref sig .tc, b ∈ argsR → r.2.mem ((c.tc : Thread nD τ).loc b) = m ((c.tc : Thread nD τ).loc b) := fun b hb =>
    (h c b (argsR_unscoped b hb)).trans (argR_kept m c b hb)
  exact ⟨h c main_v39 (by decide), key _ (by decide), key _ (by decide), key _ (by decide), key _ (by decide), key _ (by decide)⟩

end Cert.Proof.Nms

end

end
-- ==== Proof.Nms.Same.lean ====
/-
  Stopping early loses nothing: the 300 greatest of the scores that the call lowers and of those the reference lowers sit at
  the same places. The reference lowers what is suppressed; the call lowers also every box after the rows it has looked at, and
  it has then kept 300 boxes, none of them of a score below a later one's.
-/
module

public import proofs.«01_k».proof.Proof.Nms.Read
public import proofs.«01_k».proof.Proof.Nms.Value

@[expose] public section

set_option maxRecDepth 16384

noncomputable section

namespace Cert.Proof.Nms

open Cert.SelectIdeal Idealize.ShloMosaic

/-- No box wide and high enough has a score below the one that lowered boxes get. -/
def Scored (v x1 y1 x2 y2 : S63504.Idx → EReal) : Prop :=
  ∀ n : Fin 63504, Box.valid ⟨x1 (ix1 n), y1 (ix1 n), x2 (ix1 n), y2 (ix1 n)⟩ → Ideal.ofBits .f32 0xCE6E6B28#32 ≤ v (ix1 n)

theorem half_lt_one : Ideal.ofBits FTy.f32 0x3F000000#32 < (1 : EReal) := by
  rw [bits_half, show (1 : EReal) = ((1 : ℝ) : EReal) from rfl, EReal.coe_lt_coe_iff]
  norm_num

theorem not_half_lt_zero : ¬ Ideal.ofBits FTy.f32 0x3F000000#32 < (0 : EReal) := by
  rw [bits_half, show (0 : EReal) = ((0 : ℝ) : EReal) from rfl, EReal.coe_lt_coe_iff]
  norm_num

theorem half_lt_ind (P : Prop) : Ideal.ofBits FTy.f32 0x3F000000#32 < ind P ↔ P := by
  by_cases h : P
  · rw [ind_true h]; exact iff_of_true half_lt_one h
  · rw [ind_false h]; exact iff_of_false not_half_lt_zero h

theorem bits_sixteen : Ideal.ofBits FTy.f32 1098907648#32 = ((16 : ℝ) : EReal) := by
  simp [Ideal.ofBits, Ideal.ieee, -EReal.coe_mul]; norm_num
theorem bits_minus_one : Ideal.ofBits FTy.f32 0xBF800000#32 = ((-1 : ℝ) : EReal) := by
  simp [Ideal.ofBits, Ideal.ieee, -EReal.coe_mul]; norm_num

variable (v x1 y1 x2 y2 : S63504.Idx → EReal)

/-- The empty boxes are not wide enough. -/
theorem empty_invalid (n : ℕ) (h : ¬ n < 6000) : ¬ (sorted v x1 y1 x2 y2 n).valid := by
  unfold sorted
  rw [dif_neg h]
  rintro ⟨h1, -⟩
  dsimp only at h1
  rw [bits_sixteen, bits_minus_one, bits_zero, show ((-1 : ℝ) : EReal) - 0 + 1 = ((0 : ℝ) : EReal) by
    rw [show (0 : EReal) = ((0 : ℝ) : EReal) from rfl, show (1 : EReal) = ((1 : ℝ) : EReal) from rfl, ← EReal.coe_sub, ← EReal.coe_add]
    norm_num, EReal.coe_le_coe_iff] at h1
  norm_num at h1

/-- A sum of such numbers counts. -/
theorem sum_ind {α : Type} (s : Finset α) (P : α → Prop) [DecidablePred P] : (∑ i ∈ s, ind (P i)) = (((s.filter P).card : ℝ) : EReal) := by
  induction s using Finset.cons_induction with
  | empty => simp
  | cons a s ha ih =>
    rw [Finset.sum_cons, ih, Finset.filter_cons]
    by_cases h : P a
    · rw [if_pos h, ind_true h, Finset.card_cons]
      push_cast
      rw [add_comm]
    · rw [if_neg h, ind_false h, zero_add]

/-- The boxes kept among the first `n`. -/
def keptBoxes (n : ℕ) : Finset (Fin 6000) :=
  open Classical in Finset.univ.filter fun j => j.val < n ∧ (sorted v x1 y1 x2 y2 j.val).valid ∧ ¬ sup (hit (sorted v x1 y1 x2 y2)) j.val

theorem keptBoxes_card (n : ℕ) (h : ((300 : ℝ) : EReal) ≤ kept (sorted v x1 y1 x2 y2) n) : 300 ≤ (keptBoxes v x1 y1 x2 y2 n).card := by
  classical
  unfold kept at h
  rw [sum_ind, EReal.coe_le_coe_iff] at h
  have h' : 300 ≤ ((Finset.range n).filter fun i => (sorted v x1 y1 x2 y2 i).valid ∧ ¬ sup (hit (sorted v x1 y1 x2 y2)) i).card := by exact_mod_cast h
  refine h'.trans ?_
  rw [← Finset.card_map Fin.valEmbedding (s := keptBoxes v x1 y1 x2 y2 n)]
  refine Finset.card_le_card fun i hi => ?_
  rw [Finset.mem_filter, Finset.mem_range] at hi
  have hlt : i < 6000 := by
    by_contra hc
    exact empty_invalid v x1 y1 x2 y2 i hc hi.2.1
  rw [Finset.mem_map]
  refine ⟨⟨i, hlt⟩, ?_, rfl⟩
  unfold keptBoxes
  rw [Finset.mem_filter]
  exact ⟨Finset.mem_univ _, hi⟩

/-- The scores descend. -/
theorem best_desc (i j : Fin 6000) (h : i < j) : v (ix1 (best v j.val j.isLt)) ≤ v (ix1 (best v i.val i.isLt)) := by
  rcases sortedFrom_ahead (fun a : Fin 63504 => v (ix1 a)) (greater v) (greater_iff v) ⟨i.val, by omega⟩ ⟨j.val, by omega⟩ h with h' | h'
  · exact le_of_lt h'
  · exact le_of_eq h'.1.symm

/-- What is not below and comes earlier is ahead. -/
theorem ahead_of_le {n : ℕ} (w : Fin n → EReal) (a b : Fin n) (hle : w b ≤ w a) (hlt : a < b) : ahead w a b := by
  rcases lt_or_eq_of_le hle with h | h
  · exact .inl h
  · exact .inr ⟨h.symm, hlt⟩

theorem same_places (su : Vec Ideal S48x128 .f32) (hL : Left su (sorted v x1 y1 x2 y2)) (hs : Scored v x1 y1 x2 y2)
    (lk lr : S6000.Idx → EReal)
    (hk : ∀ (i : Fin 6000) (r : ℕ) (hr : r < 48) (j : Fin 128), i.val = 128 * r + j.val →
      lk (ix1 i) = if Ideal.ofBits .f32 0x3F000000#32 < su (at48 r hr j) then Ideal.ofBits .f32 0xCE6E6B28#32 else v (ix1 (best v i.val i.isLt)))
    (hl : ∀ i : Fin 6000, lr (ix1 i)
      = open Classical in if sup (hit (sorted v x1 y1 x2 y2)) i.val then Ideal.ofBits .f32 0xCE6E6B28#32 else v (ix1 (best v i.val i.isLt)))
    (i : Fin 300) : nth lk i = nth lr i := by
  obtain ⟨K, -, hlow, hhigh, hstop⟩ := hL
  have eLow : ∀ a : Fin 6000, a.val < 128 * K → lk (ix1 a) = lr (ix1 a) := fun a ha => by
    have hr : a.val / 128 < K := by omega
    have hr48 : a.val / 128 < 48 := by omega
    rw [hk a (a.val / 128) hr48 ⟨a.val % 128, Nat.mod_lt _ (by omega)⟩ (by dsimp only; omega), hlow _ hr48 hr, hl a,
      show 128 * (a.val / 128) + a.val % 128 = a.val by omega]
    by_cases h : sup (hit (sorted v x1 y1 x2 y2)) a.val
    · rw [if_pos h, if_pos ((half_lt_ind _).2 h)]
    · rw [if_neg h, if_neg (fun h' => h ((half_lt_ind _).1 h'))]
  have eHigh : ∀ a : Fin 6000, ¬ a.val < 128 * K → lk (ix1 a) = Ideal.ofBits .f32 0xCE6E6B28#32 := fun a ha => by
    have hr48 : a.val / 128 < 48 := by omega
    rw [hk a (a.val / 128) hr48 ⟨a.val % 128, Nat.mod_lt _ (by omega)⟩ (by dsimp only; omega), hhigh _ hr48 (by omega), if_pos half_lt_one]
  rcases hstop with hK | h300
  · have e : lk = lr := funext fun a => by
      rw [eq_ix1 a]
      exact eLow (a 0) (by have := (a 0).isLt; change _ < 6000 at this; omega)
    rw [e]
  · have hcard := keptBoxes_card v x1 y1 x2 y2 (128 * K) h300
    have hG : ∀ g ∈ keptBoxes v x1 y1 x2 y2 (128 * K), g.val < 128 * K ∧ lr (ix1 g) = v (ix1 (best v g.val g.isLt))
        ∧ Ideal.ofBits .f32 0xCE6E6B28#32 ≤ v (ix1 (best v g.val g.isLt)) := fun g hg => by
      classical
      obtain ⟨-, h1, h2, h3⟩ := Finset.mem_filter.1 hg
      refine ⟨h1, by rw [hl g, if_neg h3], hs _ ?_⟩
      unfold sorted at h2
      rw [dif_pos g.isLt] at h2
      exact h2
    have hk' : ∀ g ∈ keptBoxes v x1 y1 x2 y2 (128 * K), ∀ j : Fin 6000, ¬ j.val < 128 * K → ahead (fun a : Fin 6000 => lk (ix1 a)) g j := fun g hg j hj => by
      obtain ⟨h1, h2, h3⟩ := hG g hg
      refine ahead_of_le _ _ _ ?_ (Fin.lt_def.2 (by omega))
      show lk (ix1 j) ≤ lk (ix1 g)
      rw [eHigh j hj, eLow g h1, h2]
      exact h3
    have hl' : ∀ g ∈ keptBoxes v x1 y1 x2 y2 (128 * K), ∀ j : Fin 6000, ¬ j.val < 128 * K → ahead (fun a : Fin 6000 => lr (ix1 a)) g j := fun g hg j hj => by
      obtain ⟨h1, h2, h3⟩ := hG g hg
      have hgj : g < j := Fin.lt_def.2 (by omega)
      refine ahead_of_le _ _ _ ?_ hgj
      show lr (ix1 j) ≤ lr (ix1 g)
      rw [h2, hl j]
      by_cases h : sup (hit (sorted v x1 y1 x2 y2)) j.val
      · rw [if_pos h]; exact h3
      · rw [if_neg h]; exact best_desc v g j hgj
    have hi : i.val < (keptBoxes v x1 y1 x2 y2 (128 * K)).card := lt_of_lt_of_le i.isLt hcard
    have hlt : i.val < 6000 := by omega
    have key := sortedFrom_top (n := 6000) (fun a => lk (ix1 a)) (fun a => lr (ix1 a)) (greater (N := 6000) lk) (greater (N := 6000) lr)
      (greater_iff (N := 6000) lk) (greater_iff (N := 6000) lr)
      (fun a => a.val < 128 * K) eLow _ (fun g hg => (hG g hg).1) hk' hl'
    exact key ⟨i.val, hlt⟩ hi

end Cert.Proof.Nms

end

end
-- ==== Proof.Nms.Claims.lean ====
/-
  The claims of the second call: the frames of its program, of the idealization and of the reference, and that the two compute the same.
-/
module

public import proofs.«01_k».proof.Defs
public import proofs.«01_k».proof.Proof.Claims
public import proofs.«01_k».proof.Proof.Gen.Pre_scored
public import proofs.«01_k».proof.Proof.Nms.Entry
public import proofs.«01_k».proof.Proof.Nms.Same
public import proofs.«01_k».proof.Proof.NmsWords.Run

@[expose] public section

set_option maxRecDepth 16384

noncomputable section

namespace Cert.Proof.Nms

open Idealize.ShloMosaic Idealize.ShloMosaic.TcCoe Idealize.SL.Sem

/-- The precondition, read at a box. -/
theorem scored_of (v x1 y1 x2 y2 : FVec Ideal Cert.Pre_scored.S63504 .f32)
    (h : Cert.Pre_scored.fn (F := Ideal) v x1 y1 x2 y2 = fun _ => 1#1) : Scored v x1 y1 x2 y2 := by
  intro n hn
  have k : Cert.Pre_scored.fn (F := Ideal) v x1 y1 x2 y2 (ix1 n)
      = if (BitVec.ofBool (decide (Ideal.ofBits .f32 1098907648#32 ≤ (x2 : Cert.Pre_scored.S63504.Idx → EReal) (ix1 n) - (x1 : Cert.Pre_scored.S63504.Idx → EReal) (ix1 n) + 1))
          &&& BitVec.ofBool (decide (Ideal.ofBits .f32 1098907648#32 ≤ (y2 : Cert.Pre_scored.S63504.Idx → EReal) (ix1 n) - (y1 : Cert.Pre_scored.S63504.Idx → EReal) (ix1 n) + 1))) = 1#1
        then BitVec.ofBool (decide (Ideal.ofBits .f32 0xCE6E6B28#32 ≤ (v : Cert.Pre_scored.S63504.Idx → EReal) (ix1 n))) else 1#1 := by
    unfold Cert.Pre_scored.fn Cert.Pre_scored.fn_where
    pointwise []
    rfl
  rw [h, decide_eq_true hn.1, decide_eq_true hn.2, if_pos (by decide)] at k
  exact Cert.Proposal.eq_of_bit k.symm

/-- The frame of the program. -/
theorem frame_words : Cert.quiescent_Select := fun m g _ => Cert.Proof.NmsWords.frame m g

/-- The frame of the idealization. -/
theorem frame_ideal : Cert.quiescent_SelectIdeal := fun m g _ => frame m g

/-- The frame of the reference. -/
theorem frame_ref : Cert.quiescent_SelectReferenceIdeal := by
  intro m g _
  refine (θ_run Cert.SelectReferenceIdeal.defs _ _).mono (fun r h => ⟨fun c => ?_, sem_eq_zero_of_no_sems (by decide) r.2⟩) (runR m g)
  exact (h c).2

section
variable (m : (ℓ : Loc Cert.SelectIdeal.nD Cert.SelectIdeal.τ Cert.SelectIdeal.sig) → Buf (Elt Ideal) ℓ) (c : Dev Cert.SelectIdeal.nD)

/-- What the program ends with. -/
abbrev endK : Cert.SelectIdeal.S300x5.Idx → EReal :=
  Pipeline.afterTail₀ (Cert.SelectIdeal.cfgs (F := Ideal)) (dats m) 0 (V0 m) tail c Cert.SelectIdeal.main_v80

/-- The program's run: the result's array, the arguments as they were. -/
theorem runK (g : Dev Cert.SelectIdeal.nD → PrngReg) :
    θ_run (Cert.SelectIdeal.defs (F := Ideal)) (onTc (τ := Cert.SelectIdeal.τ) (Cert.SelectIdeal.main (F := Ideal))) ⟨m, fun _ => 0, g⟩ (fun r => ∀ c : Dev Cert.SelectIdeal.nD,
      r.2.mem ((c.tc : Thread Cert.SelectIdeal.nD Cert.SelectIdeal.τ).loc Cert.SelectIdeal.main_v80) = endK m c
      ∧ r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0)
      ∧ r.2.mem ((c.tc : Thread Cert.SelectIdeal.nD Cert.SelectIdeal.τ).loc Cert.SelectIdeal.main_arg1) = m ((c.tc : Thread Cert.SelectIdeal.nD Cert.SelectIdeal.τ).loc Cert.SelectIdeal.main_arg1)
      ∧ r.2.mem ((c.tc : Thread Cert.SelectIdeal.nD Cert.SelectIdeal.τ).loc Cert.SelectIdeal.main_arg2) = m ((c.tc : Thread Cert.SelectIdeal.nD Cert.SelectIdeal.τ).loc Cert.SelectIdeal.main_arg2)
      ∧ r.2.mem ((c.tc : Thread Cert.SelectIdeal.nD Cert.SelectIdeal.τ).loc Cert.SelectIdeal.main_arg3) = m ((c.tc : Thread Cert.SelectIdeal.nD Cert.SelectIdeal.τ).loc Cert.SelectIdeal.main_arg3)
      ∧ r.2.mem ((c.tc : Thread Cert.SelectIdeal.nD Cert.SelectIdeal.τ).loc Cert.SelectIdeal.main_arg4) = m ((c.tc : Thread Cert.SelectIdeal.nD Cert.SelectIdeal.τ).loc Cert.SelectIdeal.main_arg4)) := by
  refine (θ_run Cert.SelectIdeal.defs _ _).mono (fun r h c => ⟨?_, h.2 c⟩) (θ_run_and (run_quiescent m g) (unchanged m g))
  exact (h.1.1 c).2 Cert.SelectIdeal.main_v80 (Pipeline.mem_restRefs_of _ (by decide) (by decide))

/-- Which boxes the program returns: those at the same places as the reference's. -/
theorem places (hs : Scored (sc m c) (gx1 m c) (gy1 m c) (gx2 m c) (gy2 m c)) (lr : Cert.SelectIdeal.S6000.Idx → EReal)
    (hl : ∀ i : Fin 6000, lr (ix1 i) = open Classical in if sup (hit (sorted (sc m c) (gx1 m c) (gy1 m c) (gx2 m c) (gy2 m c))) i.val
      then Ideal.ofBits .f32 0xCE6E6B28#32 else sc m c (ix1 (best (sc m c) i.val i.isLt))) (i : Fin 300) :
    nth (lowK m c) i = nth lr i :=
  same_places _ _ _ _ _ (out m c) (result_at (inX1 m c) (inY1 m c) (inX2 m c) (inY2 m c) _ (feed m c) _) hs (lowK m c) lr
    (fun i r hr j h => by
      have e := lowered_at (out m c) (V m c Cert.SelectIdeal.main_values) i r hr j h
      rw [vals_at m c i] at e
      exact e) hl i

end

/-- Tables of five columns with equal entries are equal. -/
theorem table_ext {f g : Cert.SelectIdeal.S300x5.Idx → EReal} (h : ∀ (i : Fin 300) (q : Fin 5), f (ix2 i q) = g (ix2 i q)) : f = g := by
  funext k
  rw [eq_ix2 k]
  exact h (k 0) (k 1)

/-- Program and reference end holding the same result. -/
theorem algebraic : Cert.algebraic_SelectIdeal_SelectReferenceIdeal_pre_scored := by
  intro m g m' g' hpre hagree
  refine ⟨fun c => endK m c, runK m g, (θ_run Cert.SelectReferenceIdeal.defs _ _).mono (fun r h c => ⟨(h c).1.trans ?_, (h c).2⟩) (runR m' g')⟩
  obtain ⟨h0, h1, h2, h3, h4⟩ := hagree c
  refine table_ext fun i q => ?_
  have hb : boxesR m' c = sorted (sc m c) (gx1 m c) (gy1 m c) (gx2 m c) (gy2 m c) := by
    unfold boxesR scR gx1R gy1R gx2R gy2R
    rw [h0, h1, h2, h3, h4]
  have hp : nth (lowK m c) i = nth (lowR m' c) i := places m c (scored_of _ _ _ _ _ (hpre c)) (lowR m' c) (fun n => by
    have e := lowR_at m' c n
    rw [hb] at e
    refine e.trans ?_
    unfold scR
    rw [h0]) i
  refine (resultR_row m' c i q).trans (Eq.trans ?_ (result_row m c i q).symm)
  rw [hb, hp]

end Cert.Proof.Nms

end

end
-- ==== Proof.lean ====
module

public import proofs.«01_k».proof.Defs
public import proofs.«01_k».proof.Proof.Claims
public import proofs.«01_k».proof.Proof.Nms.Claims
public import proofs.«01_k».proof.Proof.Gen.Select
public import proofs.«01_k».proof.Proof.Gen.Select.Skeleton
public import proofs.«01_k».proof.Proof.Gen.Select.Launch
public import proofs.«01_k».proof.Proof.Gen.Select.Points
public import proofs.«01_k».proof.Proof.Gen.SelectIdeal
public import proofs.«01_k».proof.Proof.Gen.SelectIdeal.Skeleton
public import proofs.«01_k».proof.Proof.Gen.SelectIdeal.Launch
public import proofs.«01_k».proof.Proof.Gen.SelectIdeal.Points
public import proofs.«01_k».proof.Proof.Gen.SelectReferenceIdeal
public import proofs.«01_k».proof.Proof.Gen.SelectReferenceIdeal.Run
public import proofs.«01_k».proof.Proof.Gen.Pre_scored
public import Idealize.ShloMosaic.Adequacy
public import Idealize.ShloMosaic.Init

@[expose] public section

noncomputable section

namespace Cert.Proof

open Idealize.ShloMosaic Idealize.SL.Sem

/-- The five claims of the first call, and the five of the second. -/
theorem claim : Cert.Claim := ⟨Cert.Kernel.Gen.facts, Cert.KernelIdeal.Gen.facts, Cert.ReferenceIdeal.Gen.facts,
  Cert.Select.Gen.facts, Cert.SelectIdeal.Gen.facts, Cert.SelectReferenceIdeal.Gen.facts, Cert.Pre_setup_image.Gen.facts, Cert.Pre_scored.Gen.facts,
  fun m g _ => Cert.Kernel.Gen.frame m g, fun m g _ => Cert.KernelIdeal.Gen.frame m g, fun m g _ => Cert.KernelIdeal.Gen.frame m g,
  Cert.Proposal.frame_ref, fun m g _ => Cert.Proposal.frame_ref m g trivial,
  Cert.Proof.Nms.frame_words, Cert.Proof.Nms.frame_ideal, fun m g _ => Cert.Proof.Nms.frame_ideal m g trivial,
  Cert.Proof.Nms.frame_ref, fun m g _ => Cert.Proof.Nms.frame_ref m g trivial,
  trivial, Cert.Proposal.algebraic, trivial, Cert.Proof.Nms.algebraic⟩

end Cert.Proof

end
